-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ExcessIdeal (m : (ℓ : Loc Cert.ExcessIdeal.nD Cert.ExcessIdeal.τ Cert.ExcessIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ExcessIdeal [hExcessIdeal : Cert.ExcessIdeal.Facts] : Prop :=
  ∀ (m : (ℓ : Loc Cert.ExcessIdeal.nD Cert.ExcessIdeal.τ Cert.ExcessIdeal.sig) → Buf (Elt Ideal) ℓ) (g : Dev Cert.ExcessIdeal.nD → PrngReg), Pre_ExcessIdeal m →
    θ_run (Cert.ExcessIdeal.defs (F := Ideal)) (onTc (τ := Cert.ExcessIdeal.τ) (Cert.ExcessIdeal.main (F := Ideal))) ⟨m, fun _ => 0, g⟩ (fun r => (∀ c : Dev Cert.ExcessIdeal.nD,
      r.2.mem ((c.tc : Thread Cert.ExcessIdeal.nD Cert.ExcessIdeal.τ).loc Cert.ExcessIdeal.main_arg0) = m ((c.tc : Thread Cert.ExcessIdeal.nD Cert.ExcessIdeal.τ).loc Cert.ExcessIdeal.main_arg0)
      ∧ r.2.mem ((c.tc : Thread Cert.ExcessIdeal.nD Cert.ExcessIdeal.τ).loc Cert.ExcessIdeal.main_arg1) = m ((c.tc : Thread Cert.ExcessIdeal.nD Cert.ExcessIdeal.τ).loc Cert.ExcessIdeal.main_arg1))
      ∧ r.2.sem = fun _ => 0)

def preserves_Kernel_KernelIdeal : Prop :=
  IdealRules.named_const.Statement Cert.KernelIdeal.κ "inv_k" .f32 0x3BAAAAAB#32 ((192⁻¹ : ℝ) : EReal)

def algebraic_KernelIdeal_ReferenceIdeal_on_threshold_in_gap [hKernelIdeal : Cert.KernelIdeal.Facts] [hReferenceIdeal : Cert.ReferenceIdeal.Facts] [hOn_threshold_in_gap : Cert.On_threshold_in_gap.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          (∀ i : (⟨3, ![32, 24, 24]⟩ : Shape).Idx, (Cert.On_threshold_in_gap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v8) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![32, 24, 24]⟩ : Shape).Idx, (Cert.On_threshold_in_gap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v35) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ExcessIdeal_on_finite [hKernelIdeal : Cert.KernelIdeal.Facts] [hExcessIdeal : Cert.ExcessIdeal.Facts] [hOn_finite : Cert.On_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ExcessIdeal.nD Cert.ExcessIdeal.τ Cert.ExcessIdeal.sig) → Buf (Elt Ideal) ℓ) (g' : Dev Cert.ExcessIdeal.nD → PrngReg), Pre_KernelIdeal m →
    (∀ c : Dev Cert.KernelIdeal.nD,
      m' ((c.tc : Thread Cert.ExcessIdeal.nD Cert.ExcessIdeal.τ).loc Cert.ExcessIdeal.main_arg0) = m ((c.tc : Thread Cert.KernelIdeal.nD Cert.KernelIdeal.τ).loc Cert.KernelIdeal.main_arg0)
      ∧ m' ((c.tc : Thread Cert.ExcessIdeal.nD Cert.ExcessIdeal.τ).loc Cert.ExcessIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          (∀ i : (⟨3, ![32, 24, 24]⟩ : Shape).Idx, (Cert.On_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v8) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ExcessIdeal.defs (F := Ideal)) (onTc (τ := Cert.ExcessIdeal.τ) (Cert.ExcessIdeal.main (F := Ideal))) ⟨m', fun _ => 0, g'⟩ (fun r => ∀ c : Dev Cert.ExcessIdeal.nD,
          (∀ i : (⟨3, ![32, 24, 24]⟩ : Shape).Idx, (Cert.On_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ExcessIdeal.nD Cert.ExcessIdeal.τ).loc Cert.ExcessIdeal.main_v89) i = v0 c i)
          ∧ r.2.mem ((c.tc : Thread Cert.ExcessIdeal.nD Cert.ExcessIdeal.τ).loc Cert.ExcessIdeal.main_arg0) = m' ((c.tc : Thread Cert.ExcessIdeal.nD Cert.ExcessIdeal.τ).loc Cert.ExcessIdeal.main_arg0)
          ∧ r.2.mem ((c.tc : Thread Cert.ExcessIdeal.nD Cert.ExcessIdeal.τ).loc Cert.ExcessIdeal.main_arg1) = m' ((c.tc : Thread Cert.ExcessIdeal.nD Cert.ExcessIdeal.τ).loc Cert.ExcessIdeal.main_arg1))

def holds_KernelIdeal_within_one_step [hKernelIdeal : Cert.KernelIdeal.Facts] [hPost_within_one_step : Cert.Post_within_one_step.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_within_one_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v8))) = (fun _ => 1#1))

def Claim : Prop :=
  ∃ (hKernel : Cert.Kernel.Facts) (hKernelIdeal : Cert.KernelIdeal.Facts) (hReferenceIdeal : Cert.ReferenceIdeal.Facts) (hExcessIdeal : Cert.ExcessIdeal.Facts) (hPost_within_one_step : Cert.Post_within_one_step.Facts) (hOn_threshold_in_gap : Cert.On_threshold_in_gap.Facts) (hOn_finite : Cert.On_finite.Facts),
    quiescent_Kernel (hKernel := hKernel)
    ∧ quiescent_KernelIdeal (hKernelIdeal := hKernelIdeal)
    ∧ quiescent_ReferenceIdeal (hReferenceIdeal := hReferenceIdeal)
    ∧ quiescent_ExcessIdeal (hExcessIdeal := hExcessIdeal)
    ∧ preserves_Kernel_KernelIdeal
    ∧ algebraic_KernelIdeal_ReferenceIdeal_on_threshold_in_gap (hKernelIdeal := hKernelIdeal) (hReferenceIdeal := hReferenceIdeal) (hOn_threshold_in_gap := hOn_threshold_in_gap)
    ∧ algebraic_KernelIdeal_ExcessIdeal_on_finite (hKernelIdeal := hKernelIdeal) (hExcessIdeal := hExcessIdeal) (hOn_finite := hOn_finite)
    ∧ holds_KernelIdeal_within_one_step (hKernelIdeal := hKernelIdeal) (hPost_within_one_step := hPost_within_one_step)
-- ==== On_finite.lean ====
abbrev S32x384x24x24 : Shape := ⟨4, ![32, 384, 24, 24]⟩
abbrev S3 : Shape := ⟨1, ![3]⟩
abbrev S_ : Shape := ⟨0, ![]⟩
abbrev S32x384 : Shape := ⟨2, ![32, 384]⟩
abbrev S32x386 : Shape := ⟨2, ![32, 386]⟩
abbrev S1 : Shape := ⟨1, ![1]⟩
abbrev S32x384x1x1 : Shape := ⟨4, ![32, 384, 1, 1]⟩
abbrev S32x1x24x24 : Shape := ⟨4, ![32, 1, 24, 24]⟩
abbrev S32x24x24 : Shape := ⟨3, ![32, 24, 24]⟩
abbrev S32 : Shape := ⟨1, ![32]⟩
abbrev S32x1x1 : Shape := ⟨3, ![32, 1, 1]⟩

class Facts : Prop where
  reducesTo_S32x384x24x24_S32x384_d2_3 : S32x384x24x24.ReducesTo [2, 3] S32x384
  h_S_ : 0 < S_.numel
  bcast_S_S32x384 : S_.BroadcastsInDim S32x384 (![] : Fin 0 → Fin S32x384.rank)
  pads_S32x384_S32x386_000_110 : S32x384.Pads (![0, 1] : Fin 2 → Nat) ![0, 1] ![0, 0] S32x386
  slices_S32x386_S32x384_0_0 : S32x386.Slices ![0, 0] S32x384
  slices_S3_S1_0 : S3.Slices ![0] S1
  shapeCasts_S1_S_ : S1.ShapeCasts S_
  slices_S32x386_S32x384_0_1 : S32x386.Slices ![0, 1] S32x384
  slices_S3_S1_1 : S3.Slices ![1] S1
  slices_S32x386_S32x384_0_2 : S32x386.Slices ![0, 2] S32x384
  slices_S3_S1_2 : S3.Slices ![2] S1
  bcast_S32x384_S32x384x1x1_0_1 : S32x384.BroadcastsInDim S32x384x1x1 (![0, 1] : Fin 2 → Fin S32x384x1x1.rank)
  bcast_S32x384x1x1_S32x384x24x24_0_1_2_3 : S32x384x1x1.BroadcastsInDim S32x384x24x24 (![0, 1, 2, 3] : Fin 4 → Fin S32x384x24x24.rank)
  slices_S32x384x24x24_S32x1x24x24_0_0_0_0 : S32x384x24x24.Slices ![0, 0, 0, 0] S32x1x24x24
  shapeCasts_S32x1x24x24_S32x24x24 : S32x1x24x24.ShapeCasts S32x24x24
  slices_S32x384x24x24_S32x1x24x24_0_383_0_0 : S32x384x24x24.Slices ![0, 383, 0, 0] S32x1x24x24
  bcast_S_S32x24x24 : S_.BroadcastsInDim S32x24x24 (![] : Fin 0 → Fin S32x24x24.rank)
  bcast_S_S32 : S_.BroadcastsInDim S32 (![] : Fin 0 → Fin S32.rank)
  bcast_S32_S32x1x1_0 : S32.BroadcastsInDim S32x1x1 (![0] : Fin 1 → Fin S32x1x1.rank)
  bcast_S32x1x1_S32x24x24_0_1_2 : S32x1x1.BroadcastsInDim S32x24x24 (![0, 1, 2] : Fin 3 → Fin S32x24x24.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_pad {F : FTy → Type} [FloatOps F] (arg0 : FVec F S32x384 .f32) (arg1 : IVec S_ 32) : FVec F S32x386 .f32 :=
  let v0 : FVec F S_ .f32 := sitofp .f32 arg1
  let v1 : FVec F S32x386 .f32 := (fun x v => pad S32x386 ![0, 1] ![0, 1] ![0, 0] x v pads_S32x384_S32x386_000_110 h_S_) arg0 v0
  v1

def fn_sort {F : FTy → Type} [FloatOps F] (arg0 : FVec F S32x384x24x24 .f32) : FVec F S32x384x24x24 .f32 :=
  let v0 : FVec F S32x384x24x24 .f32 := (fun x => Host.sort S32x384x24x24 1 comparator_f32_d1 x) arg0
  v0

def fn_flip {F : FTy → Type} [FloatOps F] (arg0 : FVec F S32x384x24x24 .f32) : FVec F S32x384x24x24 .f32 :=
  let v0 : FVec F S32x384x24x24 .f32 := Host.reverse [1] arg0
  v0

def fn_where {F : FTy → Type} [FloatOps F] (arg0 : IVec S32 1) (arg1 : FVec F S_ .f32) (arg2 : FVec F S_ .f32) : FVec F S32 .f32 :=
  let v0 : FVec F S32 .f32 := broadcastInDim S32 ![] bcast_S_S32 arg1
  let v1 : FVec F S32 .f32 := broadcastInDim S32 ![] bcast_S_S32 arg2
  let v2 : FVec F S32 .f32 := select arg0 v0 v1
  v2

def fn_part3 {F : FTy → Type} [FloatOps F] (main_v51 : FVec F S32 .f32) (main_v56 : IVec S32x24x24 1) (main_v57 : FVec F S32x24x24 .f32) : IVec S32x24x24 1 :=
  let main_v58 : FVec F S32x1x1 .f32 := broadcastInDim S32x1x1 ![0] bcast_S32_S32x1x1_0 main_v51
  let main_v59 : FVec F S32x1x1 .f32 := id main_v58
  let main_v60 : FVec F S32x24x24 .f32 := broadcastInDim S32x24x24 ![0, 1, 2] bcast_S32x1x1_S32x24x24_0_1_2 main_v59
  let main_v61 : FVec F S32x24x24 .f32 := Host.divf main_v57 main_v60
  main_v56

def fn_part2 {F : FTy → Type} [FloatOps F] (main_v33 : FVec F S32x24x24 .f32) (main_v35 : FVec F S32x24x24 .f32) (main_v40 : FVec F S32x24x24 .f32) : IVec S32x24x24 1 :=
  let main_v41 : FVec F S32x24x24 .f32 := subf main_v35 main_v40
  let main_v42 : FVec F S32x24x24 .f32 := Host.absf main_v33
  let main_cst_5 : FVec F S_ .f32 := constant S_ .f32 0x3C23D70A#32
  let main_v43 : FVec F S32x24x24 .f32 := broadcastInDim S32x24x24 ![] bcast_S_S32x24x24 main_cst_5
  let main_v44 : FVec F S32x24x24 .f32 := mulf main_v42 main_v43
  let main_cst_6 : FVec F S_ .f32 := constant S_ .f32 0x0DA24260#32
  let main_v45 : FVec F S32x24x24 .f32 := broadcastInDim S32x24x24 ![] bcast_S_S32x24x24 main_cst_6
  let main_v46 : FVec F S32x24x24 .f32 := addf main_v44 main_v45
  let main_v47 : FVec F S32x24x24 .f32 := addf main_v33 main_v46
  let main_v48 : IVec S32 32 := iotaInDim S32 32 0
  let main_c_7 : IVec S_ 32 := constantI S_ 32 10#32
  let main_v49 : IVec S32 32 := broadcastInDim S32 ![] bcast_S_S32 main_c_7
  let main_v50 : IVec S32 1 := cmpi .slt main_v48 main_v49
  let main_cst_8 : FVec F S_ .f32 := constant S_ .f32 0x42800000#32
  let main_cst_9 : FVec F S_ .f32 := constant S_ .f32 0x43000000#32
  let main_v51 : FVec F S32 .f32 := fn_where (F := F) main_v50 main_cst_8 main_cst_9
  let main_cst_10 : FVec F S_ .f32 := constant S_ .f32 0xFF800000#32
  let main_v52 : FVec F S32x24x24 .f32 := broadcastInDim S32x24x24 ![] bcast_S_S32x24x24 main_cst_10
  let main_v53 : IVec S32x24x24 1 := cmpf .ogt main_v35 main_v52
  let main_cst_11 : FVec F S_ .f32 := constant S_ .f32 0x7F800000#32
  let main_v54 : FVec F S32x24x24 .f32 := broadcastInDim S32x24x24 ![] bcast_S_S32x24x24 main_cst_11
  let main_v55 : IVec S32x24x24 1 := cmpf .olt main_v33 main_v54
  let main_v56 : IVec S32x24x24 1 := andi main_v53 main_v55
  let main_v57 : FVec F S32x24x24 .f32 := subf main_v47 main_v41
  fn_part3 (F := F) main_v51 main_v56 main_v57

def fn_part1 {F : FTy → Type} [FloatOps F] (main_arg0 : FVec F S32x384x24x24 .f32) (main_v20 : FVec F S32x384 .f32) : IVec S32x24x24 1 :=
  let main_v21 : FVec F S32x384 .f32 := Host.negf main_v20
  let main_v22 : FVec F S32x384 .f32 := Host.exp main_v21
  let main_cst_1 : FVec F S_ .f32 := constant S_ .f32 0x3F800000#32
  let main_v23 : FVec F S32x384 .f32 := broadcastInDim S32x384 ![] bcast_S_S32x384 main_cst_1
  let main_v24 : FVec F S32x384 .f32 := addf main_v23 main_v22
  let main_cst_2 : FVec F S_ .f32 := constant S_ .f32 0x3F800000#32
  let main_v25 : FVec F S32x384 .f32 := broadcastInDim S32x384 ![] bcast_S_S32x384 main_cst_2
  let main_v26 : FVec F S32x384 .f32 := Host.divf main_v25 main_v24
  let main_v27 : FVec F S32x384x1x1 .f32 := broadcastInDim S32x384x1x1 ![0, 1] bcast_S32x384_S32x384x1x1_0_1 main_v26
  let main_v28 : FVec F S32x384x24x24 .f32 := broadcastInDim S32x384x24x24 ![0, 1, 2, 3] bcast_S32x384x1x1_S32x384x24x24_0_1_2_3 main_v27
  let main_v29 : FVec F S32x384x24x24 .f32 := mulf main_arg0 main_v28
  let main_v30 : FVec F S32x384x24x24 .f32 := fn_sort (F := F) main_v29
  let main_v31 : FVec F S32x384x24x24 .f32 := fn_flip (F := F) main_v30
  let main_v32 : FVec F S32x1x24x24 .f32 := (extractStridedSlice S32x1x24x24 ![0, 0, 0, 0] · slices_S32x384x24x24_S32x1x24x24_0_0_0_0) main_v31
  let main_v33 : FVec F S32x24x24 .f32 := shapeCast S32x24x24 main_v32 shapeCasts_S32x1x24x24_S32x24x24
  let main_v34 : FVec F S32x1x24x24 .f32 := (extractStridedSlice S32x1x24x24 ![0, 383, 0, 0] · slices_S32x384x24x24_S32x1x24x24_0_383_0_0) main_v31
  let main_v35 : FVec F S32x24x24 .f32 := shapeCast S32x24x24 main_v34 shapeCasts_S32x1x24x24_S32x24x24
  let main_v36 : FVec F S32x24x24 .f32 := Host.absf main_v35
  let main_cst_3 : FVec F S_ .f32 := constant S_ .f32 0x3C23D70A#32
  let main_v37 : FVec F S32x24x24 .f32 := broadcastInDim S32x24x24 ![] bcast_S_S32x24x24 main_cst_3
  let main_v38 : FVec F S32x24x24 .f32 := mulf main_v36 main_v37
  let main_cst_4 : FVec F S_ .f32 := constant S_ .f32 0x0DA24260#32
  let main_v39 : FVec F S32x24x24 .f32 := broadcastInDim S32x24x24 ![] bcast_S_S32x24x24 main_cst_4
  let main_v40 : FVec F S32x24x24 .f32 := addf main_v38 main_v39
  fn_part2 (F := F) main_v33 main_v35 main_v40

def fn {F : FTy → Type} [FloatOps F] (main_arg0 : FVec F S32x384x24x24 .f32) (main_arg1 : FVec F S3 .f32) : IVec S32x24x24 1 :=
  let main_cst : FVec F S_ .f32 := constant S_ .f32 0x00000000#32
  let main_v0 : FVec F S32x384 .f32 := (fun x v => Host.reduceAdd x v reducesTo_S32x384x24x24_S32x384_d2_3 h_S_) main_arg0 main_cst
  let main_cst_0 : FVec F S_ .f32 := constant S_ .f32 0x44100000#32
  let main_v1 : FVec F S32x384 .f32 := broadcastInDim S32x384 ![] bcast_S_S32x384 main_cst_0
  let main_v2 : FVec F S32x384 .f32 := Host.divf main_v0 main_v1
  let main_c : IVec S_ 32 := constantI S_ 32 0#32
  let main_v3 : FVec F S32x386 .f32 := fn_pad (F := F) main_v2 main_c
  let main_v4 : FVec F S32x384 .f32 := (extractStridedSlice S32x384 ![0, 0] · slices_S32x386_S32x384_0_0) main_v3
  let main_v5 : FVec F S1 .f32 := (extractStridedSlice S1 ![0] · slices_S3_S1_0) main_arg1
  let main_v6 : FVec F S_ .f32 := shapeCast S_ main_v5 shapeCasts_S1_S_
  let main_v7 : FVec F S32x384 .f32 := broadcastInDim S32x384 ![] bcast_S_S32x384 main_v6
  let main_v8 : FVec F S32x384 .f32 := mulf main_v4 main_v7
  let main_v9 : FVec F S32x384 .f32 := (extractStridedSlice S32x384 ![0, 1] · slices_S32x386_S32x384_0_1) main_v3
  let main_v10 : FVec F S1 .f32 := (extractStridedSlice S1 ![1] · slices_S3_S1_1) main_arg1
  let main_v11 : FVec F S_ .f32 := shapeCast S_ main_v10 shapeCasts_S1_S_
  let main_v12 : FVec F S32x384 .f32 := broadcastInDim S32x384 ![] bcast_S_S32x384 main_v11
  let main_v13 : FVec F S32x384 .f32 := mulf main_v9 main_v12
  let main_v14 : FVec F S32x384 .f32 := addf main_v8 main_v13
  let main_v15 : FVec F S32x384 .f32 := (extractStridedSlice S32x384 ![0, 2] · slices_S32x386_S32x384_0_2) main_v3
  let main_v16 : FVec F S1 .f32 := (extractStridedSlice S1 ![2] · slices_S3_S1_2) main_arg1
  let main_v17 : FVec F S_ .f32 := shapeCast S_ main_v16 shapeCasts_S1_S_
  let main_v18 : FVec F S32x384 .f32 := broadcastInDim S32x384 ![] bcast_S_S32x384 main_v17
  let main_v19 : FVec F S32x384 .f32 := mulf main_v15 main_v18
  let main_v20 : FVec F S32x384 .f32 := addf main_v14 main_v19
  fn_part1 (F := F) main_arg0 main_v20
-- ==== On_threshold_in_gap.lean ====
abbrev S32x384x24x24 : Shape := ⟨4, ![32, 384, 24, 24]⟩
abbrev S3 : Shape := ⟨1, ![3]⟩
abbrev S_ : Shape := ⟨0, ![]⟩
abbrev S32x384 : Shape := ⟨2, ![32, 384]⟩
abbrev S32x386 : Shape := ⟨2, ![32, 386]⟩
abbrev S1 : Shape := ⟨1, ![1]⟩
abbrev S32x384x1x1 : Shape := ⟨4, ![32, 384, 1, 1]⟩
abbrev S32x1x24x24 : Shape := ⟨4, ![32, 1, 24, 24]⟩
abbrev S32x24x24 : Shape := ⟨3, ![32, 24, 24]⟩
abbrev S32 : Shape := ⟨1, ![32]⟩
abbrev S32x1x1 : Shape := ⟨3, ![32, 1, 1]⟩
abbrev S129 : Shape := ⟨1, ![129]⟩
abbrev S1x129x1x1 : Shape := ⟨4, ![1, 129, 1, 1]⟩
abbrev S32x129x24x24 : Shape := ⟨4, ![32, 129, 24, 24]⟩

class Facts : Prop where
  reducesTo_S32x384x24x24_S32x384_d2_3 : S32x384x24x24.ReducesTo [2, 3] S32x384
  h_S_ : 0 < S_.numel
  bcast_S_S32x384 : S_.BroadcastsInDim S32x384 (![] : Fin 0 → Fin S32x384.rank)
  pads_S32x384_S32x386_000_110 : S32x384.Pads (![0, 1] : Fin 2 → Nat) ![0, 1] ![0, 0] S32x386
  slices_S32x386_S32x384_0_0 : S32x386.Slices ![0, 0] S32x384
  slices_S3_S1_0 : S3.Slices ![0] S1
  shapeCasts_S1_S_ : S1.ShapeCasts S_
  slices_S32x386_S32x384_0_1 : S32x386.Slices ![0, 1] S32x384
  slices_S3_S1_1 : S3.Slices ![1] S1
  slices_S32x386_S32x384_0_2 : S32x386.Slices ![0, 2] S32x384
  slices_S3_S1_2 : S3.Slices ![2] S1
  bcast_S32x384_S32x384x1x1_0_1 : S32x384.BroadcastsInDim S32x384x1x1 (![0, 1] : Fin 2 → Fin S32x384x1x1.rank)
  bcast_S32x384x1x1_S32x384x24x24_0_1_2_3 : S32x384x1x1.BroadcastsInDim S32x384x24x24 (![0, 1, 2, 3] : Fin 4 → Fin S32x384x24x24.rank)
  slices_S32x384x24x24_S32x1x24x24_0_0_0_0 : S32x384x24x24.Slices ![0, 0, 0, 0] S32x1x24x24
  shapeCasts_S32x1x24x24_S32x24x24 : S32x1x24x24.ShapeCasts S32x24x24
  slices_S32x384x24x24_S32x1x24x24_0_383_0_0 : S32x384x24x24.Slices ![0, 383, 0, 0] S32x1x24x24
  bcast_S_S32x24x24 : S_.BroadcastsInDim S32x24x24 (![] : Fin 0 → Fin S32x24x24.rank)
  bcast_S_S32 : S_.BroadcastsInDim S32 (![] : Fin 0 → Fin S32.rank)
  bcast_S32_S32x1x1_0 : S32.BroadcastsInDim S32x1x1 (![0] : Fin 1 → Fin S32x1x1.rank)
  bcast_S32x1x1_S32x24x24_0_1_2 : S32x1x1.BroadcastsInDim S32x24x24 (![0, 1, 2] : Fin 3 → Fin S32x24x24.rank)
  bcast_S32x24x24_S32x1x24x24_0_2_3 : S32x24x24.BroadcastsInDim S32x1x24x24 (![0, 2, 3] : Fin 3 → Fin S32x1x24x24.rank)
  bcast_S129_S1x129x1x1_1 : S129.BroadcastsInDim S1x129x1x1 (![1] : Fin 1 → Fin S1x129x1x1.rank)
  bcast_S1x129x1x1_S32x129x24x24_0_1_2_3 : S1x129x1x1.BroadcastsInDim S32x129x24x24 (![0, 1, 2, 3] : Fin 4 → Fin S32x129x24x24.rank)
  bcast_S32x1x24x24_S32x129x24x24_0_1_2_3 : S32x1x24x24.BroadcastsInDim S32x129x24x24 (![0, 1, 2, 3] : Fin 4 → Fin S32x129x24x24.rank)
  slices_S32x384x24x24_S32x1x24x24_0_192_0_0 : S32x384x24x24.Slices ![0, 192, 0, 0] S32x1x24x24
  slices_S32x384x24x24_S32x1x24x24_0_191_0_0 : S32x384x24x24.Slices ![0, 191, 0, 0] S32x1x24x24
  reducesTo_S32x129x24x24_S32x24x24_d1 : S32x129x24x24.ReducesTo [1] S32x24x24

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_pad {F : FTy → Type} [FloatOps F] (arg0 : FVec F S32x384 .f32) (arg1 : IVec S_ 32) : FVec F S32x386 .f32 :=
  let v0 : FVec F S_ .f32 := sitofp .f32 arg1
  let v1 : FVec F S32x386 .f32 := (fun x v => pad S32x386 ![0, 1] ![0, 1] ![0, 0] x v pads_S32x384_S32x386_000_110 h_S_) arg0 v0
  v1

def fn_sort {F : FTy → Type} [FloatOps F] (arg0 : FVec F S32x384x24x24 .f32) : FVec F S32x384x24x24 .f32 :=
  let v0 : FVec F S32x384x24x24 .f32 := (fun x => Host.sort S32x384x24x24 1 comparator_f32_d1 x) arg0
  v0

def fn_flip {F : FTy → Type} [FloatOps F] (arg0 : FVec F S32x384x24x24 .f32) : FVec F S32x384x24x24 .f32 :=
  let v0 : FVec F S32x384x24x24 .f32 := Host.reverse [1] arg0
  v0

def fn_where {F : FTy → Type} [FloatOps F] (arg0 : IVec S32 1) (arg1 : FVec F S_ .f32) (arg2 : FVec F S_ .f32) : FVec F S32 .f32 :=
  let v0 : FVec F S32 .f32 := broadcastInDim S32 ![] bcast_S_S32 arg1
  let v1 : FVec F S32 .f32 := broadcastInDim S32 ![] bcast_S_S32 arg2
  let v2 : FVec F S32 .f32 := select arg0 v0 v1
  v2

def fn_part3 {F : FTy → Type} [FloatOps F] (main_v31 : FVec F S32x384x24x24 .f32) (main_v41 : FVec F S32x24x24 .f32) (main_v51 : FVec F S32 .f32) (main_v56 : IVec S32x24x24 1) (main_v57 : FVec F S32x24x24 .f32) : IVec S32x24x24 1 :=
  let main_v58 : FVec F S32x1x1 .f32 := broadcastInDim S32x1x1 ![0] bcast_S32_S32x1x1_0 main_v51
  let main_v59 : FVec F S32x1x1 .f32 := id main_v58
  let main_v60 : FVec F S32x24x24 .f32 := broadcastInDim S32x24x24 ![0, 1, 2] bcast_S32x1x1_S32x24x24_0_1_2 main_v59
  let main_v61 : FVec F S32x24x24 .f32 := Host.divf main_v57 main_v60
  let main_v62 : FVec F S129 .f32 := sitofp .f32 (iotaInDim S129 32 0)
  let main_v63 : FVec F S32x1x24x24 .f32 := broadcastInDim S32x1x24x24 ![0, 2, 3] bcast_S32x24x24_S32x1x24x24_0_2_3 main_v41
  let main_v64 : FVec F S1x129x1x1 .f32 := broadcastInDim S1x129x1x1 ![1] bcast_S129_S1x129x1x1_1 main_v62
  let main_v65 : FVec F S32x1x24x24 .f32 := broadcastInDim S32x1x24x24 ![0, 2, 3] bcast_S32x24x24_S32x1x24x24_0_2_3 main_v61
  let main_v66 : FVec F S32x129x24x24 .f32 := broadcastInDim S32x129x24x24 ![0, 1, 2, 3] bcast_S1x129x1x1_S32x129x24x24_0_1_2_3 main_v64
  let main_v67 : FVec F S32x129x24x24 .f32 := broadcastInDim S32x129x24x24 ![0, 1, 2, 3] bcast_S32x1x24x24_S32x129x24x24_0_1_2_3 main_v65
  let main_v68 : FVec F S32x129x24x24 .f32 := mulf main_v66 main_v67
  let main_v69 : FVec F S32x129x24x24 .f32 := broadcastInDim S32x129x24x24 ![0, 1, 2, 3] bcast_S32x1x24x24_S32x129x24x24_0_1_2_3 main_v63
  let main_v70 : FVec F S32x129x24x24 .f32 := addf main_v69 main_v68
  let main_v71 : FVec F S32x1x24x24 .f32 := (extractStridedSlice S32x1x24x24 ![0, 192, 0, 0] · slices_S32x384x24x24_S32x1x24x24_0_192_0_0) main_v31
  let main_v72 : FVec F S32x129x24x24 .f32 := broadcastInDim S32x129x24x24 ![0, 1, 2, 3] bcast_S32x1x24x24_S32x129x24x24_0_1_2_3 main_v71
  let main_v73 : IVec S32x129x24x24 1 := cmpf .ole main_v72 main_v70
  let main_v74 : FVec F S32x1x24x24 .f32 := (extractStridedSlice S32x1x24x24 ![0, 191, 0, 0] · slices_S32x384x24x24_S32x1x24x24_0_191_0_0) main_v31
  let main_v75 : FVec F S32x129x24x24 .f32 := broadcastInDim S32x129x24x24 ![0, 1, 2, 3] bcast_S32x1x24x24_S32x129x24x24_0_1_2_3 main_v74
  let main_v76 : IVec S32x129x24x24 1 := cmpf .ole main_v70 main_v75
  let main_v77 : IVec S32x129x24x24 1 := andi main_v73 main_v76
  let main_c_12 : IVec S_ 1 := constantI S_ 1 0#1
  let main_v78 : IVec S32x24x24 1 := (fun x v => Host.reduce IntOp.ori x v reducesTo_S32x129x24x24_S32x24x24_d1 h_S_) main_v77 main_c_12
  let main_v79 : IVec S32x24x24 1 := andi main_v56 main_v78
  main_v79

def fn_part2 {F : FTy → Type} [FloatOps F] (main_v31 : FVec F S32x384x24x24 .f32) (main_v33 : FVec F S32x24x24 .f32) (main_v35 : FVec F S32x24x24 .f32) (main_v40 : FVec F S32x24x24 .f32) : IVec S32x24x24 1 :=
  let main_v41 : FVec F S32x24x24 .f32 := subf main_v35 main_v40
  let main_v42 : FVec F S32x24x24 .f32 := Host.absf main_v33
  let main_cst_5 : FVec F S_ .f32 := constant S_ .f32 0x3C23D70A#32
  let main_v43 : FVec F S32x24x24 .f32 := broadcastInDim S32x24x24 ![] bcast_S_S32x24x24 main_cst_5
  let main_v44 : FVec F S32x24x24 .f32 := mulf main_v42 main_v43
  let main_cst_6 : FVec F S_ .f32 := constant S_ .f32 0x0DA24260#32
  let main_v45 : FVec F S32x24x24 .f32 := broadcastInDim S32x24x24 ![] bcast_S_S32x24x24 main_cst_6
  let main_v46 : FVec F S32x24x24 .f32 := addf main_v44 main_v45
  let main_v47 : FVec F S32x24x24 .f32 := addf main_v33 main_v46
  let main_v48 : IVec S32 32 := iotaInDim S32 32 0
  let main_c_7 : IVec S_ 32 := constantI S_ 32 10#32
  let main_v49 : IVec S32 32 := broadcastInDim S32 ![] bcast_S_S32 main_c_7
  let main_v50 : IVec S32 1 := cmpi .slt main_v48 main_v49
  let main_cst_8 : FVec F S_ .f32 := constant S_ .f32 0x42800000#32
  let main_cst_9 : FVec F S_ .f32 := constant S_ .f32 0x43000000#32
  let main_v51 : FVec F S32 .f32 := fn_where (F := F) main_v50 main_cst_8 main_cst_9
  let main_cst_10 : FVec F S_ .f32 := constant S_ .f32 0xFF800000#32
  let main_v52 : FVec F S32x24x24 .f32 := broadcastInDim S32x24x24 ![] bcast_S_S32x24x24 main_cst_10
  let main_v53 : IVec S32x24x24 1 := cmpf .ogt main_v35 main_v52
  let main_cst_11 : FVec F S_ .f32 := constant S_ .f32 0x7F800000#32
  let main_v54 : FVec F S32x24x24 .f32 := broadcastInDim S32x24x24 ![] bcast_S_S32x24x24 main_cst_11
  let main_v55 : IVec S32x24x24 1 := cmpf .olt main_v33 main_v54
  let main_v56 : IVec S32x24x24 1 := andi main_v53 main_v55
  let main_v57 : FVec F S32x24x24 .f32 := subf main_v47 main_v41
  fn_part3 (F := F) main_v31 main_v41 main_v51 main_v56 main_v57

def fn_part1 {F : FTy → Type} [FloatOps F] (main_arg0 : FVec F S32x384x24x24 .f32) (main_v20 : FVec F S32x384 .f32) : IVec S32x24x24 1 :=
  let main_v21 : FVec F S32x384 .f32 := Host.negf main_v20
  let main_v22 : FVec F S32x384 .f32 := Host.exp main_v21
  let main_cst_1 : FVec F S_ .f32 := constant S_ .f32 0x3F800000#32
  let main_v23 : FVec F S32x384 .f32 := broadcastInDim S32x384 ![] bcast_S_S32x384 main_cst_1
  let main_v24 : FVec F S32x384 .f32 := addf main_v23 main_v22
  let main_cst_2 : FVec F S_ .f32 := constant S_ .f32 0x3F800000#32
  let main_v25 : FVec F S32x384 .f32 := broadcastInDim S32x384 ![] bcast_S_S32x384 main_cst_2
  let main_v26 : FVec F S32x384 .f32 := Host.divf main_v25 main_v24
  let main_v27 : FVec F S32x384x1x1 .f32 := broadcastInDim S32x384x1x1 ![0, 1] bcast_S32x384_S32x384x1x1_0_1 main_v26
  let main_v28 : FVec F S32x384x24x24 .f32 := broadcastInDim S32x384x24x24 ![0, 1, 2, 3] bcast_S32x384x1x1_S32x384x24x24_0_1_2_3 main_v27
  let main_v29 : FVec F S32x384x24x24 .f32 := mulf main_arg0 main_v28
  let main_v30 : FVec F S32x384x24x24 .f32 := fn_sort (F := F) main_v29
  let main_v31 : FVec F S32x384x24x24 .f32 := fn_flip (F := F) main_v30
  let main_v32 : FVec F S32x1x24x24 .f32 := (extractStridedSlice S32x1x24x24 ![0, 0, 0, 0] · slices_S32x384x24x24_S32x1x24x24_0_0_0_0) main_v31
  let main_v33 : FVec F S32x24x24 .f32 := shapeCast S32x24x24 main_v32 shapeCasts_S32x1x24x24_S32x24x24
  let main_v34 : FVec F S32x1x24x24 .f32 := (extractStridedSlice S32x1x24x24 ![0, 383, 0, 0] · slices_S32x384x24x24_S32x1x24x24_0_383_0_0) main_v31
  let main_v35 : FVec F S32x24x24 .f32 := shapeCast S32x24x24 main_v34 shapeCasts_S32x1x24x24_S32x24x24
  let main_v36 : FVec F S32x24x24 .f32 := Host.absf main_v35
  let main_cst_3 : FVec F S_ .f32 := constant S_ .f32 0x3C23D70A#32
  let main_v37 : FVec F S32x24x24 .f32 := broadcastInDim S32x24x24 ![] bcast_S_S32x24x24 main_cst_3
  let main_v38 : FVec F S32x24x24 .f32 := mulf main_v36 main_v37
  let main_cst_4 : FVec F S_ .f32 := constant S_ .f32 0x0DA24260#32
  let main_v39 : FVec F S32x24x24 .f32 := broadcastInDim S32x24x24 ![] bcast_S_S32x24x24 main_cst_4
  let main_v40 : FVec F S32x24x24 .f32 := addf main_v38 main_v39
  fn_part2 (F := F) main_v31 main_v33 main_v35 main_v40

def fn {F : FTy → Type} [FloatOps F] (main_arg0 : FVec F S32x384x24x24 .f32) (main_arg1 : FVec F S3 .f32) : IVec S32x24x24 1 :=
  let main_cst : FVec F S_ .f32 := constant S_ .f32 0x00000000#32
  let main_v0 : FVec F S32x384 .f32 := (fun x v => Host.reduceAdd x v reducesTo_S32x384x24x24_S32x384_d2_3 h_S_) main_arg0 main_cst
  let main_cst_0 : FVec F S_ .f32 := constant S_ .f32 0x44100000#32
  let main_v1 : FVec F S32x384 .f32 := broadcastInDim S32x384 ![] bcast_S_S32x384 main_cst_0
  let main_v2 : FVec F S32x384 .f32 := Host.divf main_v0 main_v1
  let main_c : IVec S_ 32 := constantI S_ 32 0#32
  let main_v3 : FVec F S32x386 .f32 := fn_pad (F := F) main_v2 main_c
  let main_v4 : FVec F S32x384 .f32 := (extractStridedSlice S32x384 ![0, 0] · slices_S32x386_S32x384_0_0) main_v3
  let main_v5 : FVec F S1 .f32 := (extractStridedSlice S1 ![0] · slices_S3_S1_0) main_arg1
  let main_v6 : FVec F S_ .f32 := shapeCast S_ main_v5 shapeCasts_S1_S_
  let main_v7 : FVec F S32x384 .f32 := broadcastInDim S32x384 ![] bcast_S_S32x384 main_v6
  let main_v8 : FVec F S32x384 .f32 := mulf main_v4 main_v7
  let main_v9 : FVec F S32x384 .f32 := (extractStridedSlice S32x384 ![0, 1] · slices_S32x386_S32x384_0_1) main_v3
  let main_v10 : FVec F S1 .f32 := (extractStridedSlice S1 ![1] · slices_S3_S1_1) main_arg1
  let main_v11 : FVec F S_ .f32 := shapeCast S_ main_v10 shapeCasts_S1_S_
  let main_v12 : FVec F S32x384 .f32 := broadcastInDim S32x384 ![] bcast_S_S32x384 main_v11
  let main_v13 : FVec F S32x384 .f32 := mulf main_v9 main_v12
  let main_v14 : FVec F S32x384 .f32 := addf main_v8 main_v13
  let main_v15 : FVec F S32x384 .f32 := (extractStridedSlice S32x384 ![0, 2] · slices_S32x386_S32x384_0_2) main_v3
  let main_v16 : FVec F S1 .f32 := (extractStridedSlice S1 ![2] · slices_S3_S1_2) main_arg1
  let main_v17 : FVec F S_ .f32 := shapeCast S_ main_v16 shapeCasts_S1_S_
  let main_v18 : FVec F S32x384 .f32 := broadcastInDim S32x384 ![] bcast_S_S32x384 main_v17
  let main_v19 : FVec F S32x384 .f32 := mulf main_v15 main_v18
  let main_v20 : FVec F S32x384 .f32 := addf main_v14 main_v19
  fn_part1 (F := F) main_arg0 main_v20
-- ==== Post_within_one_step.lean ====
abbrev S32x384x24x24 : Shape := ⟨4, ![32, 384, 24, 24]⟩
abbrev S3 : Shape := ⟨1, ![3]⟩
abbrev S32x24x24 : Shape := ⟨3, ![32, 24, 24]⟩
abbrev S_ : Shape := ⟨0, ![]⟩
abbrev S32x384 : Shape := ⟨2, ![32, 384]⟩
abbrev S32x386 : Shape := ⟨2, ![32, 386]⟩
abbrev S1 : Shape := ⟨1, ![1]⟩
abbrev S32x384x1x1 : Shape := ⟨4, ![32, 384, 1, 1]⟩
abbrev S32x192x24x24 : Shape := ⟨4, ![32, 192, 24, 24]⟩
abbrev S32x1x24x24 : Shape := ⟨4, ![32, 1, 24, 24]⟩
abbrev S32 : Shape := ⟨1, ![32]⟩
abbrev S32x1x1 : Shape := ⟨3, ![32, 1, 1]⟩

class Facts : Prop where
  reducesTo_S32x384x24x24_S32x384_d2_3 : S32x384x24x24.ReducesTo [2, 3] S32x384
  h_S_ : 0 < S_.numel
  bcast_S_S32x384 : S_.BroadcastsInDim S32x384 (![] : Fin 0 → Fin S32x384.rank)
  pads_S32x384_S32x386_000_110 : S32x384.Pads (![0, 1] : Fin 2 → Nat) ![0, 1] ![0, 0] S32x386
  slices_S32x386_S32x384_0_0 : S32x386.Slices ![0, 0] S32x384
  slices_S3_S1_0 : S3.Slices ![0] S1
  shapeCasts_S1_S_ : S1.ShapeCasts S_
  slices_S32x386_S32x384_0_1 : S32x386.Slices ![0, 1] S32x384
  slices_S3_S1_1 : S3.Slices ![1] S1
  slices_S32x386_S32x384_0_2 : S32x386.Slices ![0, 2] S32x384
  slices_S3_S1_2 : S3.Slices ![2] S1
  bcast_S32x384_S32x384x1x1_0_1 : S32x384.BroadcastsInDim S32x384x1x1 (![0, 1] : Fin 2 → Fin S32x384x1x1.rank)
  bcast_S32x384x1x1_S32x384x24x24_0_1_2_3 : S32x384x1x1.BroadcastsInDim S32x384x24x24 (![0, 1, 2, 3] : Fin 4 → Fin S32x384x24x24.rank)
  slices_S32x384x24x24_S32x192x24x24_0_0_0_0 : S32x384x24x24.Slices ![0, 0, 0, 0] S32x192x24x24
  reducesTo_S32x192x24x24_S32x24x24_d1 : S32x192x24x24.ReducesTo [1] S32x24x24
  bcast_S_S32x24x24 : S_.BroadcastsInDim S32x24x24 (![] : Fin 0 → Fin S32x24x24.rank)
  slices_S32x384x24x24_S32x1x24x24_0_0_0_0 : S32x384x24x24.Slices ![0, 0, 0, 0] S32x1x24x24
  shapeCasts_S32x1x24x24_S32x24x24 : S32x1x24x24.ShapeCasts S32x24x24
  slices_S32x384x24x24_S32x1x24x24_0_383_0_0 : S32x384x24x24.Slices ![0, 383, 0, 0] S32x1x24x24
  bcast_S_S32 : S_.BroadcastsInDim S32 (![] : Fin 0 → Fin S32.rank)
  bcast_S32_S32x1x1_0 : S32.BroadcastsInDim S32x1x1 (![0] : Fin 1 → Fin S32x1x1.rank)
  bcast_S32x1x1_S32x24x24_0_1_2 : S32x1x1.BroadcastsInDim S32x24x24 (![0, 1, 2] : Fin 3 → Fin S32x24x24.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_pad {F : FTy → Type} [FloatOps F] (arg0 : FVec F S32x384 .f32) (arg1 : IVec S_ 32) : FVec F S32x386 .f32 :=
  let v0 : FVec F S_ .f32 := sitofp .f32 arg1
  let v1 : FVec F S32x386 .f32 := (fun x v => pad S32x386 ![0, 1] ![0, 1] ![0, 0] x v pads_S32x384_S32x386_000_110 h_S_) arg0 v0
  v1

def fn_sort {F : FTy → Type} [FloatOps F] (arg0 : FVec F S32x384x24x24 .f32) : FVec F S32x384x24x24 .f32 :=
  let v0 : FVec F S32x384x24x24 .f32 := (fun x => Host.sort S32x384x24x24 1 comparator_f32_d1 x) arg0
  v0

def fn_flip {F : FTy → Type} [FloatOps F] (arg0 : FVec F S32x384x24x24 .f32) : FVec F S32x384x24x24 .f32 :=
  let v0 : FVec F S32x384x24x24 .f32 := Host.reverse [1] arg0
  v0

def fn_where {F : FTy → Type} [FloatOps F] (arg0 : IVec S32 1) (arg1 : FVec F S_ .f32) (arg2 : FVec F S_ .f32) : FVec F S32 .f32 :=
  let v0 : FVec F S32 .f32 := broadcastInDim S32 ![] bcast_S_S32 arg1
  let v1 : FVec F S32 .f32 := broadcastInDim S32 ![] bcast_S_S32 arg2
  let v2 : FVec F S32 .f32 := select arg0 v0 v1
  v2

def fn_part3 {F : FTy → Type} [FloatOps F] (main_arg2 : FVec F S32x24x24 .f32) (main_v35 : FVec F S32x24x24 .f32) (main_v37 : FVec F S32x24x24 .f32) (main_v39 : FVec F S32x24x24 .f32) (main_v45 : FVec F S32x24x24 .f32) (main_v51 : FVec F S32x24x24 .f32) (main_v55 : FVec F S32 .f32) (main_v56 : FVec F S32x24x24 .f32) : IVec S32x24x24 1 :=
  let main_v57 : IVec S32x24x24 1 := cmpf .ogt main_v39 main_v56
  let main_cst_13 : FVec F S_ .f32 := constant S_ .f32 0x7F800000#32
  let main_v58 : FVec F S32x24x24 .f32 := broadcastInDim S32x24x24 ![] bcast_S_S32x24x24 main_cst_13
  let main_v59 : IVec S32x24x24 1 := cmpf .olt main_v37 main_v58
  let main_v60 : IVec S32x24x24 1 := andi main_v57 main_v59
  let main_v61 : FVec F S32x24x24 .f32 := subf main_v51 main_v45
  let main_v62 : FVec F S32x1x1 .f32 := broadcastInDim S32x1x1 ![0] bcast_S32_S32x1x1_0 main_v55
  let main_v63 : FVec F S32x1x1 .f32 := id main_v62
  let main_v64 : FVec F S32x24x24 .f32 := broadcastInDim S32x24x24 ![0, 1, 2] bcast_S32x1x1_S32x24x24_0_1_2 main_v63
  let main_v65 : FVec F S32x24x24 .f32 := Host.divf main_v61 main_v64
  let main_v66 : IVec S32x24x24 1 := noti main_v60
  let main_v67 : IVec S32x24x24 1 := cmpf .ole main_v35 main_arg2
  let main_v68 : FVec F S32x24x24 .f32 := addf main_v35 main_v65
  let main_v69 : IVec S32x24x24 1 := cmpf .ole main_arg2 main_v68
  let main_v70 : IVec S32x24x24 1 := andi main_v67 main_v69
  let main_v71 : IVec S32x24x24 1 := ori main_v66 main_v70
  main_v71

def fn_part2 {F : FTy → Type} [FloatOps F] (main_arg2 : FVec F S32x24x24 .f32) (main_v35 : FVec F S32x24x24 .f32) (main_v37 : FVec F S32x24x24 .f32) (main_v39 : FVec F S32x24x24 .f32) (main_v40 : FVec F S32x24x24 .f32) : IVec S32x24x24 1 :=
  let main_cst_5 : FVec F S_ .f32 := constant S_ .f32 0x3C23D70A#32
  let main_v41 : FVec F S32x24x24 .f32 := broadcastInDim S32x24x24 ![] bcast_S_S32x24x24 main_cst_5
  let main_v42 : FVec F S32x24x24 .f32 := mulf main_v40 main_v41
  let main_cst_6 : FVec F S_ .f32 := constant S_ .f32 0x0DA24260#32
  let main_v43 : FVec F S32x24x24 .f32 := broadcastInDim S32x24x24 ![] bcast_S_S32x24x24 main_cst_6
  let main_v44 : FVec F S32x24x24 .f32 := addf main_v42 main_v43
  let main_v45 : FVec F S32x24x24 .f32 := subf main_v39 main_v44
  let main_v46 : FVec F S32x24x24 .f32 := Host.absf main_v37
  let main_cst_7 : FVec F S_ .f32 := constant S_ .f32 0x3C23D70A#32
  let main_v47 : FVec F S32x24x24 .f32 := broadcastInDim S32x24x24 ![] bcast_S_S32x24x24 main_cst_7
  let main_v48 : FVec F S32x24x24 .f32 := mulf main_v46 main_v47
  let main_cst_8 : FVec F S_ .f32 := constant S_ .f32 0x0DA24260#32
  let main_v49 : FVec F S32x24x24 .f32 := broadcastInDim S32x24x24 ![] bcast_S_S32x24x24 main_cst_8
  let main_v50 : FVec F S32x24x24 .f32 := addf main_v48 main_v49
  let main_v51 : FVec F S32x24x24 .f32 := addf main_v37 main_v50
  let main_v52 : IVec S32 32 := iotaInDim S32 32 0
  let main_c_9 : IVec S_ 32 := constantI S_ 32 10#32
  let main_v53 : IVec S32 32 := broadcastInDim S32 ![] bcast_S_S32 main_c_9
  let main_v54 : IVec S32 1 := cmpi .slt main_v52 main_v53
  let main_cst_10 : FVec F S_ .f32 := constant S_ .f32 0x42800000#32
  let main_cst_11 : FVec F S_ .f32 := constant S_ .f32 0x43000000#32
  let main_v55 : FVec F S32 .f32 := fn_where (F := F) main_v54 main_cst_10 main_cst_11
  let main_cst_12 : FVec F S_ .f32 := constant S_ .f32 0xFF800000#32
  let main_v56 : FVec F S32x24x24 .f32 := broadcastInDim S32x24x24 ![] bcast_S_S32x24x24 main_cst_12
  fn_part3 (F := F) main_arg2 main_v35 main_v37 main_v39 main_v45 main_v51 main_v55 main_v56

def fn_part1 {F : FTy → Type} [FloatOps F] (main_arg0 : FVec F S32x384x24x24 .f32) (main_arg2 : FVec F S32x24x24 .f32) (main_v20 : FVec F S32x384 .f32) : IVec S32x24x24 1 :=
  let main_v21 : FVec F S32x384 .f32 := Host.negf main_v20
  let main_v22 : FVec F S32x384 .f32 := Host.exp main_v21
  let main_cst_1 : FVec F S_ .f32 := constant S_ .f32 0x3F800000#32
  let main_v23 : FVec F S32x384 .f32 := broadcastInDim S32x384 ![] bcast_S_S32x384 main_cst_1
  let main_v24 : FVec F S32x384 .f32 := addf main_v23 main_v22
  let main_cst_2 : FVec F S_ .f32 := constant S_ .f32 0x3F800000#32
  let main_v25 : FVec F S32x384 .f32 := broadcastInDim S32x384 ![] bcast_S_S32x384 main_cst_2
  let main_v26 : FVec F S32x384 .f32 := Host.divf main_v25 main_v24
  let main_v27 : FVec F S32x384x1x1 .f32 := broadcastInDim S32x384x1x1 ![0, 1] bcast_S32x384_S32x384x1x1_0_1 main_v26
  let main_v28 : FVec F S32x384x24x24 .f32 := broadcastInDim S32x384x24x24 ![0, 1, 2, 3] bcast_S32x384x1x1_S32x384x24x24_0_1_2_3 main_v27
  let main_v29 : FVec F S32x384x24x24 .f32 := mulf main_arg0 main_v28
  let main_v30 : FVec F S32x384x24x24 .f32 := fn_sort (F := F) main_v29
  let main_v31 : FVec F S32x384x24x24 .f32 := fn_flip (F := F) main_v30
  let main_v32 : FVec F S32x192x24x24 .f32 := (extractStridedSlice S32x192x24x24 ![0, 0, 0, 0] · slices_S32x384x24x24_S32x192x24x24_0_0_0_0) main_v31
  let main_cst_3 : FVec F S_ .f32 := constant S_ .f32 0x00000000#32
  let main_v33 : FVec F S32x24x24 .f32 := (fun x v => Host.reduceAdd x v reducesTo_S32x192x24x24_S32x24x24_d1 h_S_) main_v32 main_cst_3
  let main_cst_4 : FVec F S_ .f32 := constant S_ .f32 0x43400000#32
  let main_v34 : FVec F S32x24x24 .f32 := broadcastInDim S32x24x24 ![] bcast_S_S32x24x24 main_cst_4
  let main_v35 : FVec F S32x24x24 .f32 := Host.divf main_v33 main_v34
  let main_v36 : FVec F S32x1x24x24 .f32 := (extractStridedSlice S32x1x24x24 ![0, 0, 0, 0] · slices_S32x384x24x24_S32x1x24x24_0_0_0_0) main_v31
  let main_v37 : FVec F S32x24x24 .f32 := shapeCast S32x24x24 main_v36 shapeCasts_S32x1x24x24_S32x24x24
  let main_v38 : FVec F S32x1x24x24 .f32 := (extractStridedSlice S32x1x24x24 ![0, 383, 0, 0] · slices_S32x384x24x24_S32x1x24x24_0_383_0_0) main_v31
  let main_v39 : FVec F S32x24x24 .f32 := shapeCast S32x24x24 main_v38 shapeCasts_S32x1x24x24_S32x24x24
  let main_v40 : FVec F S32x24x24 .f32 := Host.absf main_v39
  fn_part2 (F := F) main_arg2 main_v35 main_v37 main_v39 main_v40

def fn {F : FTy → Type} [FloatOps F] (main_arg0 : FVec F S32x384x24x24 .f32) (main_arg1 : FVec F S3 .f32) (main_arg2 : FVec F S32x24x24 .f32) : IVec S32x24x24 1 :=
  let main_cst : FVec F S_ .f32 := constant S_ .f32 0x00000000#32
  let main_v0 : FVec F S32x384 .f32 := (fun x v => Host.reduceAdd x v reducesTo_S32x384x24x24_S32x384_d2_3 h_S_) main_arg0 main_cst
  let main_cst_0 : FVec F S_ .f32 := constant S_ .f32 0x44100000#32
  let main_v1 : FVec F S32x384 .f32 := broadcastInDim S32x384 ![] bcast_S_S32x384 main_cst_0
  let main_v2 : FVec F S32x384 .f32 := Host.divf main_v0 main_v1
  let main_c : IVec S_ 32 := constantI S_ 32 0#32
  let main_v3 : FVec F S32x386 .f32 := fn_pad (F := F) main_v2 main_c
  let main_v4 : FVec F S32x384 .f32 := (extractStridedSlice S32x384 ![0, 0] · slices_S32x386_S32x384_0_0) main_v3
  let main_v5 : FVec F S1 .f32 := (extractStridedSlice S1 ![0] · slices_S3_S1_0) main_arg1
  let main_v6 : FVec F S_ .f32 := shapeCast S_ main_v5 shapeCasts_S1_S_
  let main_v7 : FVec F S32x384 .f32 := broadcastInDim S32x384 ![] bcast_S_S32x384 main_v6
  let main_v8 : FVec F S32x384 .f32 := mulf main_v4 main_v7
  let main_v9 : FVec F S32x384 .f32 := (extractStridedSlice S32x384 ![0, 1] · slices_S32x386_S32x384_0_1) main_v3
  let main_v10 : FVec F S1 .f32 := (extractStridedSlice S1 ![1] · slices_S3_S1_1) main_arg1
  let main_v11 : FVec F S_ .f32 := shapeCast S_ main_v10 shapeCasts_S1_S_
  let main_v12 : FVec F S32x384 .f32 := broadcastInDim S32x384 ![] bcast_S_S32x384 main_v11
  let main_v13 : FVec F S32x384 .f32 := mulf main_v9 main_v12
  let main_v14 : FVec F S32x384 .f32 := addf main_v8 main_v13
  let main_v15 : FVec F S32x384 .f32 := (extractStridedSlice S32x384 ![0, 2] · slices_S32x386_S32x384_0_2) main_v3
  let main_v16 : FVec F S1 .f32 := (extractStridedSlice S1 ![2] · slices_S3_S1_2) main_arg1
  let main_v17 : FVec F S_ .f32 := shapeCast S_ main_v16 shapeCasts_S1_S_
  let main_v18 : FVec F S32x384 .f32 := broadcastInDim S32x384 ![] bcast_S_S32x384 main_v17
  let main_v19 : FVec F S32x384 .f32 := mulf main_v15 main_v18
  let main_v20 : FVec F S32x384 .f32 := addf main_v14 main_v19
  fn_part1 (F := F) main_arg0 main_arg2 main_v20
-- ==== Kernel.lean ====
abbrev S32x384x24x24 : Shape := ⟨4, ![32, 384, 24, 24]⟩
abbrev S3 : Shape := ⟨1, ![3]⟩
abbrev S32x384x576 : Shape := ⟨3, ![32, 384, 576]⟩
abbrev S32x3x384x192 : Shape := ⟨4, ![32, 3, 384, 192]⟩
abbrev S32x2x576 : Shape := ⟨3, ![32, 2, 576]⟩
abbrev S4x384x576 : Shape := ⟨3, ![4, 384, 576]⟩
abbrev S4x3x384x192 : Shape := ⟨4, ![4, 3, 384, 192]⟩
abbrev S4x2x576 : Shape := ⟨3, ![4, 2, 576]⟩
abbrev S1x384x576 : Shape := ⟨3, ![1, 384, 576]⟩
abbrev S384x576 : Shape := ⟨2, ![384, 576]⟩
abbrev S384 : Shape := ⟨1, ![384]⟩
abbrev S384x1 : Shape := ⟨2, ![384, 1]⟩
abbrev S1x1 : Shape := ⟨2, ![1, 1]⟩
abbrev S383x1 : Shape := ⟨2, ![383, 1]⟩
abbrev S1 : Shape := ⟨1, ![1]⟩
abbrev S384x192 : Shape := ⟨2, ![384, 192]⟩
abbrev S1x1x384x192 : Shape := ⟨4, ![1, 1, 384, 192]⟩
abbrev S576 : Shape := ⟨1, ![576]⟩
abbrev S1x576 : Shape := ⟨2, ![1, 576]⟩
abbrev S1x1x576 : Shape := ⟨3, ![1, 1, 576]⟩
abbrev S11x3x192 : Shape := ⟨3, ![11, 3, 192]⟩
abbrev S2x576 : Shape := ⟨2, ![2, 576]⟩
abbrev S192 : Shape := ⟨1, ![192]⟩
abbrev S16 : Shape := ⟨1, ![16]⟩
abbrev S_ : Shape := ⟨0, ![]⟩
abbrev S1x2x576 : Shape := ⟨3, ![1, 2, 576]⟩
abbrev S1x16 : Shape := ⟨2, ![1, 16]⟩
abbrev S1x1x192 : Shape := ⟨3, ![1, 1, 192]⟩
abbrev S22x1x576 : Shape := ⟨3, ![22, 1, 576]⟩
abbrev S1x3x384x192 : Shape := ⟨4, ![1, 3, 384, 192]⟩
abbrev S1x192 : Shape := ⟨2, ![1, 192]⟩
abbrev S11x576 : Shape := ⟨2, ![11, 576]⟩
abbrev S10x576 : Shape := ⟨2, ![10, 576]⟩
abbrev S22x576 : Shape := ⟨2, ![22, 576]⟩
abbrev S32x576 : Shape := ⟨2, ![32, 576]⟩
abbrev S32x24x24 : Shape := ⟨3, ![32, 24, 24]⟩

abbrev nBuf : Table → Nat
  | .hbm => 12
  | .local .tc .vmem => 12
  | .local .tc .smem => 1
  | .local .scVector .vmem => 3
  | _ => 0

abbrev bufTy : (tb : Table) → Fin (nBuf tb) → BufTy
  | .hbm, ⟨0, _⟩ => ⟨S32x384x24x24, .f32⟩
  | .hbm, ⟨1, _⟩ => ⟨S3, .f32⟩
  | .hbm, ⟨2, _⟩ => ⟨S32x384x576, .f32⟩
  | .hbm, ⟨3, _⟩ => ⟨S32x3x384x192, .f32⟩
  | .hbm, ⟨4, _⟩ => ⟨S32x2x576, .f32⟩
  | .hbm, ⟨5, _⟩ => ⟨S11x3x192, .f32⟩
  | .hbm, ⟨6, _⟩ => ⟨S22x1x576, .f32⟩
  | .hbm, ⟨7, _⟩ => ⟨S11x576, .f32⟩
  | .hbm, ⟨8, _⟩ => ⟨S10x576, .f32⟩
  | .hbm, ⟨9, _⟩ => ⟨S22x576, .f32⟩
  | .hbm, ⟨10, _⟩ => ⟨S32x576, .f32⟩
  | .hbm, ⟨11, _⟩ => ⟨S32x24x24, .f32⟩
  | .local .tc .vmem, ⟨0, _⟩ => ⟨S4x384x576, .f32⟩
  | .local .tc .vmem, ⟨1, _⟩ => ⟨S4x384x576, .f32⟩
  | .local .tc .vmem, ⟨2, _⟩ => ⟨S4x3x384x192, .f32⟩
  | .local .tc .vmem, ⟨3, _⟩ => ⟨S4x3x384x192, .f32⟩
  | .local .tc .vmem, ⟨4, _⟩ => ⟨S4x2x576, .f32⟩
  | .local .tc .vmem, ⟨5, _⟩ => ⟨S4x2x576, .f32⟩
  | .local .tc .vmem, ⟨6, _⟩ => ⟨S1x3x384x192, .f32⟩
  | .local .tc .vmem, ⟨7, _⟩ => ⟨S1x3x384x192, .f32⟩
  | .local .tc .vmem, ⟨8, _⟩ => ⟨S1x2x576, .f32⟩
  | .local .tc .vmem, ⟨9, _⟩ => ⟨S1x2x576, .f32⟩
  | .local .tc .vmem, ⟨10, _⟩ => ⟨S1x1x576, .f32⟩
  | .local .tc .vmem, ⟨11, _⟩ => ⟨S1x1x576, .f32⟩
  | .local .tc .smem, ⟨0, _⟩ => ⟨S3, .f32⟩
  | .local .scVector .vmem, ⟨0, _⟩ => ⟨S384x192, .f32⟩
  | .local .scVector .vmem, ⟨1, _⟩ => ⟨S2x576, .f32⟩
  | .local .scVector .vmem, ⟨2, _⟩ => ⟨S192, .f32⟩
  | _, _ => ⟨S32x384x24x24, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v1_0_scv : Ref sig .scVector := ⟨.hbm, 3, rfl⟩
abbrev main_v1_1_scv : Ref sig .scVector := ⟨.hbm, 4, rfl⟩
abbrev main_v2_scv : Ref sig .scVector := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc0_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x384x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x3x384x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c3_i32 : BitVec 32 := 3#32
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let v2 : BitVec 32 := Scalar.divsi v1 c3_i32
  let c1_i32 : BitVec 32 := 1#32
  let v17 : BitVec 32 := Scalar.subi v2 c1_i32
  let v18 : BitVec 32 := Scalar.select v16 v17 v2
  let c0_i32_14_r0 : BitVec 32 := 0#32
  let c0_i32_15_r0 : BitVec 32 := 0#32
  ![v18.toNat, 0, 0]
def k1_off2 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c3_i32 : BitVec 32 := 3#32
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let v2 : BitVec 32 := Scalar.divsi v1 c3_i32
  let c1_i32 : BitVec 32 := 1#32
  let v17 : BitVec 32 := Scalar.subi v2 c1_i32
  let v18 : BitVec 32 := Scalar.select v16 v17 v2
  let c3_i32_4 : BitVec 32 := 3#32
  let v19 : BitVec 32 := Scalar.muli v18 c3_i32_4
  let v20 : BitVec 32 := Scalar.subi v1 v19
  let c0_i32_14_r1 : BitVec 32 := 0#32
  let c0_i32_15_r1 : BitVec 32 := 0#32
  ![v18.toNat, v20.toNat, 0, 0]
@[reducible] def k1_t1_loop : Scf.Loop 32 :=
  let c0_i32_11 : BitVec 32 := 0#32
  let c12_i32 : BitVec 32 := 12#32
  let v25 : BitVec 32 := Scalar.addi c0_i32_11 c12_i32
  let c1_i32_12 : BitVec 32 := 1#32
  ⟨c0_i32_11, v25, c1_i32_12⟩
def k1_off3 (i : grid1.Coords) (k1_t1 : Fin k1_t1_loop.trips) : Fin 2 → Nat :=
  let c0_i32_15 : BitVec 32 := 0#32
  let v29 : Index := Scalar.indexCast c0_i32_15
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c3_i32 : BitVec 32 := 3#32
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let v2 : BitVec 32 := Scalar.divsi v1 c3_i32
  let c1_i32 : BitVec 32 := 1#32
  let v17 : BitVec 32 := Scalar.subi v2 c1_i32
  let v18 : BitVec 32 := Scalar.select v16 v17 v2
  let c3_i32_4 : BitVec 32 := 3#32
  let v19 : BitVec 32 := Scalar.muli v18 c3_i32_4
  let v20 : BitVec 32 := Scalar.subi v1 v19
  let c192_i32 : BitVec 32 := 192#32
  let v24 : BitVec 32 := Scalar.muli v20 c192_i32
  let c0_i32_11 : BitVec 32 := 0#32
  let c1_i32_12 : BitVec 32 := 1#32
  let arg8 : BitVec 32 := Scf.iv c0_i32_11 c1_i32_12 k1_t1
  let c16_i32_14 : BitVec 32 := 16#32
  let v27 : BitVec 32 := Scalar.muli arg8 c16_i32_14
  let v28 : BitVec 32 := Scalar.addi v24 v27
  let v30 : Index := Scalar.indexCast v28
  ![0, v30.toNat]
def k1_off4 (i : grid1.Coords) (k1_t1 : Fin k1_t1_loop.trips) : Fin 2 → Nat :=
  let c1_i32_16 : BitVec 32 := 1#32
  let v33 : Index := Scalar.indexCast c1_i32_16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c3_i32 : BitVec 32 := 3#32
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let v2 : BitVec 32 := Scalar.divsi v1 c3_i32
  let c1_i32 : BitVec 32 := 1#32
  let v17 : BitVec 32 := Scalar.subi v2 c1_i32
  let v18 : BitVec 32 := Scalar.select v16 v17 v2
  let c3_i32_4 : BitVec 32 := 3#32
  let v19 : BitVec 32 := Scalar.muli v18 c3_i32_4
  let v20 : BitVec 32 := Scalar.subi v1 v19
  let c192_i32 : BitVec 32 := 192#32
  let v24 : BitVec 32 := Scalar.muli v20 c192_i32
  let c0_i32_11 : BitVec 32 := 0#32
  let c1_i32_12 : BitVec 32 := 1#32
  let arg8 : BitVec 32 := Scf.iv c0_i32_11 c1_i32_12 k1_t1
  let c16_i32_14 : BitVec 32 := 16#32
  let v27 : BitVec 32 := Scalar.muli arg8 c16_i32_14
  let v28 : BitVec 32 := Scalar.addi v24 v27
  let v34 : Index := Scalar.indexCast v28
  ![1, v34.toNat]
@[reducible] def k1_t2_loop : Scf.Loop 32 :=
  let c0_i32_17 : BitVec 32 := 0#32
  let c6_i32 : BitVec 32 := 6#32
  let v37 : BitVec 32 := Scalar.addi c0_i32_17 c6_i32
  let c1_i32_18 : BitVec 32 := 1#32
  ⟨c0_i32_17, v37, c1_i32_18⟩
@[reducible] def k1_t3_loop : Scf.Loop 32 :=
  let c0_i32_23 : BitVec 32 := 0#32
  let c48_i32 : BitVec 32 := 48#32
  let v56 : BitVec 32 := Scalar.addi c0_i32_23 c48_i32
  let c1_i32_24 : BitVec 32 := 1#32
  ⟨c0_i32_23, v56, c1_i32_24⟩
def k1_off5 (k1_t1 : Fin k1_t1_loop.trips) (k1_t3 : Fin k1_t3_loop.trips) (c0_i32_26 : BitVec 32) : Fin 2 → Nat :=
  let c0_i32_23 : BitVec 32 := 0#32
  let c1_i32_24 : BitVec 32 := 1#32
  let arg12 : BitVec 32 := Scf.iv c0_i32_23 c1_i32_24 k1_t3
  let c8_i32 : BitVec 32 := 8#32
  let v65 : BitVec 32 := Scalar.muli arg12 c8_i32
  let v66 : BitVec 32 := Scalar.addi v65 c0_i32_26
  let v67 : Index := Scalar.indexCast v66
  let c0_i32_11 : BitVec 32 := 0#32
  let c1_i32_12 : BitVec 32 := 1#32
  let arg8 : BitVec 32 := Scf.iv c0_i32_11 c1_i32_12 k1_t1
  let c16_i32 : BitVec 32 := 16#32
  let v26 : BitVec 32 := Scalar.muli arg8 c16_i32
  let v68 : Index := Scalar.indexCast v26
  ![v67.toNat, v68.toNat]
def k1_off6 (k1_t1 : Fin k1_t1_loop.trips) (k1_t3 : Fin k1_t3_loop.trips) (c0_i32_27 : BitVec 32) (c1_i32_28 : BitVec 32) : Fin 2 → Nat :=
  let c0_i32_23 : BitVec 32 := 0#32
  let c1_i32_24 : BitVec 32 := 1#32
  let arg12 : BitVec 32 := Scf.iv c0_i32_23 c1_i32_24 k1_t3
  let c8_i32 : BitVec 32 := 8#32
  let v65 : BitVec 32 := Scalar.muli arg12 c8_i32
  let v71 : BitVec 32 := Scalar.addi v65 c0_i32_27
  let v72 : BitVec 32 := Scalar.addi v71 c1_i32_28
  let v73 : Index := Scalar.indexCast v72
  let c0_i32_11 : BitVec 32 := 0#32
  let c1_i32_12 : BitVec 32 := 1#32
  let arg8 : BitVec 32 := Scf.iv c0_i32_11 c1_i32_12 k1_t1
  let c16_i32 : BitVec 32 := 16#32
  let v26 : BitVec 32 := Scalar.muli arg8 c16_i32
  let v74 : Index := Scalar.indexCast v26
  ![v73.toNat, v74.toNat]
@[reducible] def k1_t4_loop : Scf.Loop 32 :=
  let c0_i32_20 : BitVec 32 := 0#32
  let c96_i32 : BitVec 32 := 96#32
  let v39 : BitVec 32 := Scalar.addi c0_i32_20 c96_i32
  let c1_i32_21 : BitVec 32 := 1#32
  ⟨c0_i32_20, v39, c1_i32_21⟩
def k1_off7 (k1_t1 : Fin k1_t1_loop.trips) (k1_t4 : Fin k1_t4_loop.trips) : Fin 2 → Nat :=
  let c0_i32_20 : BitVec 32 := 0#32
  let c1_i32_21 : BitVec 32 := 1#32
  let arg9 : BitVec 32 := Scf.iv c0_i32_20 c1_i32_21 k1_t4
  let c4_i32 : BitVec 32 := 4#32
  let v53 : BitVec 32 := Scalar.muli arg9 c4_i32
  let v54 : Index := Scalar.indexCast v53
  let c0_i32_11 : BitVec 32 := 0#32
  let c1_i32_12 : BitVec 32 := 1#32
  let arg8 : BitVec 32 := Scf.iv c0_i32_11 c1_i32_12 k1_t1
  let c16_i32 : BitVec 32 := 16#32
  let v26 : BitVec 32 := Scalar.muli arg8 c16_i32
  let v55 : Index := Scalar.indexCast v26
  ![v54.toNat, v55.toNat]
def k1_off8 (k1_t1 : Fin k1_t1_loop.trips) (k1_t4 : Fin k1_t4_loop.trips) (c1_i32_24 : BitVec 32) : Fin 2 → Nat :=
  let c0_i32_20 : BitVec 32 := 0#32
  let c1_i32_21 : BitVec 32 := 1#32
  let arg9 : BitVec 32 := Scf.iv c0_i32_20 c1_i32_21 k1_t4
  let c4_i32 : BitVec 32 := 4#32
  let v53 : BitVec 32 := Scalar.muli arg9 c4_i32
  let v62 : BitVec 32 := Scalar.addi v53 c1_i32_24
  let v63 : Index := Scalar.indexCast v62
  let c0_i32_11 : BitVec 32 := 0#32
  let c1_i32_12 : BitVec 32 := 1#32
  let arg8 : BitVec 32 := Scf.iv c0_i32_11 c1_i32_12 k1_t1
  let c16_i32 : BitVec 32 := 16#32
  let v26 : BitVec 32 := Scalar.muli arg8 c16_i32
  let v64 : Index := Scalar.indexCast v26
  ![v63.toNat, v64.toNat]
def k1_off9 (k1_t1 : Fin k1_t1_loop.trips) : Fin 1 → Nat :=
  let c0_i32_11 : BitVec 32 := 0#32
  let c1_i32_12 : BitVec 32 := 1#32
  let arg8 : BitVec 32 := Scf.iv c0_i32_11 c1_i32_12 k1_t1
  let c16_i32 : BitVec 32 := 16#32
  let v26 : BitVec 32 := Scalar.muli arg8 c16_i32
  let v49 : Index := Scalar.indexCast v26
  ![v49.toNat]
def k1_off10 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c3_i32 : BitVec 32 := 3#32
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let v2 : BitVec 32 := Scalar.divsi v1 c3_i32
  let c1_i32 : BitVec 32 := 1#32
  let v17 : BitVec 32 := Scalar.subi v2 c1_i32
  let v18 : BitVec 32 := Scalar.select v16 v17 v2
  let c3_i32_4 : BitVec 32 := 3#32
  let v19 : BitVec 32 := Scalar.muli v18 c3_i32_4
  let v20 : BitVec 32 := Scalar.subi v1 v19
  let c0_i32_14_r2 : BitVec 32 := 0#32
  ![v18.toNat, v20.toNat, 0]
abbrev grid2 : Pipeline.Grid := ⟨1, ![22], ![false]⟩

@[reducible] def k2_t1_loop : Scf.Loop 32 :=
  let c0_i32 : BitVec 32 := 0#32
  let c7_i32 : BitVec 32 := 7#32
  let v6 : BitVec 32 := Scalar.addi c0_i32 c7_i32
  let c1_i32 : BitVec 32 := 1#32
  ⟨c0_i32, v6, c1_i32⟩
@[reducible] def k2_t2_loop : Scf.Loop 32 :=
  let c0_i32_25 : BitVec 32 := 0#32
  let c7_i32_26 : BitVec 32 := 7#32
  let v29 : BitVec 32 := Scalar.addi c0_i32_25 c7_i32_26
  let c1_i32_27 : BitVec 32 := 1#32
  ⟨c0_i32_25, v29, c1_i32_27⟩
@[reducible] def k2_t3_loop : Scf.Loop 32 :=
  let c0_i32_44 : BitVec 32 := 0#32
  let c7_i32_45 : BitVec 32 := 7#32
  let v52 : BitVec 32 := Scalar.addi c0_i32_44 c7_i32_45
  let c1_i32_46 : BitVec 32 := 1#32
  ⟨c0_i32_44, v52, c1_i32_46⟩
def cc2_transform_0 (i : grid2.Coords) : Fin 4 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc2_transform_1 (i : grid2.Coords) : Fin 3 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x3x384x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2x576 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x576 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_k" => some ((192⁻¹ : ℝ) : EReal)
  | _ => none
-- ==== ReferenceIdeal.lean ====
abbrev S32x384x24x24 : Shape := ⟨4, ![32, 384, 24, 24]⟩
abbrev S3 : Shape := ⟨1, ![3]⟩
abbrev S_ : Shape := ⟨0, ![]⟩
abbrev S32x384 : Shape := ⟨2, ![32, 384]⟩
abbrev S32x386 : Shape := ⟨2, ![32, 386]⟩
abbrev S1 : Shape := ⟨1, ![1]⟩
abbrev S32x384x1x1 : Shape := ⟨4, ![32, 384, 1, 1]⟩
abbrev S32x192x24x24 : Shape := ⟨4, ![32, 192, 24, 24]⟩
abbrev S32x24x24 : Shape := ⟨3, ![32, 24, 24]⟩

abbrev nBuf : Space → Nat
  | .hbm => 46
  | .vmem => 0
  | .smem => 0
  | _ => 0

abbrev bufTy : (tb : Table) → Fin (tcTables nBuf tb) → BufTy
  | .hbm, ⟨0, _⟩ => ⟨S32x384x24x24, .f32⟩
  | .hbm, ⟨1, _⟩ => ⟨S3, .f32⟩
  | .hbm, ⟨2, _⟩ => ⟨S_, .f32⟩
  | .hbm, ⟨3, _⟩ => ⟨S32x384, .f32⟩
  | .hbm, ⟨4, _⟩ => ⟨S_, .f32⟩
  | .hbm, ⟨5, _⟩ => ⟨S32x384, .f32⟩
  | .hbm, ⟨6, _⟩ => ⟨S32x384, .f32⟩
  | .hbm, ⟨7, _⟩ => ⟨S_, .i32⟩
  | .hbm, ⟨8, _⟩ => ⟨S_, .f32⟩
  | .hbm, ⟨9, _⟩ => ⟨S32x386, .f32⟩
  | .hbm, ⟨10, _⟩ => ⟨S32x384, .f32⟩
  | .hbm, ⟨11, _⟩ => ⟨S1, .f32⟩
  | .hbm, ⟨12, _⟩ => ⟨S_, .f32⟩
  | .hbm, ⟨13, _⟩ => ⟨S32x384, .f32⟩
  | .hbm, ⟨14, _⟩ => ⟨S32x384, .f32⟩
  | .hbm, ⟨15, _⟩ => ⟨S32x384, .f32⟩
  | .hbm, ⟨16, _⟩ => ⟨S1, .f32⟩
  | .hbm, ⟨17, _⟩ => ⟨S_, .f32⟩
  | .hbm, ⟨18, _⟩ => ⟨S32x384, .f32⟩
  | .hbm, ⟨19, _⟩ => ⟨S32x384, .f32⟩
  | .hbm, ⟨20, _⟩ => ⟨S32x384, .f32⟩
  | .hbm, ⟨21, _⟩ => ⟨S32x384, .f32⟩
  | .hbm, ⟨22, _⟩ => ⟨S1, .f32⟩
  | .hbm, ⟨23, _⟩ => ⟨S_, .f32⟩
  | .hbm, ⟨24, _⟩ => ⟨S32x384, .f32⟩
  | .hbm, ⟨25, _⟩ => ⟨S32x384, .f32⟩
  | .hbm, ⟨26, _⟩ => ⟨S32x384, .f32⟩
  | .hbm, ⟨27, _⟩ => ⟨S32x384, .f32⟩
  | .hbm, ⟨28, _⟩ => ⟨S32x384, .f32⟩
  | .hbm, ⟨29, _⟩ => ⟨S_, .f32⟩
  | .hbm, ⟨30, _⟩ => ⟨S32x384, .f32⟩
  | .hbm, ⟨31, _⟩ => ⟨S32x384, .f32⟩
  | .hbm, ⟨32, _⟩ => ⟨S_, .f32⟩
  | .hbm, ⟨33, _⟩ => ⟨S32x384, .f32⟩
  | .hbm, ⟨34, _⟩ => ⟨S32x384, .f32⟩
  | .hbm, ⟨35, _⟩ => ⟨S32x384x1x1, .f32⟩
  | .hbm, ⟨36, _⟩ => ⟨S32x384x24x24, .f32⟩
  | .hbm, ⟨37, _⟩ => ⟨S32x384x24x24, .f32⟩
  | .hbm, ⟨38, _⟩ => ⟨S32x384x24x24, .f32⟩
  | .hbm, ⟨39, _⟩ => ⟨S32x384x24x24, .f32⟩
  | .hbm, ⟨40, _⟩ => ⟨S32x192x24x24, .f32⟩
  | .hbm, ⟨41, _⟩ => ⟨S_, .f32⟩
  | .hbm, ⟨42, _⟩ => ⟨S32x24x24, .f32⟩
  | .hbm, ⟨43, _⟩ => ⟨S_, .f32⟩
  | .hbm, ⟨44, _⟩ => ⟨S32x24x24, .f32⟩
  | .hbm, ⟨45, _⟩ => ⟨S32x24x24, .f32⟩
  | _, _ => ⟨S32x384x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== ExcessIdeal.lean ====
abbrev S32x384x24x24 : Shape := ⟨4, ![32, 384, 24, 24]⟩
abbrev S3 : Shape := ⟨1, ![3]⟩
abbrev S_ : Shape := ⟨0, ![]⟩
abbrev S32x384 : Shape := ⟨2, ![32, 384]⟩
abbrev S32x386 : Shape := ⟨2, ![32, 386]⟩
abbrev S1 : Shape := ⟨1, ![1]⟩
abbrev S32x384x1x1 : Shape := ⟨4, ![32, 384, 1, 1]⟩
abbrev S32x1x24x24 : Shape := ⟨4, ![32, 1, 24, 24]⟩
abbrev S32x24x24 : Shape := ⟨3, ![32, 24, 24]⟩
abbrev S32 : Shape := ⟨1, ![32]⟩
abbrev S32x1x1 : Shape := ⟨3, ![32, 1, 1]⟩
abbrev S129 : Shape := ⟨1, ![129]⟩
abbrev S1x129x1x1 : Shape := ⟨4, ![1, 129, 1, 1]⟩
abbrev S32x129x24x24 : Shape := ⟨4, ![32, 129, 24, 24]⟩
abbrev S32x192x24x24 : Shape := ⟨4, ![32, 192, 24, 24]⟩

abbrev nBuf : Space → Nat
  | .hbm => 118
  | .vmem => 0
  | .smem => 0
  | _ => 0

abbrev bufTy : (tb : Table) → Fin (tcTables nBuf tb) → BufTy
  | .hbm, ⟨0, _⟩ => ⟨S32x384x24x24, .f32⟩
  | .hbm, ⟨1, _⟩ => ⟨S3, .f32⟩
  | .hbm, ⟨2, _⟩ => ⟨S_, .f32⟩
  | .hbm, ⟨3, _⟩ => ⟨S32x384, .f32⟩
  | .hbm, ⟨4, _⟩ => ⟨S_, .f32⟩
  | .hbm, ⟨5, _⟩ => ⟨S32x384, .f32⟩
  | .hbm, ⟨6, _⟩ => ⟨S32x384, .f32⟩
  | .hbm, ⟨7, _⟩ => ⟨S_, .i32⟩
  | .hbm, ⟨8, _⟩ => ⟨S_, .f32⟩
  | .hbm, ⟨9, _⟩ => ⟨S32x386, .f32⟩
  | .hbm, ⟨10, _⟩ => ⟨S32x384, .f32⟩
  | .hbm, ⟨11, _⟩ => ⟨S1, .f32⟩
  | .hbm, ⟨12, _⟩ => ⟨S_, .f32⟩
  | .hbm, ⟨13, _⟩ => ⟨S32x384, .f32⟩
  | .hbm, ⟨14, _⟩ => ⟨S32x384, .f32⟩
  | .hbm, ⟨15, _⟩ => ⟨S32x384, .f32⟩
  | .hbm, ⟨16, _⟩ => ⟨S1, .f32⟩
  | .hbm, ⟨17, _⟩ => ⟨S_, .f32⟩
  | .hbm, ⟨18, _⟩ => ⟨S32x384, .f32⟩
  | .hbm, ⟨19, _⟩ => ⟨S32x384, .f32⟩
  | .hbm, ⟨20, _⟩ => ⟨S32x384, .f32⟩
  | .hbm, ⟨21, _⟩ => ⟨S32x384, .f32⟩
  | .hbm, ⟨22, _⟩ => ⟨S1, .f32⟩
  | .hbm, ⟨23, _⟩ => ⟨S_, .f32⟩
  | .hbm, ⟨24, _⟩ => ⟨S32x384, .f32⟩
  | .hbm, ⟨25, _⟩ => ⟨S32x384, .f32⟩
  | .hbm, ⟨26, _⟩ => ⟨S32x384, .f32⟩
  | .hbm, ⟨27, _⟩ => ⟨S32x384, .f32⟩
  | .hbm, ⟨28, _⟩ => ⟨S32x384, .f32⟩
  | .hbm, ⟨29, _⟩ => ⟨S_, .f32⟩
  | .hbm, ⟨30, _⟩ => ⟨S32x384, .f32⟩
  | .hbm, ⟨31, _⟩ => ⟨S32x384, .f32⟩
  | .hbm, ⟨32, _⟩ => ⟨S_, .f32⟩
  | .hbm, ⟨33, _⟩ => ⟨S32x384, .f32⟩
  | .hbm, ⟨34, _⟩ => ⟨S32x384, .f32⟩
  | .hbm, ⟨35, _⟩ => ⟨S32x384x1x1, .f32⟩
  | .hbm, ⟨36, _⟩ => ⟨S32x384x24x24, .f32⟩
  | .hbm, ⟨37, _⟩ => ⟨S32x384x24x24, .f32⟩
  | .hbm, ⟨38, _⟩ => ⟨S32x384x24x24, .f32⟩
  | .hbm, ⟨39, _⟩ => ⟨S32x384x24x24, .f32⟩
  | .hbm, ⟨40, _⟩ => ⟨S32x1x24x24, .f32⟩
  | .hbm, ⟨41, _⟩ => ⟨S32x24x24, .f32⟩
  | .hbm, ⟨42, _⟩ => ⟨S32x1x24x24, .f32⟩
  | .hbm, ⟨43, _⟩ => ⟨S32x24x24, .f32⟩
  | .hbm, ⟨44, _⟩ => ⟨S32x24x24, .f32⟩
  | .hbm, ⟨45, _⟩ => ⟨S_, .f32⟩
  | .hbm, ⟨46, _⟩ => ⟨S32x24x24, .f32⟩
  | .hbm, ⟨47, _⟩ => ⟨S32x24x24, .f32⟩
  | .hbm, ⟨48, _⟩ => ⟨S_, .f32⟩
  | .hbm, ⟨49, _⟩ => ⟨S32x24x24, .f32⟩
  | .hbm, ⟨50, _⟩ => ⟨S32x24x24, .f32⟩
  | .hbm, ⟨51, _⟩ => ⟨S32x24x24, .f32⟩
  | .hbm, ⟨52, _⟩ => ⟨S32x24x24, .f32⟩
  | .hbm, ⟨53, _⟩ => ⟨S_, .f32⟩
  | .hbm, ⟨54, _⟩ => ⟨S32x24x24, .f32⟩
  | .hbm, ⟨55, _⟩ => ⟨S32x24x24, .f32⟩
  | .hbm, ⟨56, _⟩ => ⟨S_, .f32⟩
  | .hbm, ⟨57, _⟩ => ⟨S32x24x24, .f32⟩
  | .hbm, ⟨58, _⟩ => ⟨S32x24x24, .f32⟩
  | .hbm, ⟨59, _⟩ => ⟨S32x24x24, .f32⟩
  | .hbm, ⟨60, _⟩ => ⟨S32, .i32⟩
  | .hbm, ⟨61, _⟩ => ⟨S_, .i32⟩
  | .hbm, ⟨62, _⟩ => ⟨S32, .i32⟩
  | .hbm, ⟨63, _⟩ => ⟨S32, .i1⟩
  | .hbm, ⟨64, _⟩ => ⟨S_, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32x24x24, .f32⟩
  | .hbm, ⟨71, _⟩ => ⟨S32x24x24, .i1⟩
  | .hbm, ⟨72, _⟩ => ⟨S_, .f32⟩
  | .hbm, ⟨73, _⟩ => ⟨S32x24x24, .f32⟩
  | .hbm, ⟨74, _⟩ => ⟨S32x24x24, .i1⟩
  | .hbm, ⟨75, _⟩ => ⟨S32x24x24, .i1⟩
  | .hbm, ⟨76, _⟩ => ⟨S32x24x24, .f32⟩
  | .hbm, ⟨77, _⟩ => ⟨S32x1x1, .f32⟩
  | .hbm, ⟨78, _⟩ => ⟨S32x1x1, .f32⟩
  | .hbm, ⟨79, _⟩ => ⟨S32x24x24, .f32⟩
  | .hbm, ⟨80, _⟩ => ⟨S32x24x24, .f32⟩
  | .hbm, ⟨81, _⟩ => ⟨S129, .f32⟩
  | .hbm, ⟨82, _⟩ => ⟨S32x1x24x24, .f32⟩
  | .hbm, ⟨83, _⟩ => ⟨S1x129x1x1, .f32⟩
  | .hbm, ⟨84, _⟩ => ⟨S32x1x24x24, .f32⟩
  | .hbm, ⟨85, _⟩ => ⟨S32x129x24x24, .f32⟩
  | .hbm, ⟨86, _⟩ => ⟨S32x129x24x24, .f32⟩
  | .hbm, ⟨87, _⟩ => ⟨S32x129x24x24, .f32⟩
  | .hbm, ⟨88, _⟩ => ⟨S32x129x24x24, .f32⟩
  | .hbm, ⟨89, _⟩ => ⟨S32x129x24x24, .f32⟩
  | .hbm, ⟨90, _⟩ => ⟨S32x1x24x24, .f32⟩
  | .hbm, ⟨91, _⟩ => ⟨S32x129x24x24, .f32⟩
  | .hbm, ⟨92, _⟩ => ⟨S32x129x24x24, .i1⟩
  | .hbm, ⟨93, _⟩ => ⟨S_, .f32⟩
  | .hbm, ⟨94, _⟩ => ⟨S_, .f32⟩
  | .hbm, ⟨95, _⟩ => ⟨S32x129x24x24, .f32⟩
  | .hbm, ⟨96, _⟩ => ⟨S32x129x24x24, .f32⟩
  | .hbm, ⟨97, _⟩ => ⟨S_, .f32⟩
  | .hbm, ⟨98, _⟩ => ⟨S32x24x24, .f32⟩
  | .hbm, ⟨99, _⟩ => ⟨S32x1x24x24, .f32⟩
  | .hbm, ⟨100, _⟩ => ⟨S32x192x24x24, .f32⟩
  | .hbm, ⟨101, _⟩ => ⟨S_, .f32⟩
  | .hbm, ⟨102, _⟩ => ⟨S32x24x24, .f32⟩
  | .hbm, ⟨103, _⟩ => ⟨S_, .f32⟩
  | .hbm, ⟨104, _⟩ => ⟨S32x24x24, .f32⟩
  | .hbm, ⟨105, _⟩ => ⟨S32x24x24, .f32⟩
  | .hbm, ⟨106, _⟩ => ⟨S32x192x24x24, .f32⟩
  | .hbm, ⟨107, _⟩ => ⟨S32x192x24x24, .f32⟩
  | .hbm, ⟨108, _⟩ => ⟨S32x192x24x24, .f32⟩
  | .hbm, ⟨109, _⟩ => ⟨S_, .f32⟩
  | .hbm, ⟨110, _⟩ => ⟨S32x192x24x24, .f32⟩
  | .hbm, ⟨111, _⟩ => ⟨S32x192x24x24, .f32⟩
  | .hbm, ⟨112, _⟩ => ⟨S_, .f32⟩
  | .hbm, ⟨113, _⟩ => ⟨S32x24x24, .f32⟩
  | .hbm, ⟨114, _⟩ => ⟨S_, .f32⟩
  | .hbm, ⟨115, _⟩ => ⟨S32x24x24, .f32⟩
  | .hbm, ⟨116, _⟩ => ⟨S32x24x24, .f32⟩
  | .hbm, ⟨117, _⟩ => ⟨S32x24x24, .f32⟩
  | _, _ => ⟨S32x384x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_cst_9 : Ref sig .tc := ⟨.hbm, 65, rfl⟩
abbrev main_call3_v0 : Ref sig .tc := ⟨.hbm, 66, rfl⟩
abbrev main_call3_v1 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_call4_v0 : Ref sig .tc := ⟨.hbm, 94, rfl⟩
abbrev main_call4_v1 : Ref sig .tc := ⟨.hbm, 95, rfl⟩
abbrev main_v74 : Ref sig .tc := ⟨.hbm, 96, rfl⟩
abbrev main_cst_13 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_14 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_cst_17 : Ref sig .tc := ⟨.hbm, 112, rfl⟩
abbrev main_v86 : Ref sig .tc := ⟨.hbm, 113, rfl⟩
abbrev main_cst_18 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]
-- ==== Proof.Setup.lean ====
/-
  The launch set-up of the kernel: the program as the launch theorem sees it, the ghost state, the buffers the
  SparseCore call works on, and the closed forms of the offsets its tiles copy from and to.

  Tile `(c, s)` is number `2 s + c`; it takes image `n / 3` and chunk `n % 3` of its number `n`.
-/
module

public import Idealize.ShloMosaic.Lib.SparseCore.Quiescent
public import Idealize.ShloMosaic.Lib.StableHlo.Run
public import Idealize.ShloMosaic.Lib.Pipeline.Kit
public import Idealize.ShloMosaic.Lib.Pipeline.RegionArraysS
public import Idealize.ShloMosaic.Lib.Tactic
public import proofs.«01_k».proof.Proof.Gen.KernelIdeal
public import proofs.«01_k».proof.Proof.Gen.KernelIdeal.Launch
public import proofs.«01_k».proof.Proof.Gen.KernelIdeal.Skeleton

@[expose] public section

noncomputable section

namespace Cert.Proof.TopK

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP [FloatOps F] [Named F] : Labels := Pipeline.Sig Λ₀ (Fin 2) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the two TensorCore pipelines' rounds, and the transfers' counters. -/
abbrev UH : Type := URounds (GSem nD τ sig) ℕ
abbrev UP : Type := URounds (GSem nD τ sig) Unit
abbrev UU : Type := UH × (UP × Counters)

abbrev MM (F : FTy → Type) := MT nD τ sig (HIx 1) (Elt F) ℕ UU ℕ
local notation "𝕄" => MM F

abbrev EH : Emb UH (MM F) := embL
abbrev EP : Emb UP (MM F) := (Emb.inl : Emb UP (UP × Counters)).trans embR

abbrev xLoc (d : Dev nD) : Loc nD τ sig := (SparseCore.T d).loc main_arg0
abbrev wLoc (d : Dev nD) : Loc nD τ sig := (SparseCore.T d).loc main_arg1
abbrev fwLoc (d : Dev nD) : Loc nD τ sig := (SparseCore.T d).loc main_v1_0
abbrev mmLoc (d : Dev nD) : Loc nD τ sig := (SparseCore.T d).loc main_v1_1
abbrev oLoc (d : Dev nD) : Loc nD τ sig := (SparseCore.T d).loc main_v2

/-- The number of the tile at the coordinates `L`. -/
abbrev wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

theorem off1_eq (L : grid1.Coords) : k1_off1 L = ![wid L / 3, 0, 0] := by revert L; decide +kernel
theorem off2_eq (L : grid1.Coords) : k1_off2 L = ![wid L / 3, wid L % 3, 0, 0] := by revert L; decide +kernel
theorem off10_eq (L : grid1.Coords) : k1_off10 L = ![wid L / 3, wid L % 3, 0] := by revert L; decide +kernel
theorem off3_eq (L : grid1.Coords) (g : Fin k1_t1_loop.trips) : k1_off3 L g = ![0, 192 * (wid L % 3) + 16 * g.val] := by revert L g; decide +kernel
theorem off4_eq (L : grid1.Coords) (g : Fin k1_t1_loop.trips) : k1_off4 L g = ![1, 192 * (wid L % 3) + 16 * g.val] := by revert L g; decide +kernel

theorem trips1 : k1_t1_loop.trips = 12 := by decide
theorem trips2 : k1_t2_loop.trips = 6 := by decide
theorem trips3 : k1_t3_loop.trips = 48 := by decide
theorem trips4 : k1_t4_loop.trips = 96 := by decide

/-- A counted loop's state after `n` trips. -/
def iter {α : Type} {N : ℕ} (f : Fin N → α → α) (a : α) : ℕ → α
  | 0 => a
  | n + 1 => if h : n < N then f ⟨n, h⟩ (iter f a n) else iter f a n

theorem iter_succ {α : Type} {N : ℕ} (f : Fin N → α → α) (a : α) (k : Fin N) : iter f a (k.val + 1) = f k (iter f a k.val) := by
  show (if h : k.val < N then f ⟨k.val, h⟩ (iter f a k.val) else iter f a k.val) = _
  rw [dif_pos k.isLt]

end Cert.Proof.TopK

end
-- ==== Proof.Gate.lean ====
/-
  The first TensorCore call: what it writes of a block of four images, and its body.
-/
module

public import proofs.«01_k».proof.Proof.Setup
public import proofs.«01_k».proof.Proof.Gen.KernelIdeal.Points
public import Idealize.ShloMosaic.Lib.Pipeline.FrameBody
public import Idealize.ShloMosaic.Lib.ValueLayout

@[expose] public section

set_option maxRecDepth 16384

noncomputable section

namespace Cert.Proof.TopK

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MM F

/-- Image `i` of a block of four. -/
def imgOf (X : Vec F S4x384x576 .f32) (i : Fin 4) : Vec F S1x384x576 .f32 := fun y => X (ix3 i (y 1) (y 2))

/-- The memref's buffer on the TensorCore, held whole. -/
abbrev tPt (d : Dev nD) {sp : Space} {S : Shape} {e : EltTy} (M : Memref sig .tc sp S e) (f : Buf (Elt F) (M.view.loc (d : Thread nD τ))) : sProp 𝕄 :=
  M.view.loc (d : Thread nD τ) ↦{fullShare} f

/-- The gated values of one image: each channel times the sigmoid of the convolution of the channel means. -/
abbrev gated (b : Vec F S1x384x576 .f32) (w0 w1 w2 : Elt F .f32) : FVec F S384x576 .f32 := k0_pay3 b w0 w1 w2

section rfls
variable (b : Vec F S1x384x576 .f32) (w0 w1 w2 : Elt F .f32)
theorem gated_1 : k0_pay15 (k0_pay10 b) (k0_pay11 b) (k0_pay13 b) (k0_pay14 b w0) w1 w2 = gated b w0 w1 w2 := rfl
theorem gated_2 : k0_pay22 b w0 w1 w2 = gated b w0 w1 w2 := rfl
theorem gated_3 : k0_pay31 (k0_pay29 b) (k0_pay30 b) w0 w1 w2 = gated b w0 w1 w2 := rfl
end rfls

/-- The gated values of four images, in chunks of 192 pixels. -/
def gateFw (X : Vec F S4x384x576 .f32) (W : Vec F S3 .f32) : Vec F S4x3x384x192 .f32 := fun y =>
  gated (imgOf X (y 0)) (W (ix1 (n := 3) 0)) (W (ix1 (n := 3) 1)) (W (ix1 (n := 3) 2))
    (ix2 (n0 := 384) (n1 := 576) (y 2) ⟨192 * (y 1).val + (y 3).val, by have h : (y 1).val < 3 := (y 1).isLt; have h' : (y 3).val < 192 := (y 3).isLt; omega⟩)

/-- The brackets of four images: below the least and above the greatest gated value of each pixel. -/
def gateMm (X : Vec F S4x384x576 .f32) (W : Vec F S3 .f32) : Vec F S4x2x576 .f32 := fun y =>
  if (y 1).val = 0 then k0_pay8 (gated (imgOf X (y 0)) (W (ix1 (n := 3) 0)) (W (ix1 (n := 3) 1)) (W (ix1 (n := 3) 2))) (ix3 (n0 := 1) (n1 := 1) (n2 := 576) 0 0 (y 2))
  else k0_pay9 (gated (imgOf X (y 0)) (W (ix1 (n := 3) 0)) (W (ix1 (n := 3) 1)) (W (ix1 (n := 3) 2))) (ix3 (n0 := 1) (n1 := 1) (n2 := 576) 0 0 (y 2))

theorem mem_chunk (y : S4x3x384x192.Idx) (i j : ℕ) (h0 : (y 0).val = i) (h1 : (y 1).val = j) (inb : ∀ a, (![i, j, 0, 0] : Fin 4 → ℕ) a + S1x1x384x192.size a ≤ S4x3x384x192.size a) :
    y ∈ (Rect.unit (s := S4x3x384x192) ![i, j, 0, 0] S1x1x384x192.size inb).set := by
  have h2 : (y 2).val < 384 := (y 2).isLt
  have h3 : (y 3).val < 192 := (y 3).isLt
  refine Rect.mem_set_unit.mpr fun a => ?_
  match a with
  | ⟨0, _⟩ => exact ⟨h0.ge, by show (y 0).val < i + 1; omega⟩
  | ⟨1, _⟩ => exact ⟨h1.ge, by show (y 1).val < j + 1; omega⟩
  | ⟨2, _⟩ => exact ⟨Nat.zero_le _, by show (y 2).val < 0 + 384; omega⟩
  | ⟨3, _⟩ => exact ⟨Nat.zero_le _, by show (y 3).val < 0 + 192; omega⟩

theorem mem_ends (y : S4x2x576.Idx) (i j : ℕ) (h0 : (y 0).val = i) (h1 : (y 1).val = j) (inb : ∀ a, (![i, j, 0] : Fin 3 → ℕ) a + S1x1x576.size a ≤ S4x2x576.size a) :
    y ∈ (Rect.unit (s := S4x2x576) ![i, j, 0] S1x1x576.size inb).set := by
  have h2 : (y 2).val < 576 := (y 2).isLt
  refine Rect.mem_set_unit.mpr fun a => ?_
  match a with
  | ⟨0, _⟩ => exact ⟨h0.ge, by show (y 0).val < i + 1; omega⟩
  | ⟨1, _⟩ => exact ⟨h1.ge, by show (y 1).val < j + 1; omega⟩
  | ⟨2, _⟩ => exact ⟨Nat.zero_le _, by show (y 2).val < 0 + 576; omega⟩

theorem imgOf_eq (X : Vec F S4x384x576 .f32) (i : Fin 4) (inb : ∀ a, (![i.val, 0, 0] : Fin 3 → ℕ) a + S1x384x576.size a ≤ S4x384x576.size a) :
    (fun y : S1x384x576.Idx => X ((Rect.unit (s := S4x384x576) ![i.val, 0, 0] S1x384x576.size inb).idx y)) = imgOf X i := by
  funext y
  refine congrArg X (funext fun a => Fin.ext ?_)
  have h : (y 0).val < 1 := (y 0).isLt
  match a with
  | ⟨0, _⟩ => show i.val + 1 * (y 0).val = i.val; omega
  | ⟨1, _⟩ => show 0 + 1 * (y 1).val = (y 1).val; omega
  | ⟨2, _⟩ => show 0 + 1 * (y 2).val = (y 2).val; omega

theorem chunk_apply (G : FVec F S384x576 .f32) (o : ℕ) (hs : S384x576.Slices ![0, o] S384x192) (hc : S384x192.ShapeCasts S1x1x384x192) (x : S1x1x384x192.Idx)
    (h : o + (x 3).val < 576) :
    shapeCast S1x1x384x192 (extractStridedSlice S384x192 ![0, o] G hs) hc x = G (ix2 (n0 := 384) (n1 := 576) (x 2) ⟨o + (x 3).val, h⟩) := by
  have h0 : (x 0).val < 1 := (x 0).isLt
  have h1 : (x 1).val < 1 := (x 1).isLt
  rw [shapeCast_apply (extractStridedSlice S384x192 ![0, o] G hs) hc x (ix2 (n0 := 384) (n1 := 192) (x 2) (x 3)) (by
    rw [Shape.rowMajor_val_two, Shape.rowMajor_val_four]
    show (x 2).val * 192 + (x 3).val = (((x 0).val * 1 + (x 1).val) * 384 + (x 2).val) * 192 + (x 3).val
    omega)]
  refine congrArg G (funext fun a => Fin.ext ?_)
  match a with
  | ⟨0, _⟩ => show 0 + (x 2).val = (x 2).val; omega
  | ⟨1, _⟩ => rfl

theorem piece_fw (X : Vec F S4x384x576 .f32) (W : Vec F S3 .f32) (i : Fin 4) (j : Fin 3) (o : ℕ) (ho : o = 192 * j.val) (b : Vec F S1x384x576 .f32) (hb : b = imgOf X i) (w0 w1 w2 : Elt F .f32)
    (hw0 : w0 = W (ix1 (n := 3) 0)) (hw1 : w1 = W (ix1 (n := 3) 1)) (hw2 : w2 = W (ix1 (n := 3) 2))
    (hs : S384x576.Slices ![0, o] S384x192) (hc : S384x192.ShapeCasts S1x1x384x192)
    (inb : ∀ a, (![i.val, j.val, 0, 0] : Fin 4 → ℕ) a + S1x1x384x192.size a ≤ S4x3x384x192.size a) (x : S1x1x384x192.Idx) :
    shapeCast S1x1x384x192 (extractStridedSlice S384x192 ![0, o] (gated b w0 w1 w2) hs) hc x
      = gateFw X W ((Rect.unit (s := S4x3x384x192) ![i.val, j.val, 0, 0] S1x1x384x192.size inb).emb x) := by
  subst ho hb hw0 hw1 hw2
  have h0 : (x 0).val < 1 := (x 0).isLt
  have h1 : (x 1).val < 1 := (x 1).isLt
  have h3 : (x 3).val < 192 := (x 3).isLt
  have hj : j.val < 3 := j.isLt
  rw [chunk_apply _ _ _ _ _ (by omega)]
  unfold gateFw
  have e0 : ((Rect.unit (s := S4x3x384x192) ![i.val, j.val, 0, 0] S1x1x384x192.size inb).emb x) 0 = i := Fin.ext (by
    rw [Rect.emb_apply]; show i.val + 1 * (x 0).val = i.val; omega)
  rw [e0]
  refine congrArg _ (funext fun a => Fin.ext ?_)
  match a with
  | ⟨0, _⟩ => show (x 2).val = 0 + 1 * (x 2).val; omega
  | ⟨1, _⟩ => show 192 * j.val + (x 3).val = 192 * (j.val + 1 * (x 1).val) + (0 + 1 * (x 3).val); omega

theorem piece_lo (X : Vec F S4x384x576 .f32) (W : Vec F S3 .f32) (i : Fin 4) (b : Vec F S1x384x576 .f32) (hb : b = imgOf X i) (w0 w1 w2 : Elt F .f32)
    (hw0 : w0 = W (ix1 (n := 3) 0)) (hw1 : w1 = W (ix1 (n := 3) 1)) (hw2 : w2 = W (ix1 (n := 3) 2))
    (inb : ∀ a, (![i.val, 0, 0] : Fin 3 → ℕ) a + S1x1x576.size a ≤ S4x2x576.size a) (x : S1x1x576.Idx) :
    k0_pay8 (gated b w0 w1 w2) x
      = gateMm X W ((Rect.unit (s := S4x2x576) ![i.val, 0, 0] S1x1x576.size inb).emb x) := by
  subst hb hw0 hw1 hw2
  have h0 : (x 0).val < 1 := (x 0).isLt
  have h1 : (x 1).val < 1 := (x 1).isLt
  unfold gateMm
  rw [if_pos (by rw [Rect.emb_apply]; show 0 + 1 * (x 1).val = 0; omega)]
  have e0 : ((Rect.unit (s := S4x2x576) ![i.val, 0, 0] S1x1x576.size inb).emb x) 0 = i := Fin.ext (by
    rw [Rect.emb_apply]; show i.val + 1 * (x 0).val = i.val; omega)
  rw [e0]
  refine congrArg _ (funext fun a => Fin.ext ?_)
  match a with
  | ⟨0, _⟩ => show (x 0).val = 0; omega
  | ⟨1, _⟩ => show (x 1).val = 0; omega
  | ⟨2, _⟩ => show (x 2).val = 0 + 1 * (x 2).val; omega

theorem piece_hi (X : Vec F S4x384x576 .f32) (W : Vec F S3 .f32) (i : Fin 4) (b : Vec F S1x384x576 .f32) (hb : b = imgOf X i) (w0 w1 w2 : Elt F .f32)
    (hw0 : w0 = W (ix1 (n := 3) 0)) (hw1 : w1 = W (ix1 (n := 3) 1)) (hw2 : w2 = W (ix1 (n := 3) 2))
    (inb : ∀ a, (![i.val, 1, 0] : Fin 3 → ℕ) a + S1x1x576.size a ≤ S4x2x576.size a) (x : S1x1x576.Idx) :
    k0_pay9 (gated b w0 w1 w2) x
      = gateMm X W ((Rect.unit (s := S4x2x576) ![i.val, 1, 0] S1x1x576.size inb).emb x) := by
  subst hb hw0 hw1 hw2
  have h0 : (x 0).val < 1 := (x 0).isLt
  have h1 : (x 1).val < 1 := (x 1).isLt
  unfold gateMm
  rw [if_neg (by rw [Rect.emb_apply]; show ¬ 1 + 1 * (x 1).val = 0; omega)]
  have e0 : ((Rect.unit (s := S4x2x576) ![i.val, 1, 0] S1x1x576.size inb).emb x) 0 = i := Fin.ext (by
    rw [Rect.emb_apply]; show i.val + 1 * (x 0).val = i.val; omega)
  rw [e0]
  refine congrArg _ (funext fun a => Fin.ext ?_)
  match a with
  | ⟨0, _⟩ => show (x 0).val = 0; omega
  | ⟨1, _⟩ => show (x 1).val = 0; omega
  | ⟨2, _⟩ => show (x 2).val = 0 + 1 * (x 2).val; omega

theorem weight_eq (W : Vec F S3 .f32) (k : Fin 3) (inb : ∀ a, (![k.val] : Fin 1 → ℕ) a + S1.size a ≤ S3.size a) (hpos : 0 < S1.numel) :
    W ((Rect.unit (s := S3) ![k.val] S1.size inb).idx (Shape.Idx.first hpos)) = W (ix1 (n := 3) k) := by
  refine congrArg W (funext fun a => Fin.ext ?_)
  obtain rfl : a = 0 := Subsingleton.elim (α := Fin 1) _ _
  have h : (Shape.Idx.first (s := S1) hpos 0).val < 1 := (Shape.Idx.first (s := S1) hpos 0).isLt
  show k.val + 1 * (Shape.Idx.first (s := S1) hpos 0).val = k.val
  omega

theorem fw_stored {sp : Space} (v : View sig .tc sp S4x3x384x192 .f32) (f : v.ty.Contents (Elt F)) (X : Vec F S4x384x576 .f32) (W : Vec F S3 .f32) (b0 b1 b2 b3 : Vec F S1x384x576 .f32)
    (h0 : b0 = imgOf X 0) (h1 : b1 = imgOf X 1) (h2 : b2 = imgOf X 2) (h3 : b3 = imgOf X 3) (w0 w1 w2 : Elt F .f32)
    (hw0 : w0 = W (ix1 (n := 3) 0)) (hw1 : w1 = W (ix1 (n := 3) 1)) (hw2 : w2 = W (ix1 (n := 3) 2)) :
    v.read (Elt F) (v.writes (Elt F) f [⟨Rect.unit (s := S4x3x384x192) ![3, 2, 0, 0] S1x1x384x192.size inb_S4x3x384x192_S1x1x384x192_3_2_0_0, k0_pay34 (k0_pay29 b3) (k0_pay30 b3) w0 w1 w2⟩,
      ⟨Rect.unit (s := S4x3x384x192) ![3, 1, 0, 0] S1x1x384x192.size inb_S4x3x384x192_S1x1x384x192_3_1_0_0, k0_pay33 (k0_pay29 b3) (k0_pay30 b3) w0 w1 w2⟩,
      ⟨Rect.unit (s := S4x3x384x192) ![3, 0, 0, 0] S1x1x384x192.size inb_S4x3x384x192_S1x1x384x192_3_0_0_0, k0_pay32 (k0_pay29 b3) (k0_pay30 b3) w0 w1 w2⟩,
      ⟨Rect.unit (s := S4x3x384x192) ![2, 2, 0, 0] S1x1x384x192.size inb_S4x3x384x192_S1x1x384x192_2_2_0_0, k0_pay26 (k0_pay22 b2 w0 w1 w2)⟩,
      ⟨Rect.unit (s := S4x3x384x192) ![2, 1, 0, 0] S1x1x384x192.size inb_S4x3x384x192_S1x1x384x192_2_1_0_0, k0_pay25 (k0_pay24 b2 w0 w1 w2)⟩,
      ⟨Rect.unit (s := S4x3x384x192) ![2, 0, 0, 0] S1x1x384x192.size inb_S4x3x384x192_S1x1x384x192_2_0_0_0, k0_pay23 b2 w0 w1 w2⟩,
      ⟨Rect.unit (s := S4x3x384x192) ![1, 2, 0, 0] S1x1x384x192.size inb_S4x3x384x192_S1x1x384x192_1_2_0_0, k0_pay18 (k0_pay10 b1) (k0_pay11 b1) (k0_pay13 b1) (k0_pay14 b1 w0) w1 w2⟩,
      ⟨Rect.unit (s := S4x3x384x192) ![1, 1, 0, 0] S1x1x384x192.size inb_S4x3x384x192_S1x1x384x192_1_1_0_0, k0_pay17 (k0_pay10 b1) (k0_pay11 b1) (k0_pay13 b1) (k0_pay14 b1 w0) w1 w2⟩,
      ⟨Rect.unit (s := S4x3x384x192) ![1, 0, 0, 0] S1x1x384x192.size inb_S4x3x384x192_S1x1x384x192_1_0_0_0, k0_pay16 (k0_pay10 b1) (k0_pay11 b1) (k0_pay13 b1) (k0_pay14 b1 w0) w1 w2⟩,
      ⟨Rect.unit (s := S4x3x384x192) ![0, 2, 0, 0] S1x1x384x192.size inb_S4x3x384x192_S1x1x384x192_0_2_0_0, k0_pay7 (k0_pay6 b0 w0 w1 w2)⟩,
      ⟨Rect.unit (s := S4x3x384x192) ![0, 1, 0, 0] S1x1x384x192.size inb_S4x3x384x192_S1x1x384x192_0_1_0_0, k0_pay5 b0 w0 w1 w2⟩,
      ⟨Rect.unit (s := S4x3x384x192) ![0, 0, 0, 0] S1x1x384x192.size inb_S4x3x384x192_S1x1x384x192_0_0_0_0, k0_pay4 b0 w0 w1 w2⟩]) = gateFw X W := by
  funext y
  refine View.read_writes_apply_of_pieces v f (gateFw X W) _ ?_ y ?_
  · clear y
    refine List.forall_mem_cons.mpr ⟨piece_fw X W 3 2 384 rfl b3 h3 w0 w1 w2 hw0 hw1 hw2 slices_S384x576_o0_384_S384x192 shapeCasts_S384x192_S1x1x384x192 inb_S4x3x384x192_S1x1x384x192_3_2_0_0, ?_⟩
    refine List.forall_mem_cons.mpr ⟨piece_fw X W 3 1 192 rfl b3 h3 w0 w1 w2 hw0 hw1 hw2 slices_S384x576_o0_192_S384x192 shapeCasts_S384x192_S1x1x384x192 inb_S4x3x384x192_S1x1x384x192_3_1_0_0, ?_⟩
    refine List.forall_mem_cons.mpr ⟨piece_fw X W 3 0 0 rfl b3 h3 w0 w1 w2 hw0 hw1 hw2 slices_S384x576_o0_0_S384x192 shapeCasts_S384x192_S1x1x384x192 inb_S4x3x384x192_S1x1x384x192_3_0_0_0, ?_⟩
    refine List.forall_mem_cons.mpr ⟨piece_fw X W 2 2 384 rfl b2 h2 w0 w1 w2 hw0 hw1 hw2 slices_S384x576_o0_384_S384x192 shapeCasts_S384x192_S1x1x384x192 inb_S4x3x384x192_S1x1x384x192_2_2_0_0, ?_⟩
    refine List.forall_mem_cons.mpr ⟨piece_fw X W 2 1 192 rfl b2 h2 w0 w1 w2 hw0 hw1 hw2 slices_S384x576_o0_192_S384x192 shapeCasts_S384x192_S1x1x384x192 inb_S4x3x384x192_S1x1x384x192_2_1_0_0, ?_⟩
    refine List.forall_mem_cons.mpr ⟨piece_fw X W 2 0 0 rfl b2 h2 w0 w1 w2 hw0 hw1 hw2 slices_S384x576_o0_0_S384x192 shapeCasts_S384x192_S1x1x384x192 inb_S4x3x384x192_S1x1x384x192_2_0_0_0, ?_⟩
    refine List.forall_mem_cons.mpr ⟨piece_fw X W 1 2 384 rfl b1 h1 w0 w1 w2 hw0 hw1 hw2 slices_S384x576_o0_384_S384x192 shapeCasts_S384x192_S1x1x384x192 inb_S4x3x384x192_S1x1x384x192_1_2_0_0, ?_⟩
    refine List.forall_mem_cons.mpr ⟨piece_fw X W 1 1 192 rfl b1 h1 w0 w1 w2 hw0 hw1 hw2 slices_S384x576_o0_192_S384x192 shapeCasts_S384x192_S1x1x384x192 inb_S4x3x384x192_S1x1x384x192_1_1_0_0, ?_⟩
    refine List.forall_mem_cons.mpr ⟨piece_fw X W 1 0 0 rfl b1 h1 w0 w1 w2 hw0 hw1 hw2 slices_S384x576_o0_0_S384x192 shapeCasts_S384x192_S1x1x384x192 inb_S4x3x384x192_S1x1x384x192_1_0_0_0, ?_⟩
    refine List.forall_mem_cons.mpr ⟨piece_fw X W 0 2 384 rfl b0 h0 w0 w1 w2 hw0 hw1 hw2 slices_S384x576_o0_384_S384x192 shapeCasts_S384x192_S1x1x384x192 inb_S4x3x384x192_S1x1x384x192_0_2_0_0, ?_⟩
    refine List.forall_mem_cons.mpr ⟨piece_fw X W 0 1 192 rfl b0 h0 w0 w1 w2 hw0 hw1 hw2 slices_S384x576_o0_192_S384x192 shapeCasts_S384x192_S1x1x384x192 inb_S4x3x384x192_S1x1x384x192_0_1_0_0, ?_⟩
    refine List.forall_mem_cons.mpr ⟨piece_fw X W 0 0 0 rfl b0 h0 w0 w1 w2 hw0 hw1 hw2 slices_S384x576_o0_0_S384x192 shapeCasts_S384x192_S1x1x384x192 inb_S4x3x384x192_S1x1x384x192_0_0_0_0, ?_⟩
    exact fun _ h => absurd h List.not_mem_nil
  · have hy0 : (y 0).val < 4 := (y 0).isLt
    have hy1 : (y 1).val < 3 := (y 1).isLt
    clear h0 h1
    obtain ⟨h0, h1⟩ | ⟨h0, h1⟩ | ⟨h0, h1⟩ | ⟨h0, h1⟩ | ⟨h0, h1⟩ | ⟨h0, h1⟩ | ⟨h0, h1⟩ | ⟨h0, h1⟩ | ⟨h0, h1⟩ | ⟨h0, h1⟩ | ⟨h0, h1⟩ | ⟨h0, h1⟩ : (y 0).val = 0 ∧ (y 1).val = 0 ∨ (y 0).val = 0 ∧ (y 1).val = 1 ∨ (y 0).val = 0 ∧ (y 1).val = 2 ∨ (y 0).val = 1 ∧ (y 1).val = 0 ∨ (y 0).val = 1 ∧ (y 1).val = 1 ∨ (y 0).val = 1 ∧ (y 1).val = 2 ∨ (y 0).val = 2 ∧ (y 1).val = 0 ∨ (y 0).val = 2 ∧ (y 1).val = 1 ∨ (y 0).val = 2 ∧ (y 1).val = 2 ∨ (y 0).val = 3 ∧ (y 1).val = 0 ∨ (y 0).val = 3 ∧ (y 1).val = 1 ∨ (y 0).val = 3 ∧ (y 1).val = 2 := by omega
    · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_chunk y 0 0 h0 h1 inb_S4x3x384x192_S1x1x384x192_0_0_0_0⟩
    · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_chunk y 0 1 h0 h1 inb_S4x3x384x192_S1x1x384x192_0_1_0_0⟩
    · exact ⟨_, (List.Mem.tail _ (List.Mem.tail _ (List.Mem.tail _ (List.Mem.tail _ (List.Mem.tail _ (List.Mem.tail _ (List.Mem.tail _ (List.Mem.tail _ (List.Mem.tail _ (List.Mem.head _)))))))))), mem_chunk y 0 2 h0 h1 inb_S4x3x384x192_S1x1x384x192_0_2_0_0⟩
    · exact ⟨_, (List.Mem.tail _ (List.Mem.tail _ (List.Mem.tail _ (List.Mem.tail _ (List.Mem.tail _ (List.Mem.tail _ (List.Mem.tail _ (List.Mem.tail _ (List.Mem.head _))))))))), mem_chunk y 1 0 h0 h1 inb_S4x3x384x192_S1x1x384x192_1_0_0_0⟩
    · exact ⟨_, (List.Mem.tail _ (List.Mem.tail _ (List.Mem.tail _ (List.Mem.tail _ (List.Mem.tail _ (List.Mem.tail _ (List.Mem.tail _ (List.Mem.head _)))))))), mem_chunk y 1 1 h0 h1 inb_S4x3x384x192_S1x1x384x192_1_1_0_0⟩
    · exact ⟨_, (List.Mem.tail _ (List.Mem.tail _ (List.Mem.tail _ (List.Mem.tail _ (List.Mem.tail _ (List.Mem.tail _ (List.Mem.head _))))))), mem_chunk y 1 2 h0 h1 inb_S4x3x384x192_S1x1x384x192_1_2_0_0⟩
    · exact ⟨_, (List.Mem.tail _ (List.Mem.tail _ (List.Mem.tail _ (List.Mem.tail _ (List.Mem.tail _ (List.Mem.head _)))))), mem_chunk y 2 0 h0 h1 inb_S4x3x384x192_S1x1x384x192_2_0_0_0⟩
    · exact ⟨_, (List.Mem.tail _ (List.Mem.tail _ (List.Mem.tail _ (List.Mem.tail _ (List.Mem.head _))))), mem_chunk y 2 1 h0 h1 inb_S4x3x384x192_S1x1x384x192_2_1_0_0⟩
    · exact ⟨_, (List.Mem.tail _ (List.Mem.tail _ (List.Mem.tail _ (List.Mem.head _)))), mem_chunk y 2 2 h0 h1 inb_S4x3x384x192_S1x1x384x192_2_2_0_0⟩
    · exact ⟨_, (List.Mem.tail _ (List.Mem.tail _ (List.Mem.head _))), mem_chunk y 3 0 h0 h1 inb_S4x3x384x192_S1x1x384x192_3_0_0_0⟩
    · exact ⟨_, (List.Mem.tail _ (List.Mem.head _)), mem_chunk y 3 1 h0 h1 inb_S4x3x384x192_S1x1x384x192_3_1_0_0⟩
    · exact ⟨_, (List.Mem.head _), mem_chunk y 3 2 h0 h1 inb_S4x3x384x192_S1x1x384x192_3_2_0_0⟩

theorem mm_stored {sp : Space} (v : View sig .tc sp S4x2x576 .f32) (f : v.ty.Contents (Elt F)) (X : Vec F S4x384x576 .f32) (W : Vec F S3 .f32) (b0 b1 b2 b3 : Vec F S1x384x576 .f32)
    (h0 : b0 = imgOf X 0) (h1 : b1 = imgOf X 1) (h2 : b2 = imgOf X 2) (h3 : b3 = imgOf X 3) (w0 w1 w2 : Elt F .f32)
    (hw0 : w0 = W (ix1 (n := 3) 0)) (hw1 : w1 = W (ix1 (n := 3) 1)) (hw2 : w2 = W (ix1 (n := 3) 2)) :
    v.read (Elt F) (v.writes (Elt F) f [⟨Rect.unit (s := S4x2x576) ![3, 1, 0] S1x1x576.size inb_S4x2x576_S1x1x576_3_1_0, k0_pay2 (k0_pay36 (k0_pay29 b3) (k0_pay30 b3) w0 w1 w2)⟩,
      ⟨Rect.unit (s := S4x2x576) ![3, 0, 0] S1x1x576.size inb_S4x2x576_S1x1x576_3_0_0, k0_pay1 (k0_pay35 (k0_pay29 b3) (k0_pay30 b3) w0 w1 w2) (k0_pay37 (k0_pay29 b3) (k0_pay30 b3) w0 w1 w2)⟩,
      ⟨Rect.unit (s := S4x2x576) ![2, 1, 0] S1x1x576.size inb_S4x2x576_S1x1x576_2_1_0, k0_pay28 (k0_pay22 b2 w0 w1 w2)⟩,
      ⟨Rect.unit (s := S4x2x576) ![2, 0, 0] S1x1x576.size inb_S4x2x576_S1x1x576_2_0_0, k0_pay27 (k0_pay22 b2 w0 w1 w2)⟩,
      ⟨Rect.unit (s := S4x2x576) ![1, 1, 0] S1x1x576.size inb_S4x2x576_S1x1x576_1_1_0, k0_pay21 (k0_pay19 (k0_pay10 b1) (k0_pay11 b1) (k0_pay13 b1) (k0_pay14 b1 w0) w1 w2)⟩,
      ⟨Rect.unit (s := S4x2x576) ![1, 0, 0] S1x1x576.size inb_S4x2x576_S1x1x576_1_0_0, k0_pay20 (k0_pay10 b1) (k0_pay11 b1) (k0_pay13 b1) (k0_pay14 b1 w0) w1 w2⟩,
      ⟨Rect.unit (s := S4x2x576) ![0, 1, 0] S1x1x576.size inb_S4x2x576_S1x1x576_0_1_0, k0_pay9 (k0_pay3 b0 w0 w1 w2)⟩,
      ⟨Rect.unit (s := S4x2x576) ![0, 0, 0] S1x1x576.size inb_S4x2x576_S1x1x576_0_0_0, k0_pay8 (k0_pay3 b0 w0 w1 w2)⟩]) = gateMm X W := by
  funext y
  refine View.read_writes_apply_of_pieces v f (gateMm X W) _ ?_ y ?_
  · clear y
    refine List.forall_mem_cons.mpr ⟨piece_hi X W 3 b3 h3 w0 w1 w2 hw0 hw1 hw2 inb_S4x2x576_S1x1x576_3_1_0, ?_⟩
    refine List.forall_mem_cons.mpr ⟨piece_lo X W 3 b3 h3 w0 w1 w2 hw0 hw1 hw2 inb_S4x2x576_S1x1x576_3_0_0, ?_⟩
    refine List.forall_mem_cons.mpr ⟨piece_hi X W 2 b2 h2 w0 w1 w2 hw0 hw1 hw2 inb_S4x2x576_S1x1x576_2_1_0, ?_⟩
    refine List.forall_mem_cons.mpr ⟨piece_lo X W 2 b2 h2 w0 w1 w2 hw0 hw1 hw2 inb_S4x2x576_S1x1x576_2_0_0, ?_⟩
    refine List.forall_mem_cons.mpr ⟨piece_hi X W 1 b1 h1 w0 w1 w2 hw0 hw1 hw2 inb_S4x2x576_S1x1x576_1_1_0, ?_⟩
    refine List.forall_mem_cons.mpr ⟨piece_lo X W 1 b1 h1 w0 w1 w2 hw0 hw1 hw2 inb_S4x2x576_S1x1x576_1_0_0, ?_⟩
    refine List.forall_mem_cons.mpr ⟨piece_hi X W 0 b0 h0 w0 w1 w2 hw0 hw1 hw2 inb_S4x2x576_S1x1x576_0_1_0, ?_⟩
    refine List.forall_mem_cons.mpr ⟨piece_lo X W 0 b0 h0 w0 w1 w2 hw0 hw1 hw2 inb_S4x2x576_S1x1x576_0_0_0, ?_⟩
    exact fun _ h => absurd h List.not_mem_nil
  · have hy0 : (y 0).val < 4 := (y 0).isLt
    have hy1 : (y 1).val < 2 := (y 1).isLt
    clear h0 h1
    obtain ⟨h0, h1⟩ | ⟨h0, h1⟩ | ⟨h0, h1⟩ | ⟨h0, h1⟩ | ⟨h0, h1⟩ | ⟨h0, h1⟩ | ⟨h0, h1⟩ | ⟨h0, h1⟩ : (y 0).val = 0 ∧ (y 1).val = 0 ∨ (y 0).val = 0 ∧ (y 1).val = 1 ∨ (y 0).val = 1 ∧ (y 1).val = 0 ∨ (y 0).val = 1 ∧ (y 1).val = 1 ∨ (y 0).val = 2 ∧ (y 1).val = 0 ∨ (y 0).val = 2 ∧ (y 1).val = 1 ∨ (y 0).val = 3 ∧ (y 1).val = 0 ∨ (y 0).val = 3 ∧ (y 1).val = 1 := by omega
    · exact ⟨_, (List.Mem.tail _ (List.Mem.tail _ (List.Mem.tail _ (List.Mem.tail _ (List.Mem.tail _ (List.Mem.tail _ (List.Mem.tail _ (List.Mem.head _)))))))), mem_ends y 0 0 h0 h1 inb_S4x2x576_S1x1x576_0_0_0⟩
    · exact ⟨_, (List.Mem.tail _ (List.Mem.tail _ (List.Mem.tail _ (List.Mem.tail _ (List.Mem.tail _ (List.Mem.tail _ (List.Mem.head _))))))), mem_ends y 0 1 h0 h1 inb_S4x2x576_S1x1x576_0_1_0⟩
    · exact ⟨_, (List.Mem.tail _ (List.Mem.tail _ (List.Mem.tail _ (List.Mem.tail _ (List.Mem.tail _ (List.Mem.head _)))))), mem_ends y 1 0 h0 h1 inb_S4x2x576_S1x1x576_1_0_0⟩
    · exact ⟨_, (List.Mem.tail _ (List.Mem.tail _ (List.Mem.tail _ (List.Mem.tail _ (List.Mem.head _))))), mem_ends y 1 1 h0 h1 inb_S4x2x576_S1x1x576_1_1_0⟩
    · exact ⟨_, (List.Mem.tail _ (List.Mem.tail _ (List.Mem.tail _ (List.Mem.head _)))), mem_ends y 2 0 h0 h1 inb_S4x2x576_S1x1x576_2_0_0⟩
    · exact ⟨_, (List.Mem.tail _ (List.Mem.tail _ (List.Mem.head _))), mem_ends y 2 1 h0 h1 inb_S4x2x576_S1x1x576_2_1_0⟩
    · exact ⟨_, (List.Mem.tail _ (List.Mem.head _)), mem_ends y 3 0 h0 h1 inb_S4x2x576_S1x1x576_3_0_0⟩
    · exact ⟨_, (List.Mem.head _), mem_ends y 3 1 h0 h1 inb_S4x2x576_S1x1x576_3_1_0⟩

theorem gate_run (d : Dev nD) (i : grid0.Coords) (M1 : Memref sig .tc .smem S3 .f32) (h1 : M1.IsWhole) (M2 : Memref sig .tc .vmem S4x384x576 .f32) (h2 : M2.IsWhole)
    (M3 : Memref sig .tc .vmem S4x3x384x192 .f32) (h3 : M3.IsWhole) (M4 : Memref sig .tc .vmem S4x2x576 .f32) (h4 : M4.IsWhole)
    (f1 f2 f3 f4) (E : Set ℕ) (Q : PUnit → sProp 𝕄) :
    iprop(tPt (F := F) d M1 f1 ∗ tPt d M2 f2 ∗ tPt d M3 f3 ∗ tPt d M4 f4
        ∗ (iprop(∃ g3 g4, iprop(tPt d M1 f1 ∗ tPt d M2 f2 ∗ tPt d M3 g3 ∗ tPt d M4 g4)
            ∗ ⌜M3.view.read (Elt F) g3 = gateFw (M2.view.read (Elt F) f2) (M1.view.read (Elt F) f1) ∧ M4.view.read (Elt F) g4 = gateMm (M2.view.read (Elt F) f2) (M1.view.read (Elt F) f1)⌝) -∗ Q ⟨⟩))
      ⊢ wp frame (wpE (defs₀ (F := F)) Variants.none (d : Thread nD τ) none) E (cc0__gate_body i M1 h1 M2 h2 M3 h3 M4 h4) Q := by
  iintro ⟨H1, H2, H3, H4, Hk⟩
  sl_exec_parts
  sl_step
  iapply Hk
  iexists _; iexists _
  isplitl [H1 H2 H3 H4]
  · isplitl [H1]; · iexact H1
    isplitl [H2]; · iexact H2
    isplitl [H3]; · iexact H3
    iexact H4
  ipureintro
  constructor
  · exact fw_stored M3.view f3 (M2.view.read (Elt F) f2) (M1.view.read (Elt F) f1) _ _ _ _ (imgOf_eq _ 0 inb_S4x384x576_S1x384x576_0_0_0) (imgOf_eq _ 1 inb_S4x384x576_S1x384x576_1_0_0) (imgOf_eq _ 2 inb_S4x384x576_S1x384x576_2_0_0) (imgOf_eq _ 3 inb_S4x384x576_S1x384x576_3_0_0) _ _ _ (weight_eq _ 0 inb_S3_S1_0 (by decide)) (weight_eq _ 1 inb_S3_S1_1 (by decide)) (weight_eq _ 2 inb_S3_S1_2 (by decide))
  · exact mm_stored M4.view f4 (M2.view.read (Elt F) f2) (M1.view.read (Elt F) f1) _ _ _ _ (imgOf_eq _ 0 inb_S4x384x576_S1x384x576_0_0_0) (imgOf_eq _ 1 inb_S4x384x576_S1x384x576_1_0_0) (imgOf_eq _ 2 inb_S4x384x576_S1x384x576_2_0_0) (imgOf_eq _ 3 inb_S4x384x576_S1x384x576_3_0_0) _ _ _ (weight_eq _ 0 inb_S3_S1_0 (by decide)) (weight_eq _ 1 inb_S3_S1_1 (by decide)) (weight_eq _ 2 inb_S3_S1_2 (by decide))

end Cert.Proof.TopK
-- ==== Proof.Topk.lean ====
/-
  The second TensorCore call: the means of one image, and its body.
-/
module

public import proofs.«01_k».proof.Proof.Gate

@[expose] public section

set_option maxRecDepth 16384

noncomputable section

namespace Cert.Proof.TopK

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MM F

/-- Channels `0 … 383` of chunk `j` of an image. -/
def chunkOf (A : Vec F S1x3x384x192 .f32) (j : Fin 3) : Vec F S1x1x384x192 .f32 := fun x => A (ix4 (n0 := 1) (n1 := 3) (n2 := 384) (n3 := 192) 0 j (x 2) (x 3))

/-- Row `r` of the brackets of chunk `j`. -/
def endsOf (B : Vec F S1x2x576 .f32) (r : Fin 2) (j : Fin 3) : Vec F S1x1x192 .f32 := fun x =>
  B (ix3 (n0 := 1) (n1 := 2) (n2 := 576) 0 r ⟨192 * j.val + (x 2).val, by have h : (x 2).val < 192 := (x 2).isLt; have h' := j.isLt; omega⟩)

/-- The bracket of each pixel of a chunk after the seven halvings. -/
def chunkBrk (b : Vec F S1x1x384x192 .f32) (lo hi : Vec F S1x1x192 .f32) : FVec F S1x192 .f32 × FVec F S1x192 .f32 :=
  Scf.fold (fun (_ : Fin k2_t1_loop.trips) s => (k2_pay7 b s.1 s.2, k2_pay8 b s.1 s.2)) (k2_pay3 lo, k2_pay4 hi)

/-- The mean of each pixel of a chunk. -/
def chunkMean (b : Vec F S1x1x384x192 .f32) (lo hi : Vec F S1x1x192 .f32) : FVec F S1x1x192 .f32 := k2_pay9 b (chunkBrk b lo hi).1

section spellings
variable (b : Vec F S1x1x384x192 .f32) (lo hi : Vec F S1x1x192 .f32)
theorem chunkMean_1 : k2_pay17 (k2_pay10 b) (Scf.fold (fun (_ : Fin k2_t2_loop.trips) s => (k2_pay15 (k2_pay10 b) s.1 s.2, k2_pay16 (k2_pay10 b) s.1 s.2)) (k2_pay11 lo, k2_pay12 hi)).1
    = chunkMean b lo hi := rfl
theorem chunkMean_2 : k2_pay1 (Scf.fold (fun (_ : Fin k2_t3_loop.trips) s => (k2_pay23 b s.1 s.2, k2_pay24 b s.1 s.2)) (k2_pay19 lo, k2_pay20 hi)).1
      (k2_pay25 b (Scf.fold (fun (_ : Fin k2_t3_loop.trips) s => (k2_pay23 b s.1 s.2, k2_pay24 b s.1 s.2)) (k2_pay19 lo, k2_pay20 hi)).1)
    = chunkMean b lo hi := rfl
end spellings

/-- The means of an image, of its gated values and its brackets. -/
def topMean (A : Vec F S1x3x384x192 .f32) (B : Vec F S1x2x576 .f32) : Vec F S1x1x576 .f32 := fun y =>
  have hj : (y 2).val / 192 < 3 := by have h : (y 2).val < 576 := (y 2).isLt; omega
  chunkMean (chunkOf A ⟨(y 2).val / 192, hj⟩) (endsOf B 0 ⟨(y 2).val / 192, hj⟩) (endsOf B 1 ⟨(y 2).val / 192, hj⟩)
    (ix3 (n0 := 1) (n1 := 1) (n2 := 192) 0 0 ⟨(y 2).val % 192, Nat.mod_lt _ (by decide)⟩)

theorem chunkOf_eq (A : Vec F S1x3x384x192 .f32) (j : Fin 3) (inb : ∀ a, (![0, j.val, 0, 0] : Fin 4 → ℕ) a + S1x1x384x192.size a ≤ S1x3x384x192.size a) :
    (fun x : S1x1x384x192.Idx => A ((Rect.unit (s := S1x3x384x192) ![0, j.val, 0, 0] S1x1x384x192.size inb).idx x)) = chunkOf A j := by
  funext y
  refine congrArg A (funext fun a => Fin.ext ?_)
  have h : (y 0).val < 1 := (y 0).isLt
  have h' : (y 1).val < 1 := (y 1).isLt
  match a with
  | ⟨0, _⟩ => show 0 + 1 * (y 0).val = 0; omega
  | ⟨1, _⟩ => show j.val + 1 * (y 1).val = j.val; omega
  | ⟨2, _⟩ => show 0 + 1 * (y 2).val = (y 2).val; omega
  | ⟨3, _⟩ => show 0 + 1 * (y 3).val = (y 3).val; omega

theorem endsOf_eq (B : Vec F S1x2x576 .f32) (r : Fin 2) (j : Fin 3) (o : ℕ) (ho : o = 192 * j.val) (inb : ∀ a, (![0, r.val, o] : Fin 3 → ℕ) a + S1x1x192.size a ≤ S1x2x576.size a) :
    (fun x : S1x1x192.Idx => B ((Rect.unit (s := S1x2x576) ![0, r.val, o] S1x1x192.size inb).idx x)) = endsOf B r j := by
  subst ho
  funext y
  refine congrArg B (funext fun a => Fin.ext ?_)
  have h : (y 0).val < 1 := (y 0).isLt
  have h' : (y 1).val < 1 := (y 1).isLt
  match a with
  | ⟨0, _⟩ => show 0 + 1 * (y 0).val = 0; omega
  | ⟨1, _⟩ => show r.val + 1 * (y 1).val = r.val; omega
  | ⟨2, _⟩ => show 192 * j.val + 1 * (y 2).val = 192 * j.val + (y 2).val; omega

theorem piece_mean (A : Vec F S1x3x384x192 .f32) (B : Vec F S1x2x576 .f32) (j : Fin 3) (o : ℕ) (ho : o = 192 * j.val) (b : Vec F S1x1x384x192 .f32) (hb : b = chunkOf A j)
    (lo hi : Vec F S1x1x192 .f32) (hlo : lo = endsOf B 0 j) (hhi : hi = endsOf B 1 j)
    (inb : ∀ a, (![0, 0, o] : Fin 3 → ℕ) a + S1x1x192.size a ≤ S1x1x576.size a) (x : S1x1x192.Idx) :
    chunkMean b lo hi x = topMean A B ((Rect.unit (s := S1x1x576) ![0, 0, o] S1x1x192.size inb).emb x) := by
  subst ho hb hlo hhi
  have h0 : (x 0).val < 1 := (x 0).isLt
  have h1 : (x 1).val < 1 := (x 1).isLt
  have h2 : (x 2).val < 192 := (x 2).isLt
  unfold topMean
  have e2 : ((Rect.unit (s := S1x1x576) ![0, 0, 192 * j.val] S1x1x192.size inb).emb x 2).val = 192 * j.val + (x 2).val := by
    rw [Rect.emb_apply]; show 192 * j.val + 1 * (x 2).val = _; omega
  have ej : (⟨((Rect.unit (s := S1x1x576) ![0, 0, 192 * j.val] S1x1x192.size inb).emb x 2).val / 192, by rw [e2]; have := j.isLt; omega⟩ : Fin 3) = j :=
    Fin.ext (by show _ / 192 = _; rw [e2]; omega)
  dsimp only
  rw [ej]
  refine congrArg _ (funext fun a => Fin.ext ?_)
  match a with
  | ⟨0, _⟩ => show (x 0).val = 0; omega
  | ⟨1, _⟩ => show (x 1).val = 0; omega
  | ⟨2, _⟩ => show (x 2).val = _ % 192; rw [e2]; omega

theorem mem_means (y : S1x1x576.Idx) (o : ℕ) (h : o ≤ (y 2).val ∧ (y 2).val < o + 192) (inb : ∀ a, (![0, 0, o] : Fin 3 → ℕ) a + S1x1x192.size a ≤ S1x1x576.size a) :
    y ∈ (Rect.unit (s := S1x1x576) ![0, 0, o] S1x1x192.size inb).set := by
  have h0 : (y 0).val < 1 := (y 0).isLt
  have h1 : (y 1).val < 1 := (y 1).isLt
  refine Rect.mem_set_unit.mpr fun a => ?_
  match a with
  | ⟨0, _⟩ => exact ⟨Nat.zero_le _, by show (y 0).val < 0 + 1; omega⟩
  | ⟨1, _⟩ => exact ⟨Nat.zero_le _, by show (y 1).val < 0 + 1; omega⟩
  | ⟨2, _⟩ => exact h

theorem means_stored {sp : Space} (v : View sig .tc sp S1x1x576 .f32) (f : v.ty.Contents (Elt F)) (A : Vec F S1x3x384x192 .f32) (B : Vec F S1x2x576 .f32)
    (b0 b1 b2 : Vec F S1x1x384x192 .f32) (h0 : b0 = chunkOf A 0) (h1 : b1 = chunkOf A 1) (h2 : b2 = chunkOf A 2)
    (l0 l1 l2 u0 u1 u2 : Vec F S1x1x192 .f32) (hl0 : l0 = endsOf B 0 0) (hl1 : l1 = endsOf B 0 1) (hl2 : l2 = endsOf B 0 2)
    (hu0 : u0 = endsOf B 1 0) (hu1 : u1 = endsOf B 1 1) (hu2 : u2 = endsOf B 1 2) :
    v.read (Elt F) (v.writes (Elt F) f
      [⟨Rect.unit (s := S1x1x576) ![0, 0, 384] S1x1x192.size inb_S1x1x576_S1x1x192_0_0_384, chunkMean b2 l2 u2⟩,
       ⟨Rect.unit (s := S1x1x576) ![0, 0, 192] S1x1x192.size inb_S1x1x576_S1x1x192_0_0_192, chunkMean b1 l1 u1⟩,
       ⟨Rect.unit (s := S1x1x576) ![0, 0, 0] S1x1x192.size inb_S1x1x576_S1x1x192_0_0_0, chunkMean b0 l0 u0⟩]) = topMean A B := by
  funext y
  refine View.read_writes_apply_of_pieces v f (topMean A B) _ ?_ y ?_
  · clear y
    refine List.forall_mem_cons.mpr ⟨piece_mean A B 2 384 rfl b2 h2 l2 u2 hl2 hu2 inb_S1x1x576_S1x1x192_0_0_384, ?_⟩
    refine List.forall_mem_cons.mpr ⟨piece_mean A B 1 192 rfl b1 h1 l1 u1 hl1 hu1 inb_S1x1x576_S1x1x192_0_0_192, ?_⟩
    refine List.forall_mem_cons.mpr ⟨piece_mean A B 0 0 rfl b0 h0 l0 u0 hl0 hu0 inb_S1x1x576_S1x1x192_0_0_0, ?_⟩
    exact fun _ h => absurd h List.not_mem_nil
  · have hy : (y 2).val < 576 := (y 2).isLt
    clear h0 h1 h2
    obtain h | h | h : (0 ≤ (y 2).val ∧ (y 2).val < 0 + 192) ∨ (192 ≤ (y 2).val ∧ (y 2).val < 192 + 192) ∨ (384 ≤ (y 2).val ∧ (y 2).val < 384 + 192) := by omega
    · exact ⟨_, List.Mem.tail _ (List.Mem.tail _ (List.Mem.head _)), mem_means y 0 h inb_S1x1x576_S1x1x192_0_0_0⟩
    · exact ⟨_, List.Mem.tail _ (List.Mem.head _), mem_means y 192 h inb_S1x1x576_S1x1x192_0_0_192⟩
    · exact ⟨_, List.Mem.head _, mem_means y 384 h inb_S1x1x576_S1x1x192_0_0_384⟩

theorem topk_run (d : Dev nD) (i : grid2.Coords) (M1 : Memref sig .tc .vmem S1x3x384x192 .f32) (h1 : M1.IsWhole) (M2 : Memref sig .tc .vmem S1x2x576 .f32) (h2 : M2.IsWhole)
    (M3 : Memref sig .tc .vmem S1x1x576 .f32) (h3 : M3.IsWhole)
    (f1 f2 f3) (E : Set ℕ) (Q : PUnit → sProp 𝕄) :
    iprop(tPt (F := F) d M1 f1 ∗ tPt d M2 f2 ∗ tPt d M3 f3
        ∗ (iprop(∃ g3, iprop(tPt d M1 f1 ∗ tPt d M2 f2 ∗ tPt d M3 g3)
            ∗ ⌜M3.view.read (Elt F) g3 = topMean (M1.view.read (Elt F) f1) (M2.view.read (Elt F) f2)⌝) -∗ Q ⟨⟩))
      ⊢ wp frame (wpE (defs₀ (F := F)) Variants.none (d : Thread nD τ) none) E (cc2__tc_topk_body i M1 h1 M2 h2 M3 h3) Q := by
  iintro ⟨H1, H2, H3, Hk⟩
  sl_exec_parts
  sl_step
  iapply Hk
  iexists _
  isplitl [H1 H2 H3]
  · isplitl [H1]; · iexact H1
    isplitl [H2]; · iexact H2
    iexact H3
  ipureintro
  exact means_stored M3.view f3 (M1.view.read (Elt F) f1) (M2.view.read (Elt F) f2) _ _ _ (chunkOf_eq _ 0 inb_S1x3x384x192_S1x1x384x192_0_0_0_0) (chunkOf_eq _ 1 inb_S1x3x384x192_S1x1x384x192_0_1_0_0) (chunkOf_eq _ 2 inb_S1x3x384x192_S1x1x384x192_0_2_0_0) _ _ _ _ _ _ (endsOf_eq _ 0 0 0 rfl inb_S1x2x576_S1x1x192_0_0_0) (endsOf_eq _ 0 1 192 rfl inb_S1x2x576_S1x1x192_0_0_192) (endsOf_eq _ 0 2 384 rfl inb_S1x2x576_S1x1x192_0_0_384) (endsOf_eq _ 1 0 0 rfl inb_S1x2x576_S1x1x192_0_1_0) (endsOf_eq _ 1 1 192 rfl inb_S1x2x576_S1x1x192_0_1_192) (endsOf_eq _ 1 2 384 rfl inb_S1x2x576_S1x1x192_0_1_384)

end Cert.Proof.TopK
-- ==== Proof.Region.lean ====
/-
  The two TensorCore pallas_calls as regions of @main.

  A region is entered from every array of the device at a valuation `V` and left with its result arrays at what its
  grid points write back. While it runs the core keeps owing the SparseCores what it owed before, and the waits it has
  recorded stay below the bound they were below.
-/
module

public import proofs.«01_k».proof.Proof.Topk

@[expose] public section

set_option maxRecDepth 16384

noncomputable section

namespace Cert.Proof.TopK

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligation ucRefs arrRef arrRefs)

variable {F : FTy → Type} [FloatOps F] [Named F]

local notation "𝕄" => MM F

/-- No pipeline has a prefetched table. -/
abbrev adm : (p : Fin 2) → (pcfgs (F := F) p).Adm := fun p => (cfgs p).toPCfg_adm

/-- A family of proof data for the two pipelines. -/
abbrev Dats (F : FTy → Type) [FloatOps F] [Named F] : Type _ :=
  (p : Fin 2) → (c : Dev nD) → Dat τ (Elt F) (HIx 1) ℕ UU ℕ (Pipeline.pin (pcfgs (F := F)) adm p) c

/-- The core owes nothing at the index the pipelines' own waits use. -/
theorem Otc_none (d : Dev nD) (n : ℕ) (g : GSem nD τ sig) : (K (F := F)).Otc (N := 1) d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg (fun h => nomatch h.2)]
  · rfl

/-- The pairs at or below level `b`. -/
def below (d : Dev nD) (b : ℕ) : Set (SemLoc sig × HIx 1) := {q | (K (F := F)).lev (T d, q.1) q.2 ≤ b}

/-- What the core owes before call `n`, its recorded waits at or below `b`. -/
def owing (d : Dev nD) (n b : ℕ) : sProp 𝕄 := iprop(∃ W, ⌜(K (F := F)).WBelow (T d) W b⌝ ∗ owes (T d) ((K (F := F)).Otc d n) W)

/-- A TensorCore region over the device's arrays at a valuation. -/
def region {p : Fin 2} (kit : Pipeline.LaunchFacts (nD := nD) (τ := τ) cfgs p) (pdats : Dats F) (n b : ℕ)
    (hbody : ∀ c, BodyObligation (pdats p c) (defs₀ (F := F)) 𝒱₀ none Set.univ)
    (howed : ∀ c t, (pdats p c).owed t = (K (F := F)).Otc c n)
    (hrec : ∀ c t, (pdats p c).recorded t = below (F := F) c b)
    (hΦ : ∀ c t, (pdats p c).Φ t = Pipeline.scopedRest (Pipeline.pin (pcfgs (F := F)) adm p).spec c)
    (hshare : ∀ c w, (pdats p c).share w = fullShare)
    (V : Dev nD → Valuation τ sig (Elt F))
    (hV : ∀ c w, (pdats p c).A w = V c (Proc.devRef .tc (arrRef (Pipeline.pin (pcfgs (F := F)) adm p).spec w))) :
    Pipeline.RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_of_cut (Pipeline.pin (pcfgs (F := F)) adm) pdats none p c 0 ((K (F := F)).Otc c n) (howed c)
    (fun _ _ => Finset.mem_univ _) (fun _ _ => le_of_eq rfl) (fun g i h => ⟨Finset.mem_univ _, by
      cases i with
      | none => rw [Otc_none] at h; exact absurd h (Nat.lt_irrefl 0)
      | some q => exact (K (F := F)).lev_some_pos g q⟩)
  pre c := iprop(held (c.tc : Thread nD τ) (ucRefs τ sig) (V c) ∗ owing c n b)
  post c := iprop(held (c.tc : Thread nD τ) (ucRefs τ sig) (Pipeline.afterRegion (pdats p c) (V c)) ∗ owing c n b)
  X _ := BI.emp
  Y _ := BI.emp
  Z c := held (c.tc : Thread nD τ) (ucRefs τ sig \ arrRefs (pcfgs (F := F) p).spec) (V c)
  hentry c := by
    rw [Pipeline.ownSems0_none, Pipeline.prefHeld_of_none _ rfl,
      StableHlo.held_sub_split (c.tc : Thread nD τ) (Pipeline.arrRefs_sub_ucRefs (τ := τ) (pcfgs (F := F) p).spec kit.win.arr_unscoped) (V c),
      Pipeline.arrays_held (pcfgs (F := F)) adm pdats p kit.toP c (hshare c) ((pdats p c).arrAt · 0) (V c) (hV c)]
    iintro ⟨⟨⟨Ha, Hr⟩, HO⟩, -, -⟩
    imodintro
    isplitl [Ha]; · iexact Ha
    isplitr; · iempintro
    isplitl [HO]
    · unfold Pipeline.Dat.owesAt Pipeline.owesWithin Pipeline.Dat.bound owing
      rw [howed c 0, hrec c 0]
      icases HO with ⟨%W, %hW, HO⟩
      iexists W
      isplitr
      · ipureintro; exact fun q hq => Or.inl (hW q hq)
      iexact HO
    isplitr; · iempintro
    iexact Hr
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    rw [StableHlo.held_sub_split (c.tc : Thread nD τ) (Pipeline.arrRefs_sub_ucRefs (τ := τ) (pcfgs (F := F) p).spec kit.win.arr_unscoped)
        (Pipeline.afterRegion (pdats p c) (V c)),
      StableHlo.held_congr (c.tc : Thread nD τ) (S := ucRefs τ sig \ arrRefs (pcfgs (F := F) p).spec)
        (V := Pipeline.afterRegion (pdats p c) (V c)) (V' := V c) (Pipeline.afterRegion_off (pdats p c) (V c) _),
      Pipeline.arrays_held (pcfgs (F := F)) adm pdats p kit.toP c (hshare c) ((pdats p c).arrAt · (Pipeline.pin (pcfgs (F := F)) adm p).N)
        (Pipeline.afterRegion (pdats p c) (V c)) fun w => (Pipeline.afterRegion_arr (pdats p c) (V c) kit.win.arr_inj w).symm]
    iintro ⟨Ha, HO, -, Hr⟩
    imodintro
    isplitl [Ha Hr]; · isplitl [Ha] <;> iassumption
    unfold Pipeline.Dat.owesAt Pipeline.owesWithin Pipeline.Dat.bound owing
    rw [howed c (Fin.last _), hrec c (Fin.last _)]
    icases HO with ⟨%W, %hW, HO⟩
    iexists W
    isplitr
    · ipureintro
      intro q hq
      rcases hW hq with h | ⟨w, s, rfl⟩
      · exact h
      · exact Nat.zero_le _
    iexact HO

end Cert.Proof.TopK

end
-- ==== Proof.RegionDat.lean ====
/-
  What the two TensorCore pallas_calls do at each grid point, as the pipelines' proof data, entered from the device's
  arrays at a valuation `V`.

  At grid point `t` the gate kernel finds the block of images `4 t … 4 t + 3` and leaves their gated images and their
  widened ends; the top-k kernel finds the gated image `t + 10` and its ends and leaves that image's means.
-/
module

public import proofs.«01_k».proof.Proof.Region

@[expose] public section

set_option maxRecDepth 16384

noncomputable section

namespace Cert.Proof.TopK

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligation ucRefs arrRef arrRefs)

variable {F : FTy → Type} [FloatOps F] [Named F]

local notation "𝕄" => MM F

/-- The weights' block at grid point `t` of the gate kernel, and the images'. -/
abbrev wBlk (V : Valuation τ sig (Elt F)) (t : Fin cfg0.N) : Vec F S3 .f32 :=
  ((cfg0.win 0).blk t).view.read (Elt F) (V (Proc.devRef .tc (arrRef spec0 0)))
abbrev xBlk (V : Valuation τ sig (Elt F)) (t : Fin cfg0.N) : Vec F S4x384x576 .f32 :=
  ((cfg0.win 1).blk t).view.read (Elt F) (V (Proc.devRef .tc (arrRef spec0 1)))

/-- The gated image's block at grid point `t` of the top-k kernel, and its ends'. -/
abbrev fwBlk (V : Valuation τ sig (Elt F)) (t : Fin cfg2.N) : Vec F S1x3x384x192 .f32 :=
  ((cfg2.win 0).blk t).view.read (Elt F) (V (Proc.devRef .tc (arrRef spec2 0)))
abbrev mmBlk (V : Valuation τ sig (Elt F)) (t : Fin cfg2.N) : Vec F S1x2x576 .f32 :=
  ((cfg2.win 1).blk t).view.read (Elt F) (V (Proc.devRef .tc (arrRef spec2 1)))

variable (V : Dev nD → Valuation τ sig (Elt F)) (n b : ℕ)

/-- The gate kernel's proof data. -/
def dat0 (c : Dev nD) : Dat τ (Elt F) (HIx 1) ℕ UU ℕ cfg0 c where
  A w := V c (Proc.devRef .tc (arrRef spec0 w))
  after w t := match w with
    | ⟨0, _⟩ => wBlk (V c) t
    | ⟨1, _⟩ => xBlk (V c) t
    | ⟨2, _⟩ => gateFw (xBlk (V c) t) (wBlk (V c) t)
    | ⟨3, _⟩ => gateMm (xBlk (V c) t) (wBlk (V c) t)
  Φ _ := Pipeline.scopedRest (Pipeline.pin (pcfgs (F := F)) adm 0).spec c
  q _ := fullShare
  owed _ := (K (F := F)).Otc c n
  recorded _ := below (F := F) c b

/-- The top-k kernel's proof data. -/
def dat2 (c : Dev nD) : Dat τ (Elt F) (HIx 1) ℕ UU ℕ cfg2 c where
  A w := V c (Proc.devRef .tc (arrRef spec2 w))
  after w t := match w with
    | ⟨0, _⟩ => fwBlk (V c) t
    | ⟨1, _⟩ => mmBlk (V c) t
    | ⟨2, _⟩ => topMean (fwBlk (V c) t) (mmBlk (V c) t)
  Φ _ := Pipeline.scopedRest (Pipeline.pin (pcfgs (F := F)) adm 1).spec c
  q _ := fullShare
  owed _ := (K (F := F)).Otc c n
  recorded _ := below (F := F) c b

/-- The two together. -/
def pdats : Dats F
  | ⟨0, _⟩ => fun c => dat0 V n b c
  | ⟨1, _⟩ => fun c => dat2 V n b c

/-- A staging buffer held at contents it reads as `X`. -/
theorem owns_tPt (c : Dev nD) {sp : Space} {sh : Shape} {e : EltTy} (M : Memref sig .tc sp sh e) (h : M.IsWhole) (X : sh.Idx → Elt F e) :
    (owns (c : Thread nD τ) M fullShare X : sProp 𝕄) = iprop(∃ f, ⌜M.view.read (Elt F) f = X⌝ ∗ tPt c M f) := by
  unfold owns tPt
  rw [h.set_eq_univ]

theorem before0_0 (c : Dev nD) (t : Fin cfg0.N) (x) : (dat0 V n b c).before 0 t x = wBlk (V c) t :=
  (dat0 V n b c).before_in_eq_fetched 0 rfl (fun _ => rfl) (fun _ _ _ => rfl) (fun _ => by dsimp only [dat0]; rfl) t x
theorem before0_1 (c : Dev nD) (t : Fin cfg0.N) (x) : (dat0 V n b c).before 1 t x = xBlk (V c) t :=
  (dat0 V n b c).before_in_eq_fetched 1 rfl (fun _ => rfl) (fun _ _ _ => rfl) (fun _ => by dsimp only [dat0]; rfl) t x
theorem before2_0 (c : Dev nD) (t : Fin cfg2.N) (x) : (dat2 V n b c).before 0 t x = fwBlk (V c) t :=
  (dat2 V n b c).before_in_eq_fetched 0 rfl (fun _ => rfl) (fun _ _ _ => rfl) (fun _ => by dsimp only [dat2]; rfl) t x
theorem before2_1 (c : Dev nD) (t : Fin cfg2.N) (x) : (dat2 V n b c).before 1 t x = mmBlk (V c) t :=
  (dat2 V n b c).before_in_eq_fetched 1 rfl (fun _ => rfl) (fun _ _ _ => rfl) (fun _ => by dsimp only [dat2]; rfl) t x

set_option backward.isDefEq.respectTransparency.types false in
/-- The gate kernel's body at a grid point. -/
theorem body0 (c : Dev nD) : BodyObligation (dat0 V n b c) (defs₀ (F := F)) 𝒱₀ none Set.univ := fun t => by
  rw [bigSep_W0, bigSep_W0]
  rw [show (dat0 V n b c).Φ t.succ = (dat0 V n b c).Φ t.castSucc from rfl,
    show (dat0 V n b c).owesAt none t.succ = (dat0 V n b c).owesAt none t.castSucc from rfl]
  iintro ⟨HΦ, Howes, ⟨%d0, H0⟩, ⟨%d1, H1⟩, ⟨%d2, H2⟩, ⟨%d3, H3⟩⟩
  ihave H0 := (Entails.of_eq (owns_tPt c (st0_0 t) (hstage0_0 ((cfg0.slots t 0).cast nbuf0_0)) _)) $$ H0
  icases H0 with ⟨%f0, %hf0, H0⟩
  ihave H1 := (Entails.of_eq (owns_tPt c (st0_1 t) (hstage0_1 ((cfg0.slots t 1).cast nbuf0_1)) _)) $$ H1
  icases H1 with ⟨%f1, %hf1, H1⟩
  ihave H2 := (Entails.of_eq (owns_tPt c (st0_2 t) (hstage0_2 ((cfg0.slots t 2).cast nbuf0_2)) _)) $$ H2
  icases H2 with ⟨%f2, -, H2⟩
  ihave H3 := (Entails.of_eq (owns_tPt c (st0_3 t) (hstage0_3 ((cfg0.slots t 3).cast nbuf0_3)) _)) $$ H3
  icases H3 with ⟨%f3, -, H3⟩
  rw [before0_0] at hf0
  rw [before0_1] at hf1
  iapply (gate_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) f0 f1 f2 f3 Set.univ _)
  isplitl [H0]; · iexact H0
  isplitl [H1]; · iexact H1
  isplitl [H2]; · iexact H2
  isplitl [H3]; · iexact H3
  iintro ⟨%g2, %g3, ⟨H0, H1, H2, H3⟩, %hg⟩
  rw [hf0, hf1] at hg
  isplitl [HΦ]; · iexact HΦ
  isplitl [Howes]; · iexact Howes
  isplitl [H0]
  · iapply (Entails.of_eq (owns_tPt c (st0_0 t) (hstage0_0 ((cfg0.slots t 0).cast nbuf0_0)) _).symm)
    iexists f0; isplitr; swap; (· iexact H0); ipureintro; dsimp only [dat0]; exact hf0
  isplitl [H1]
  · iapply (Entails.of_eq (owns_tPt c (st0_1 t) (hstage0_1 ((cfg0.slots t 1).cast nbuf0_1)) _).symm)
    iexists f1; isplitr; swap; (· iexact H1); ipureintro; dsimp only [dat0]; exact hf1
  isplitl [H2]
  · iapply (Entails.of_eq (owns_tPt c (st0_2 t) (hstage0_2 ((cfg0.slots t 2).cast nbuf0_2)) _).symm)
    iexists g2; isplitr; swap; (· iexact H2); ipureintro; dsimp only [dat0]; exact hg.1
  iapply (Entails.of_eq (owns_tPt c (st0_3 t) (hstage0_3 ((cfg0.slots t 3).cast nbuf0_3)) _).symm)
  iexists g3; isplitr; swap; (· iexact H3); ipureintro; dsimp only [dat0]; exact hg.2

set_option backward.isDefEq.respectTransparency.types false in
/-- The top-k kernel's body at a grid point. -/
theorem body2 (c : Dev nD) : BodyObligation (dat2 V n b c) (defs₀ (F := F)) 𝒱₀ none Set.univ := fun t => by
  rw [bigSep_W2, bigSep_W2]
  rw [show (dat2 V n b c).Φ t.succ = (dat2 V n b c).Φ t.castSucc from rfl,
    show (dat2 V n b c).owesAt none t.succ = (dat2 V n b c).owesAt none t.castSucc from rfl]
  iintro ⟨HΦ, Howes, ⟨%d0, H0⟩, ⟨%d1, H1⟩, ⟨%d2, H2⟩⟩
  ihave H0 := (Entails.of_eq (owns_tPt c (st2_0 t) (hstage2_0 ((cfg2.slots t 0).cast nbuf2_0)) _)) $$ H0
  icases H0 with ⟨%f0, %hf0, H0⟩
  ihave H1 := (Entails.of_eq (owns_tPt c (st2_1 t) (hstage2_1 ((cfg2.slots t 1).cast nbuf2_1)) _)) $$ H1
  icases H1 with ⟨%f1, %hf1, H1⟩
  ihave H2 := (Entails.of_eq (owns_tPt c (st2_2 t) (hstage2_2 ((cfg2.slots t 2).cast nbuf2_2)) _)) $$ H2
  icases H2 with ⟨%f2, -, H2⟩
  rw [before2_0] at hf0
  rw [before2_1] at hf1
  iapply (topk_run c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) f0 f1 f2 Set.univ _)
  isplitl [H0]; · iexact H0
  isplitl [H1]; · iexact H1
  isplitl [H2]; · iexact H2
  iintro ⟨%g2, ⟨H0, H1, H2⟩, %hg⟩
  rw [hf0, hf1] at hg
  isplitl [HΦ]; · iexact HΦ
  isplitl [Howes]; · iexact Howes
  isplitl [H0]
  · iapply (Entails.of_eq (owns_tPt c (st2_0 t) (hstage2_0 ((cfg2.slots t 0).cast nbuf2_0)) _).symm)
    iexists f0; isplitr; swap; (· iexact H0); ipureintro; dsimp only [dat2]; exact hf0
  isplitl [H1]
  · iapply (Entails.of_eq (owns_tPt c (st2_1 t) (hstage2_1 ((cfg2.slots t 1).cast nbuf2_1)) _).symm)
    iexists f1; isplitr; swap; (· iexact H1); ipureintro; dsimp only [dat2]; exact hf1
  iapply (Entails.of_eq (owns_tPt c (st2_2 t) (hstage2_2 ((cfg2.slots t 2).cast nbuf2_2)) _).symm)
  iexists g2; isplitr; swap; (· iexact H2); ipureintro; dsimp only [dat2]; exact hg

/-- What the gate kernel's body keeps beside its windows. -/
theorem phi0 (c : Dev nD) (t) : (dat0 V n b c).Φ t = Pipeline.scopedRest (Pipeline.pin (pcfgs (F := F)) adm 0).spec c := by
  dsimp only [dat0]

/-- The gate kernel's region, before SparseCore call `n`. -/
def region0 : Pipeline.RegionSeg (pcfgs (F := F)) adm (pdats V n b) none defs₀ 𝒱₀ (K (F := F)).L (K (F := F)).lev 0 :=
  region (p := 0) launch0 (pdats V n b) n b (fun c => body0 V n b c) (fun _ _ => rfl) (fun _ _ => rfl) (fun c t => phi0 V n b c t)
    (fun c => (dat0 V n b c).share_full fun _ => rfl) V (fun _ _ => rfl)

/-- What the top-k kernel's body keeps beside its windows. -/
theorem phi2 (c : Dev nD) (t) : (dat2 V n b c).Φ t = Pipeline.scopedRest (Pipeline.pin (pcfgs (F := F)) adm 1).spec c := by
  dsimp only [dat2]

/-- The top-k kernel's region, before SparseCore call `n`. -/
def region2 : Pipeline.RegionSeg (pcfgs (F := F)) adm (pdats V n b) none defs₀ 𝒱₀ (K (F := F)).L (K (F := F)).lev 1 :=
  region (p := 1) launch2 (pdats V n b) n b (fun c => body2 V n b c) (fun _ _ => rfl) (fun _ _ => rfl) (fun c t => phi2 V n b c t)
    (fun c => (dat2 V n b c).share_full fun _ => rfl) V (fun _ _ => rfl)

end Cert.Proof.TopK

end
-- ==== Proof.TileValue.lean ====
/-
  What one tile of the SparseCore call computes, as functions of what it holds: the gated values `A` of its image and
  chunk (channels by pixels) and the image's two rows `B` of brackets.

  A group of sixteen pixels narrows its bracket six times by counting the channels at or above the middle, then sums
  the excess over the lower end.
-/
module

public import proofs.«01_k».proof.Proof.Setup

@[expose] public section

noncomputable section

namespace Cert.Proof.TopK

open Cert.KernelIdeal Cert.KernelIdeal.Gen
open Idealize.ShloMosaic
open Idealize.ShloMosaic.SparseCore (S V T)

variable {F : FTy → Type}

abbrev aM : Memref sig .scVector .vmem S384x192 .f32 := Memref.whole cc1_scratch0
abbrev bM : Memref sig .scVector .vmem S2x576 .f32 := Memref.whole cc1_scratch1

/-- Sixteen pixels of one channel. -/
abbrev ldA (A : Vec F S384x192 .f32) (off : Fin 2 → ℕ) (h : ∀ a, off a + S1x16.size a ≤ S384x192.size a) : Vec F S1x16 .f32 :=
  aM.view.readAt (Elt F) (Rect.unit (s := S384x192) off S1x16.size h).toLoadRect A

/-- Sixteen pixels of one row of brackets. -/
abbrev ldB (B : Vec F S2x576 .f32) (off : Fin 2 → ℕ) (h : ∀ a, off a + S1x16.size a ≤ S2x576.size a) : Vec F S1x16 .f32 :=
  bM.view.readAt (Elt F) (Rect.unit (s := S2x576) off S1x16.size h).toLoadRect B

variable [FloatOps F] [Named F]

/-- Four partial results, one per accumulator. -/
abbrev Four (F : FTy → Type) : Type := FVec F S16 .f32 × FVec F S16 .f32 × FVec F S16 .f32 × FVec F S16 .f32

/-- One trip of the count: eight channels, two to each accumulator. -/
def cntStep (A : Vec F S384x192 .f32) (g : Fin k1_t1_loop.trips) (lo hi : FVec F S16 .f32) (k : Fin k1_t3_loop.trips) (s : Four F) : Four F :=
  (k1_pay4 k1_pay22 lo hi (k1_pay16 k1_pay22 (k1_pay3 lo hi) s.1 (ldA A _ (k1_off5_inb g k 0))) (k1_pay20 (ldA A _ (k1_off5_inb g k 1))),
   k1_pay5 k1_pay22 lo hi (k1_pay17 k1_pay22 (k1_pay3 lo hi) s.2.1 (ldA A _ (k1_off6_inb g k 0 0))) (k1_pay21 (ldA A _ (k1_off6_inb g k 1 0))),
   k1_pay6 k1_pay22 lo hi (k1_pay18 k1_pay22 (k1_pay3 lo hi) s.2.2.1 (ldA A _ (k1_off6_inb g k 0 1))) (ldA A _ (k1_off6_inb g k 1 1)),
   k1_pay7 k1_pay22 lo hi (k1_pay19 k1_pay22 (k1_pay3 lo hi) s.2.2.2 (ldA A _ (k1_off6_inb g k 0 2))) (ldA A _ (k1_off6_inb g k 1 2)))

/-- The four counts after `n` trips. -/
def cntAt (A : Vec F S384x192 .f32) (g : Fin k1_t1_loop.trips) (lo hi : FVec F S16 .f32) (n : ℕ) : Four F :=
  iter (cntStep A g lo hi) (k1_pay23, k1_pay23, k1_pay23, k1_pay23) n

/-- One halving of the bracket. -/
def halve (A : Vec F S384x192 .f32) (g : Fin k1_t1_loop.trips) (_ : Fin k1_t2_loop.trips) (s : FVec F S16 .f32 × FVec F S16 .f32) : FVec F S16 .f32 × FVec F S16 .f32 :=
  (k1_pay9 s.1 s.2 (cntAt A g s.1 s.2 k1_t3_loop.trips).1 (cntAt A g s.1 s.2 k1_t3_loop.trips).2.1 (cntAt A g s.1 s.2 k1_t3_loop.trips).2.2.1 (cntAt A g s.1 s.2 k1_t3_loop.trips).2.2.2,
   k1_pay10 s.1 s.2 (cntAt A g s.1 s.2 k1_t3_loop.trips).1 (cntAt A g s.1 s.2 k1_t3_loop.trips).2.1 (cntAt A g s.1 s.2 k1_t3_loop.trips).2.2.1 (cntAt A g s.1 s.2 k1_t3_loop.trips).2.2.2)

/-- The bracket after `n` halvings. -/
def brkAt (L : grid1.Coords) (A : Vec F S384x192 .f32) (B : Vec F S2x576 .f32) (g : Fin k1_t1_loop.trips) (n : ℕ) : FVec F S16 .f32 × FVec F S16 .f32 :=
  iter (halve A g) (k1_pay1 (ldB B _ (k1_off3_inb L g)), k1_pay2 (ldB B _ (k1_off4_inb L g))) n

/-- One trip of the sum of excesses: four channels, one to each accumulator. -/
def excStep (A : Vec F S384x192 .f32) (g : Fin k1_t1_loop.trips) (t : FVec F S16 .f32) (k : Fin k1_t4_loop.trips) (s : Four F) : Four F :=
  (k1_pay11 t s.1 (ldA A _ (k1_off7_inb g k)), k1_pay12 t s.2.1 (ldA A _ (k1_off8_inb g k 0)),
   k1_pay13 t s.2.2.1 (ldA A _ (k1_off8_inb g k 1)), k1_pay14 t s.2.2.2 (ldA A _ (k1_off8_inb g k 2)))

/-- The four sums after `n` trips. -/
def excAt (A : Vec F S384x192 .f32) (g : Fin k1_t1_loop.trips) (t : FVec F S16 .f32) (n : ℕ) : Four F :=
  iter (excStep A g t) (k1_pay24, k1_pay24, k1_pay24, k1_pay24) n

/-- The mean of a group's sixteen pixels. -/
def grpOut (L : grid1.Coords) (A : Vec F S384x192 .f32) (B : Vec F S2x576 .f32) (g : Fin k1_t1_loop.trips) : FVec F S16 .f32 :=
  k1_pay15 (brkAt L A B g k1_t2_loop.trips).1
    (excAt A g (brkAt L A B g k1_t2_loop.trips).1 k1_t4_loop.trips).1 (excAt A g (brkAt L A B g k1_t2_loop.trips).1 k1_t4_loop.trips).2.1
    (excAt A g (brkAt L A B g k1_t2_loop.trips).1 k1_t4_loop.trips).2.2.1 (excAt A g (brkAt L A B g k1_t2_loop.trips).1 k1_t4_loop.trips).2.2.2

/-- Pixel `j` of a tile's 192: of group `j / 16`, lane `j % 16`. -/
def tileOut (L : grid1.Coords) (A : Vec F S384x192 .f32) (B : Vec F S2x576 .f32) (j : S192.Idx) : Elt F .f32 :=
  grpOut L A B ⟨(j 0).val / 16, by rw [trips1]; have h : (j 0).val < 192 := (j 0).isLt; omega⟩ (fun | 0 => (⟨(j 0).val % 16, Nat.mod_lt _ (by decide)⟩ : Fin 16))

end Cert.Proof.TopK

end
-- ==== Proof.Tile.lean ====
/-
  The SparseCore call's body on one tile: the brackets and the gated values copied in, the twelve groups, the means
  copied out to the tile's own row of the result.
-/
module

public import proofs.«01_k».proof.Proof.TileValue

@[expose] public section

set_option maxRecDepth 16384

noncomputable section

namespace Cert.Proof.TopK

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F
local notation "fwV" => (Memref.whole Cert.KernelIdeal.main_v1_0_scv : Memref Cert.KernelIdeal.sig Kind.scVector Space.hbm Cert.KernelIdeal.S32x3x384x192 EltTy.f32)
local notation "mmV" => (Memref.whole Cert.KernelIdeal.main_v1_1_scv : Memref Cert.KernelIdeal.sig Kind.scVector Space.hbm Cert.KernelIdeal.S32x2x576 EltTy.f32)
local notation "oV" => (Memref.whole Cert.KernelIdeal.main_v2_scv : Memref Cert.KernelIdeal.sig Kind.scVector Space.hbm Cert.KernelIdeal.S11x3x192 EltTy.f32)
local notation "s0V" => (Memref.whole Cert.KernelIdeal.cc1_scratch0 : Memref Cert.KernelIdeal.sig Kind.scVector Space.vmem Cert.KernelIdeal.S384x192 EltTy.f32)
local notation "s1V" => (Memref.whole Cert.KernelIdeal.cc1_scratch1 : Memref Cert.KernelIdeal.sig Kind.scVector Space.vmem Cert.KernelIdeal.S2x576 EltTy.f32)
local notation "s2V" => (Memref.whole Cert.KernelIdeal.cc1_scratch2 : Memref Cert.KernelIdeal.sig Kind.scVector Space.vmem Cert.KernelIdeal.S192 EltTy.f32)

section Tile

variable (d : Dev nD) (L : grid1.Coords)

abbrev cV : Fin τ.nSC := (L 0).castLE hcore1
abbrev jV : Fin τ.nSub := (L 1).castLE hsub1
abbrev c0cell : GSem nD τ sig := (V d (cV L) (jV L), .dma cc1_scoped0.sem)
abbrev c1cell : GSem nD τ sig := (V d (cV L) (jV L), .dma cc1_scoped1.sem)
abbrev c2cell : GSem nD τ sig := (V d (cV L) (jV L), .dma cc1_scoped2.sem)

/-- The tile's image of the brackets, its chunk of the gated values, and its row of the result. -/
abbrev mmRow : Memref sig .scVector .hbm S2x576 .f32 :=
  ((mmV).slice (Rect.unit (s := S32x2x576) (k1_off1 L) S1x2x576.size (k1_off1_inb L)) (fun _ => rfl)).squeeze S2x576 squeezes_S1x2x576_S2x576
abbrev fwRow : Memref sig .scVector .hbm S384x192 .f32 :=
  ((fwV).slice (Rect.unit (s := S32x3x384x192) (k1_off2 L) S1x1x384x192.size (k1_off2_inb L)) (fun _ => rfl)).squeeze S384x192 squeezes_S1x1x384x192_S384x192
abbrev oRow : Memref sig .scVector .hbm S192 .f32 :=
  ((oV).slice (Rect.unit (s := S11x3x192) (k1_off10 L) S1x1x192.size (k1_off10_inb L)) (fun _ => rfl)).squeeze S192 squeezes_S1x1x192_S192

theorem ownSems0_V :
    (ownSems0 (V d (cV L) (jV L)) : sProp 𝕄)
      = iprop(semVal (c0cell d L) 0 ∗ semVal (c1cell d L) 0 ∗ semVal (c2cell d L) 0
          ∗ bigSep ((((ownCells (V d (cV L) (jV L))).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc1_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc1_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc1_scoped2.sem : SemLoc sig).isScoped .scVector = true; decide⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

theorem pts_fw (q : PosShare TreeShare) (f : Buf (Elt F) (fwLoc d)) :
    ((fwV).view.loc (V d (cV L) (jV L)) ↦{q} f : sProp 𝕄) = fwLoc d ↦{q} f := rfl
theorem pts_mm (q : PosShare TreeShare) (f : Buf (Elt F) (mmLoc d)) :
    ((mmV).view.loc (V d (cV L) (jV L)) ↦{q} f : sProp 𝕄) = mmLoc d ↦{q} f := rfl
theorem pts_o (f : Buf (Elt F) (oLoc d)) :
    ((oRow L).view.loc (V d (cV L) (jV L)) ↦[(oRow L).view.set]{fullShare} f : sProp 𝕄) = oLoc d ↦[(oRow L).view.set]{fullShare} f := rfl
theorem pts_s0 (f : Buf (Elt F) ((V d (cV L) (jV L)).loc cc1_scratch0)) :
    ((s0V).view.loc (V d (cV L) (jV L)) ↦{fullShare} f : sProp 𝕄) = (V d (cV L) (jV L)).loc cc1_scratch0 ↦{fullShare} f := rfl
theorem pts_s1 (f : Buf (Elt F) ((V d (cV L) (jV L)).loc cc1_scratch1)) :
    ((s1V).view.loc (V d (cV L) (jV L)) ↦{fullShare} f : sProp 𝕄) = (V d (cV L) (jV L)).loc cc1_scratch1 ↦{fullShare} f := rfl
theorem pts_s2 (f : Buf (Elt F) ((V d (cV L) (jV L)).loc cc1_scratch2)) :
    ((s2V).view.loc (V d (cV L) (jV L)) ↦{fullShare} f : sProp 𝕄) = (V d (cV L) (jV L)).loc cc1_scratch2 ↦{fullShare} f := rfl

theorem s0_lands (FW : Buf (Elt F) (fwLoc d)) (f : Buf (Elt F) ((V d (cV L) (jV L)).loc cc1_scratch0)) :
    ((s0V).view.loc (V d (cV L) (jV L)) ↦{fullShare} (s0V).view.write (Elt F) f ((fwRow L).view.read (Elt F) FW) Finset.univ : sProp 𝕄)
      = ((s0V).view.loc (V d (cV L) (jV L)) ↦{fullShare} ((fwRow L).view.read (Elt F) FW : Vec F S384x192 .f32)) :=
  congrArg (fun g : Buf (Elt F) ((V d (cV L) (jV L)).loc cc1_scratch0) => ((s0V).view.loc (V d (cV L) (jV L)) ↦{fullShare} g : sProp 𝕄)) (View.write_whole_univ _ _ _)
theorem s1_lands (MMc : Buf (Elt F) (mmLoc d)) (f : Buf (Elt F) ((V d (cV L) (jV L)).loc cc1_scratch1)) :
    ((s1V).view.loc (V d (cV L) (jV L)) ↦{fullShare} (s1V).view.write (Elt F) f ((mmRow L).view.read (Elt F) MMc) Finset.univ : sProp 𝕄)
      = ((s1V).view.loc (V d (cV L) (jV L)) ↦{fullShare} ((mmRow L).view.read (Elt F) MMc : Vec F S2x576 .f32)) :=
  congrArg (fun g : Buf (Elt F) ((V d (cV L) (jV L)).loc cc1_scratch1) => ((s1V).view.loc (V d (cV L) (jV L)) ↦{fullShare} g : sProp 𝕄)) (View.write_whole_univ _ _ _)

variable [FloatOps F] [Named F]
variable (O : CellTallies nD τ sig (HIx 1)) (W : Waits sig (HIx 1))

/-- Storing group `g`'s means where its sixteen pixels go extends what is done by the group. -/
theorem group_stored (A : Vec F S384x192 .f32) (B : Vec F S2x576 .f32) (g : Fin k1_t1_loop.trips) (f : Vec F S192 .f32)
    (hf : ∀ j : S192.Idx, (j 0).val < 16 * g.val → f j = tileOut L A B j) (w : FVec F S16 .f32) (hw : w = grpOut L A B g) (j : S192.Idx) (hj : (j 0).val < 16 * (g.val + 1)) :
    (s2V).view.writes (Elt F) f [⟨Rect.unit (s := S192) (k1_off9 g) S16.size (k1_off9_inb g), w⟩] j = tileOut L A B j := by
  have ho : k1_off9 g 0 = 16 * g.val := by rw [k1_off9_eq]; rfl
  by_cases hlt : (j 0).val < 16 * g.val
  · refine Eq.trans ?_ (hf j hlt)
    exact View.read_writes_cons_miss_of_axis (s2V).view f _ [] j 0 (16 * g.val) 16 ho rfl rfl (.inl hlt)
  · refine View.read_writes_apply_of_pieces (s2V).view f (tileOut L A B) _ ?_ j ⟨_, List.mem_singleton_self _, ?_⟩
    · intro p hp x
      rw [List.mem_singleton] at hp
      subst hp
      have hx : (x 0).val < 16 := (x 0).isLt
      have he : ((Rect.unit (s := S192) (k1_off9 g) S16.size (k1_off9_inb g)).emb x 0).val = 16 * g.val + (x 0).val := by
        rw [Rect.emb_apply]
        show k1_off9 g 0 + 1 * (x 0).val = _
        rw [ho]; omega
      show w x = grpOut L A B _ _
      rw [hw]
      congr 1
      · apply Fin.ext; show g.val = _ / 16; rw [he]; omega
      · funext a; obtain rfl : a = (0 : Fin 1) := Subsingleton.elim (α := Fin 1) _ _
        apply Fin.ext; show (x 0).val = _ % 16; rw [he]; omega
    · refine (Rect.mem_set_unit (s := S192) (inb := k1_off9_inb g) (i := j)).mpr fun a => ?_
      obtain rfl : a = 0 := Subsingleton.elim _ _
      rw [ho]; show _ ∧ _ < _ + 16
      omega

/-- The copy out leaves in the tile's row what any contents agreeing with the copied means there hold. -/
theorem row_lands (fo G : Buf (Elt F) (oLoc d)) (w : Vec F S192 .f32) (hG : ∀ j, (oRow L).view.read (Elt F) G j = w j) :
    ((oRow L).view.loc (V d (cV L) (jV L)) ↦[(oRow L).view.set]{fullShare} (oRow L).view.writes (Elt F) fo [⟨Rect.whole S192, ReadAs.same.apply ((s2V).view.read (Elt F) w)⟩] : sProp 𝕄) = oLoc d ↦[(oRow L).view.set]{fullShare} G := by
  refine pointsTo_congr fun i hi => ?_
  obtain ⟨y, -, rfl⟩ := Finset.mem_map.mp hi
  have e := View.read_writes_cons_emb (oRow L).view fo (Rect.whole S192) w [] y
  rw [show (Rect.whole S192).emb y = y from by funext a; apply Fin.ext; rw [Rect.emb_apply]; show 0 + 1 * (y a).val = _; omega] at e
  exact e.trans (hG y).symm

/-- The groups' loop: the two inputs in place, the groups done holding their means. -/
def inv1 (A : Vec F S384x192 .f32) (B : Vec F S2x576 .f32) (n : ℕ) (_ : PUnit) : sProp 𝕄 :=
  iprop(((s0V).view.loc (V d (cV L) (jV L)) ↦{fullShare} (A : Buf (Elt F) ((V d (cV L) (jV L)).loc cc1_scratch0)))
    ∗ ((s1V).view.loc (V d (cV L) (jV L)) ↦{fullShare} (B : Buf (Elt F) ((V d (cV L) (jV L)).loc cc1_scratch1)))
    ∗ ∃ f : Buf (Elt F) ((V d (cV L) (jV L)).loc cc1_scratch2), ⌜∀ j : S192.Idx, (j 0).val < 16 * n → f j = tileOut L A B j⌝
        ∗ (s2V).view.loc (V d (cV L) (jV L)) ↦{fullShare} f)

/-- The halvings' loop: the bracket so far. -/
def inv2 (A : Vec F S384x192 .f32) (B : Vec F S2x576 .f32) (g : Fin k1_t1_loop.trips) (n : ℕ) (s : FVec F S16 .f32 × FVec F S16 .f32) : sProp 𝕄 :=
  iprop(((s0V).view.loc (V d (cV L) (jV L)) ↦{fullShare} (A : Buf (Elt F) ((V d (cV L) (jV L)).loc cc1_scratch0))) ∗ ⌜s = brkAt L A B g n⌝)

/-- The count's loop: the four counts so far. -/
def inv3 (A : Vec F S384x192 .f32) (g : Fin k1_t1_loop.trips) (lo hi : FVec F S16 .f32) (n : ℕ) (s : Four F) : sProp 𝕄 :=
  iprop(((s0V).view.loc (V d (cV L) (jV L)) ↦{fullShare} (A : Buf (Elt F) ((V d (cV L) (jV L)).loc cc1_scratch0))) ∗ ⌜s = cntAt A g lo hi n⌝)

/-- The excesses' loop: the four sums so far. -/
def inv4 (A : Vec F S384x192 .f32) (g : Fin k1_t1_loop.trips) (t : FVec F S16 .f32) (n : ℕ) (s : Four F) : sProp 𝕄 :=
  iprop(((s0V).view.loc (V d (cV L) (jV L)) ↦{fullShare} (A : Buf (Elt F) ((V d (cV L) (jV L)).loc cc1_scratch0))) ∗ ⌜s = excAt A g t n⌝)

theorem tile_body (hF : (K (F := F)).Facts) (hO : ∀ g, O g none = 0) (q : PosShare TreeShare) (FW : Buf (Elt F) (fwLoc d)) (MMc : Buf (Elt F) (mmLoc d)) (fo G : Buf (Elt F) (oLoc d))
    (hG : ∀ j, (oRow L).view.read (Elt F) G j = tileOut L ((fwRow L).view.read (Elt F) FW) ((mmRow L).view.read (Elt F) MMc) j) :
    (iprop(levAts (K (F := F)).L (K (F := F)).lev ∗ emp
        ∗ ((fwLoc d ↦{q} FW) ∗ (mmLoc d ↦{q} MMc) ∗ (oLoc d ↦[(oRow L).view.set]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__sc_topk_body L fwV (Memref.isWhole_whole _) mmV (Memref.isWhole_whole _) oV (Memref.isWhole_whole _)
            s0V (Memref.isWhole_whole _) s1V (Memref.isWhole_whole _) s2V (Memref.isWhole_whole _) cc1_scoped0 cc1_scoped1 cc1_scoped2)
          fun _ => iprop(((fwLoc d ↦{q} FW) ∗ (mmLoc d ↦{q} MMc)
              ∗ (oLoc d ↦[(oRow L).view.set]{fullShare} G))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_topk_body_eq_skeleton]; unfold cc1__sc_topk_body_skel
  rw [(K (F := F)).scopedBufs_V hF d (cV L) (jV L), SparseCore.Cfg.scopedSems0_V (Val := Elt F) d (cV L) (jV L), ownSems0_V, ownBufs_V]
  iintro ⟨#Hlv, -, ⟨Hfw, Hmm, Ho⟩, ⟨⟨%f0, H0⟩, ⟨%f1, H1⟩, ⟨%f2, H2⟩, Hbufs⟩, ⟨Hs0, Hs1, Hs2, Hsems⟩, HO⟩
  ihave Hmw := ((K (F := F)).mayWaits_none (thr := V d (cV L) (jV L)) hO) $$ Hlv
  ihave Hfw' := (Entails.of_eq (pts_fw (F := F) d L _ _).symm) $$ Hfw
  ihave Hmm' := (Entails.of_eq (pts_mm (F := F) d L _ _).symm) $$ Hmm
  ihave Ho' := (Entails.of_eq (pts_o (F := F) d L _).symm) $$ Ho
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  sl_exec (disch := exact View.amount_pos _ _ (show 0 < _ by decide))
  sl_unfold_run_names
  ihave H0' := (Entails.of_eq (s0_lands (F := F) d L FW f0)) $$ H0'
  ihave H1' := (Entails.of_eq (s1_lands (F := F) d L MMc f1)) $$ H1'
  sl_for (inv1 d L ((fwRow L).view.read (Elt F) FW) ((mmRow L).view.read (Elt F) MMc)) $$ [H0' H1' H2']
  case region =>
    intro g _
    unfold inv1
    iintro ⟨H0, H1, %f, %hf, H2⟩
    sl_exec
    sl_unfold_run_names
    sl_for (inv2 d L ((fwRow L).view.read (Elt F) FW) ((mmRow L).view.read (Elt F) MMc) g) $$ [H0]
    case region =>
      intro n s
      obtain ⟨lo, hi⟩ := s
      unfold inv2
      iintro ⟨H0, %hs⟩
      sl_exec
      sl_for (inv3 d L ((fwRow L).view.read (Elt F) FW) g lo hi) $$ [H0]
      case region =>
        intro k a
        obtain ⟨a1, a2, a3, a4⟩ := a
        unfold inv3
        iintro ⟨H0, %ha⟩
        sl_exec
        sl_step
        isplitl [H0]; · iexact H0
        ipureintro
        refine Eq.trans ?_ (iter_succ _ _ k).symm
        rw [show iter (cntStep ((fwRow L).view.read (Elt F) FW) g lo hi) (k1_pay23, k1_pay23, k1_pay23, k1_pay23) k.val = (a1, a2, a3, a4) from ha.symm]
        rfl
      · unfold inv3
        isplitl [H0]; · iexact H0
        ipureintro; rfl
      iintro %a HI
      unfold inv3
      icases HI with ⟨H0, %ha⟩
      obtain ⟨a1, a2, a3, a4⟩ := a
      sl_exec
      sl_step
      isplitl [H0]; · iexact H0
      ipureintro
      refine Eq.trans ?_ (iter_succ _ _ n).symm
      rw [show iter (halve ((fwRow L).view.read (Elt F) FW) g) _ n.val = (lo, hi) from hs.symm]
      unfold halve
      rw [show cntAt ((fwRow L).view.read (Elt F) FW) g (lo, hi).1 (lo, hi).2 k1_t3_loop.trips = (a1, a2, a3, a4) from ha.symm]
    · unfold inv2
      isplitl [H0]; · iexact H0
      ipureintro; rfl
    iintro %s HI
    unfold inv2
    icases HI with ⟨H0, %hs⟩
    obtain ⟨lo, hi⟩ := s
    sl_exec
    sl_for (inv4 d L ((fwRow L).view.read (Elt F) FW) g lo) $$ [H0]
    case region =>
      intro k a
      obtain ⟨a1, a2, a3, a4⟩ := a
      unfold inv4
      iintro ⟨H0, %ha⟩
      sl_exec
      sl_step
      isplitl [H0]; · iexact H0
      ipureintro
      refine Eq.trans ?_ (iter_succ _ _ k).symm
      rw [show iter (excStep ((fwRow L).view.read (Elt F) FW) g lo) (k1_pay24, k1_pay24, k1_pay24, k1_pay24) k.val = (a1, a2, a3, a4) from ha.symm]
      rfl
    · unfold inv4
      isplitl [H0]; · iexact H0
      ipureintro; rfl
    iintro %a HI
    unfold inv4
    icases HI with ⟨H0, %ha⟩
    obtain ⟨a1, a2, a3, a4⟩ := a
    sl_exec
    sl_step
    isplitl [H0]; · iexact H0
    isplitl [H1]; · iexact H1
    iexists _; isplitr
    rotate_left
    · iexact H2
    ipureintro
    refine group_stored L _ _ g f hf _ ?_
    unfold grpOut
    rw [show brkAt L ((fwRow L).view.read (Elt F) FW) ((mmRow L).view.read (Elt F) MMc) g k1_t2_loop.trips = (lo, hi) from hs.symm]
    rw [show excAt ((fwRow L).view.read (Elt F) FW) g (lo, hi).1 k1_t4_loop.trips = (a1, a2, a3, a4) from ha.symm]
  · unfold inv1
    isplitl [H0']; · iexact H0'
    isplitl [H1']; · iexact H1'
    iexists f2; isplitr
    · ipureintro; exact fun j hj => absurd hj (by omega)
    · iexact H2'
  iintro %_ HI
  unfold inv1
  icases HI with ⟨H0, H1, %f, %hf, H2⟩
  sl_exec (disch := exact View.amount_pos _ _ (show 0 < _ by decide))
  sl_step
  sl_unfold_run_names
  ihave Ho := (Entails.of_eq (row_lands (F := F) d L fo G f fun j => (hG j).trans (hf j (by
    have h : (j 0).val < 192 := (j 0).isLt
    show _ < 16 * k1_t1_loop.trips
    rw [trips1]; omega)).symm)) $$ Ho'
  isplitl [Hfw' Hmm' Ho]
  · isplitl [Hfw']; · iexact Hfw'
    isplitl [Hmm']; · iexact Hmm'
    iexact Ho
  isplitl [H0 H1 H2 Hbufs]
  · isplitl [H0]; · iexists _; iexact H0
    isplitl [H1]; · iexists _; iexact H1
    isplitl [H2]; · iexists _; iexact H2
    iexact Hbufs
  isplitl [Hs0 Hs1 Hs2 Hsems]
  · isplitl [Hs0]; · iexact Hs0
    isplitl [Hs1]; · iexact Hs1
    isplitl [Hs2]; · iexact Hs2
    iexact Hsems
  iexists _; isplitr
  rotate_left
  · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  · exact .inl hp

end Tile

end Cert.Proof.TopK

end
-- ==== Proof.Pay.lean ====
/-
  What the SparseCore call takes and hands back: every tile reads the gated values and the brackets whole, under a share
  of each, and owns its own row of the result.
-/
module

public import proofs.«01_k».proof.Proof.Tile

@[expose] public section

set_option maxRecDepth 16384

noncomputable section

namespace Cert.Proof.TopK

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- The coordinates of SparseCore `c`'s tile `s`. -/
def coordsV (c : Fin (grid1.bound 0)) (s : Fin (grid1.bound 1)) : grid1.Coords :=
  fun | 0 => c | 1 => s | ⟨_ + 2, h⟩ => absurd h (Nat.not_lt.2 (Nat.le_add_left _ _))

/-- Where tile `n` of the call's 32 sits. -/
def tileAt (n : ℕ) : grid1.Coords := coordsV ⟨n % 2, Nat.mod_lt _ (by decide)⟩ ⟨n / 2 % 16, Nat.mod_lt _ (by decide)⟩

theorem tileAt_wid (L : grid1.Coords) : tileAt (wid L) = L := by
  revert L; decide +kernel

/-- The row of the result tile `L` writes: image `n / 3`, chunk `n % 3` of its number `n`. -/
theorem oRow_emb (L : grid1.Coords) (j : S192.Idx) :
    (((oRow L).view.emb j : S11x3x192.Idx) 0).val = wid L / 3 ∧ (((oRow L).view.emb j : S11x3x192.Idx) 1).val = wid L % 3
      ∧ ((oRow L).view.emb j : S11x3x192.Idx) 2 = j 0 := by
  have hq : Shape.reshapeEquiv (s := S1x1x192) (s' := S192) squeezes_S1x1x192_S192.numel_eq j = (fun | 0 => (0 : Fin 1) | 1 => (0 : Fin 1) | 2 => (j 0 : Fin 192)) :=
    Shape.reshapeEquiv_eq_of_rowMajor _ (by
      rw [Shape.rowMajor_val_three, Shape.rowMajor_val_one]
      show (0 * 1 + 0) * 192 + (j 0).val = (j 0).val; omega)
  have h0 : k1_off10 L 0 = wid L / 3 := by rw [off10_eq]; rfl
  have h1 : k1_off10 L 1 = wid L % 3 := by rw [off10_eq]; rfl
  have h2 : k1_off10 L 2 = 0 := by rw [off10_eq]; rfl
  have e : (oRow L).view.emb j = (Rect.unit (s := S11x3x192) (k1_off10 L) S1x1x192.size (k1_off10_inb L)).emb
      (Shape.reshapeEquiv (s := S1x1x192) (s' := S192) squeezes_S1x1x192_S192.numel_eq j) := rfl
  rw [e, hq]
  refine ⟨?_, ?_, Fin.ext ?_⟩
  · rw [Rect.emb_apply]; show k1_off10 L 0 + 1 * 0 = _; rw [h0]; rfl
  · rw [Rect.emb_apply]; show k1_off10 L 1 + 1 * 0 = _; rw [h1]; rfl
  · rw [Rect.emb_apply]; show k1_off10 L 2 + 1 * (j 0).val = _; rw [h2]; omega

/-- Tile `L`'s row, as a set of elements. -/
abbrev slab (L : grid1.Coords) : Finset S11x3x192.Idx := (oRow L).view.set

theorem slab_wid {L : grid1.Coords} {x : S11x3x192.Idx} (hx : x ∈ slab L) : 3 * (x 0).val + (x 1).val = wid L := by
  obtain ⟨y, -, rfl⟩ := Finset.mem_map.mp hx
  obtain ⟨h0, h1, -⟩ := oRow_emb L y
  rw [h0, h1]; omega

theorem slab_disjoint {L L' : grid1.Coords} (h : L ≠ L') : Disjoint (slab L) (slab L') :=
  Finset.disjoint_left.mpr fun _ hx hx' => h (by rw [← tileAt_wid L, ← tileAt_wid L', ← slab_wid hx, ← slab_wid hx'])

section Share

/-- The share of the two arrays read in common that tile `(c, s)` holds. -/
def shareV (c : Fin 2) (s : Fin 16) : PosShare TreeShare := Transfers.dealOf (Transfers.dealOf fullShare Finset.univ c) Finset.univ s

theorem deal32 {ℓ : Loc nD τ sig} (f : Buf (Elt F) ℓ) :
    (ℓ ↦{fullShare} f : sProp 𝕄) = bigSep Finset.univ fun c : Fin 2 => bigSep Finset.univ fun s : Fin 16 => ℓ ↦{shareV c s} f := by
  refine (Transfers.pointsTo_deal (Finset.univ : Finset (Fin 2)) Finset.univ_nonempty fullShare).trans ?_
  exact bigSep_congr fun c _ => Transfers.pointsTo_deal (Finset.univ : Finset (Fin 16)) Finset.univ_nonempty _

end Share

variable [FloatOps F] [Named F]

/-- The result of the call: each tile's row at its means, the row no tile writes as it was. -/
def outAt (FW : Vec F S32x3x384x192 .f32) (MMc : Vec F S32x2x576 .f32) (old : Vec F S11x3x192 .f32) : Vec F S11x3x192 .f32 := fun x =>
  if 3 * (x 0).val + (x 1).val < 32 then
    tileOut (tileAt (3 * (x 0).val + (x 1).val)) ((fwRow (tileAt (3 * (x 0).val + (x 1).val))).view.read (Elt F) FW)
      ((mmRow (tileAt (3 * (x 0).val + (x 1).val))).view.read (Elt F) MMc) (fun | 0 => (x 2 : Fin 192))
  else old x

theorem outAt_row (FW : Vec F S32x3x384x192 .f32) (MMc : Vec F S32x2x576 .f32) (old : Vec F S11x3x192 .f32) (L : grid1.Coords) (j : S192.Idx) :
    (oRow L).view.read (Elt F) (outAt FW MMc old) j = tileOut L ((fwRow L).view.read (Elt F) FW) ((mmRow L).view.read (Elt F) MMc) j := by
  obtain ⟨h0, h1, h2⟩ := oRow_emb L j
  show outAt FW MMc old ((oRow L).view.emb j) = _
  have hw : 3 * (((oRow L).view.emb j : S11x3x192.Idx) 0).val + (((oRow L).view.emb j : S11x3x192.Idx) 1).val = wid L := by rw [h0, h1]; omega
  unfold outAt
  rw [hw, if_pos (wid_lt L), tileAt_wid]
  congr 1
  funext a; obtain rfl : a = (0 : Fin 1) := Subsingleton.elim (α := Fin 1) _ _
  exact h2

variable (FW : (d : Dev nD) → Buf (Elt F) (fwLoc d)) (MMc : (d : Dev nD) → Buf (Elt F) (mmLoc d)) (old : (d : Dev nD) → Buf (Elt F) (oLoc d))

/-- What tile `(c, s)` is handed, and what it hands back. -/
abbrev goV (d : Dev nD) (c : Fin 2) (s : Fin 16) : sProp 𝕄 :=
  iprop((fwLoc d ↦{shareV c s} FW d) ∗ (mmLoc d ↦{shareV c s} MMc d) ∗ (oLoc d ↦[slab (coordsV c s)]{fullShare} old d))
abbrev tdV (d : Dev nD) (c : Fin 2) (s : Fin 16) : sProp 𝕄 :=
  iprop((fwLoc d ↦{shareV c s} FW d) ∗ (mmLoc d ↦{shareV c s} MMc d) ∗ (oLoc d ↦[slab (coordsV c s)]{fullShare} (outAt (FW d) (MMc d) (old d) : Buf (Elt F) (oLoc d))))

def P : (K (F := F)).Pay (nD := nD) (Val := Elt F) (Name := ℕ) (U := UU) where
  st := fun q d => match q with | 0 => fun c => bigSep Finset.univ fun s : Fin 16 => goV FW MMc old d c s
  dn := fun q d => match q with | 0 => fun c => bigSep Finset.univ fun s : Fin 16 => tdV FW MMc old d c s
  go := fun q d => match q with | 0 => fun c s => goV FW MMc old d c s
  td := fun q d => match q with | 0 => fun c s => tdV FW MMc old d c s
  x := fun _ _ => iprop(emp)

instance P_storable : (P FW MMc old).IsStorable where
  st q d := match q with | 0 => fun c => by unfold P; infer_instance
  dn q d := match q with | 0 => fun c => by unfold P; infer_instance
  go q d := match q with | 0 => fun c s => by unfold P; infer_instance
  td q d := match q with | 0 => fun c s => by unfold P; infer_instance

theorem defs₀_vector (c : Fin τ.nSC) (s : Fin τ.nSub) :
    defs₀ (F := F) (.scVector c s) 1 ()
      = SparseCore.onTile hcore1 hsub1 (fun c s => cc1__sc_topk_body (coordsV c s)
          (Memref.whole main_v1_0_scv) (Memref.isWhole_whole _) (Memref.whole main_v1_1_scv) (Memref.isWhole_whole _) (Memref.whole main_v2_scv) (Memref.isWhole_whole _)
          (Memref.whole cc1_scratch0) (Memref.isWhole_whole _) (Memref.whole cc1_scratch1) (Memref.isWhole_whole _) (Memref.whole cc1_scratch2) (Memref.isWhole_whole _)
          cc1_scoped0 cc1_scoped1 cc1_scoped2) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P FW MMc old) v₀ 0 := by
  intro d c i O W hO _ _
  simp only [show (P FW MMc old).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) O W facts hO (shareV c i) (FW d) (MMc d) (old d) (outAt (FW d) (MMc d) (old d))
    (outAt_row _ _ _ _)).trans (wp_mono frame _ _ fun _ => obl_post)

theorem vecSplit : (K (F := F)).VecSplit' (P FW MMc old) 0 := by
  intro d c
  show (bigSep Finset.univ fun s : Fin 16 => goV FW MMc old d c s) ⊢ |={Set.univ}=> iprop(
      (bigSep Finset.univ fun s : Fin 16 => goV FW MMc old d c s)
      ∗ ((bigSep Finset.univ fun s : Fin 16 => tdV FW MMc old d c s) -∗ (bigSep Finset.univ fun s : Fin 16 => tdV FW MMc old d c s)))
  iintro H; imodintro
  isplitl [H]; · iexact H
  iintro H; iexact H

/-- The rows the tiles write, together. -/
def rows : Finset S11x3x192.Idx := (Finset.univ : Finset (Fin 2 × Fin 16)).biUnion fun p => slab (coordsV p.1 p.2)

omit [FloatOps F] [Named F] in
theorem rows_split (d : Dev nD) (f : Buf (Elt F) (oLoc d)) :
    (oLoc d ↦[rows]{fullShare} f : sProp 𝕄) = bigSep Finset.univ fun c : Fin 2 => bigSep Finset.univ fun s : Fin 16 => oLoc d ↦[slab (coordsV c s)]{fullShare} f := by
  unfold rows
  rw [pointsTo_biUnion Finset.univ (ℓ := oLoc d) (fun p : Fin 2 × Fin 16 => slab (coordsV p.1 p.2))
    (fun p _ p' _ h => slab_disjoint fun e => h (Prod.ext (congrFun e 0) (congrFun e 1)))]
  exact bigSep_univ_prod _

/-- What the call takes, all tiles together. -/
theorem st_eq (d : Dev nD) : (bigSep Finset.univ fun c : Fin ((K (F := F)).nCore 0) => (P FW MMc old).st 0 d c)
    = iprop((fwLoc d ↦{fullShare} FW d) ∗ (mmLoc d ↦{fullShare} MMc d) ∗ oLoc d ↦[rows]{fullShare} old d) := by
  show (bigSep (Finset.univ : Finset (Fin 2)) fun c => bigSep Finset.univ fun s : Fin 16 => goV FW MMc old d c s) = _
  rw [deal32, deal32, rows_split]
  simp only [bigSep_sep']

theorem dn_eq (d : Dev nD) : (bigSep Finset.univ fun c : Fin ((K (F := F)).nCore 0) => (P FW MMc old).dn 0 d c)
    = iprop((fwLoc d ↦{fullShare} FW d) ∗ (mmLoc d ↦{fullShare} MMc d) ∗ oLoc d ↦[rows]{fullShare} (outAt (FW d) (MMc d) (old d) : Buf (Elt F) (oLoc d))) := by
  show (bigSep (Finset.univ : Finset (Fin 2)) fun c => bigSep Finset.univ fun s : Fin 16 => tdV FW MMc old d c s) = _
  rw [deal32, deal32, rows_split]
  simp only [bigSep_sep']

/-- Outside the tiles' rows the result is as it was. -/
theorem outAt_rest {x : S11x3x192.Idx} (hx : x ∉ rows) (FW : Vec F S32x3x384x192 .f32) (MMc : Vec F S32x2x576 .f32) (old : Vec F S11x3x192 .f32) :
    outAt FW MMc old x = old x := by
  unfold outAt
  refine if_neg fun h => hx (Finset.mem_biUnion.mpr ⟨(tileAt (3 * (x 0).val + (x 1).val) 0, tileAt (3 * (x 0).val + (x 1).val) 1), Finset.mem_univ _, ?_⟩)
  have hx1 : (x 1).val < 3 := (x 1).isLt
  have hw : wid (coordsV (tileAt (3 * (x 0).val + (x 1).val) 0) (tileAt (3 * (x 0).val + (x 1).val) 1)) = 3 * (x 0).val + (x 1).val := by
    show 2 * ((3 * (x 0).val + (x 1).val) / 2 % 16) + (3 * (x 0).val + (x 1).val) % 2 = _
    omega
  obtain ⟨h0, h1, h2⟩ := oRow_emb (coordsV (tileAt (3 * (x 0).val + (x 1).val) 0) (tileAt (3 * (x 0).val + (x 1).val) 1)) (fun | 0 => (x 2 : Fin 192))
  refine Finset.mem_map.mpr ⟨fun | 0 => (x 2 : Fin 192), Finset.mem_univ _, ?_⟩
  rw [hw] at h0 h1
  funext a
  match a with
  | 0 => exact Fin.ext (h0.trans (by omega))
  | 1 => exact Fin.ext (h1.trans (by omega))
  | 2 => exact h2

theorem out_join (d : Dev nD) (FW : Vec F S32x3x384x192 .f32) (MMc : Vec F S32x2x576 .f32) (old : Vec F S11x3x192 .f32) :
    (oLoc d ↦{fullShare} (outAt FW MMc old : Buf (Elt F) (oLoc d)) : sProp 𝕄)
      = iprop((oLoc d ↦[rows]{fullShare} (outAt FW MMc old : Buf (Elt F) (oLoc d))) ∗ oLoc d ↦[Finset.univ \ rows]{fullShare} (old : Buf (Elt F) (oLoc d))) := by
  refine (BI.Entails.antisymm (pointsTo_split_subset (Finset.subset_univ rows)).1 (pointsTo_split_subset (Finset.subset_univ rows)).2).trans ?_
  exact congrArg _ (pointsTo_congr fun x hx => outAt_rest (Finset.mem_sdiff.mp hx).2 FW MMc old)

end Cert.Proof.TopK

end
-- ==== Proof.Main.lean ====
/-
  @main on the TensorCore: the reshape, the gate kernel's region, the SparseCore call, the top-k kernel's region and the
  five host operations that put the results together, over the device's arrays at a valuation. `Vend m d` is what
  device `d`'s arrays hold at the end, as a function of the launch contents `m`.
-/
module

public import proofs.«01_k».proof.Proof.RegionDat
public import proofs.«01_k».proof.Proof.Pay

@[expose] public section

set_option maxRecDepth 16384

noncomputable section

namespace Cert.Proof.TopK

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligation ucRefs arrRef arrRefs)

variable {F : FTy → Type} [FloatOps F] [Named F]

local notation "𝕄" => MM F

/-! ## The arrays and what they hold -/

abbrev ref (b : Ref sig .tc) : DevRef τ sig := Proc.devRef .tc b

/-- The level every wait recorded before call `n` is at or below. -/
abbrev lvl (n : ℕ) : ℕ := 8 * SparseCore.Cfg.Blocks.fst (Q := 1) (N := 1) n

abbrev opX : HloOp τ sig (Elt F) := StableHlo.reshape main_arg0 main_v0 (rfl : (.f32 : EltTy) = .f32) shapeCasts_S32x384x24x24_S32x384x576
abbrev opA : HloOp τ sig (Elt F) := StableHlo.reshape main_v2 main_v4 (rfl : (.f32 : EltTy) = .f32) shapeCasts_S11x3x192_S11x576
abbrev opB : HloOp τ sig (Elt F) := StableHlo.unary main_v4 main_v5 ((extractStridedSlice S10x576 ![0, 0] · slices_S11x576_S10x576_0_0) : (⟨S11x576, .f32⟩ : BufTy).Contents (Elt F) → (⟨S10x576, .f32⟩ : BufTy).Contents (Elt F))
abbrev opC : HloOp τ sig (Elt F) := StableHlo.reshape main_v3 main_v6 (rfl : (.f32 : EltTy) = .f32) shapeCasts_S22x1x576_S22x576
abbrev opD : HloOp τ sig (Elt F) := StableHlo.binary main_v5 main_v6 main_v7 ((fun a b => concatenate S32x576 0 [⟨S10x576, a⟩, ⟨S22x576, b⟩] concatenates_S10x576_S22x576_S32x576_d0) : (⟨S10x576, .f32⟩ : BufTy).Contents (Elt F) → (⟨S22x576, .f32⟩ : BufTy).Contents (Elt F) → (⟨S32x576, .f32⟩ : BufTy).Contents (Elt F))
abbrev opE : HloOp τ sig (Elt F) := StableHlo.reshape main_v7 main_v8 (rfl : (.f32 : EltTy) = .f32) shapeCasts_S32x576_S32x24x24

variable (m : (ℓ : Loc nD τ sig) → Buf (Elt F) ℓ)

/-- The launch contents; after the reshape; after the gate kernel; after the SparseCore call; after the top-k kernel; at
    the end. -/
def Vlaunch (d : Dev nD) : Valuation τ sig (Elt F) := fun b => m (d, b)
def Vx (d : Dev nD) : Valuation τ sig (Elt F) := opX.result (Vlaunch m d)
def Vgate (d : Dev nD) : Valuation τ sig (Elt F) := Pipeline.afterRegion (pdats (Vx m) 0 (lvl 0) 0 d) (Vx m d)
def Vsc (d : Dev nD) : Valuation τ sig (Elt F) :=
  Function.update (Vgate m d) (ref main_v2) (outAt (Vgate m d (ref main_v1_0)) (Vgate m d (ref main_v1_1)) (Vgate m d (ref main_v2)))
def Vtopk (d : Dev nD) : Valuation τ sig (Elt F) := Pipeline.afterRegion (pdats (Vsc m) 1 (lvl 1) 1 d) (Vsc m d)
def Vend (d : Dev nD) : Valuation τ sig (Elt F) := opE.result (opD.result (opC.result (opB.result (opA.result (Vtopk m d)))))

/-- The SparseCore call's operands and result. -/
abbrev PP : (K (F := F)).Pay (nD := nD) (Val := Elt F) (Name := ℕ) (U := UU) :=
  P (fun d => Vgate m d (ref main_v1_0)) (fun d => Vgate m d (ref main_v1_1)) (fun d => Vgate m d (ref main_v2))

theorem opX_sub : (opX (F := F)).bufs ⊆ ucRefs τ sig := show ({ref main_arg0, ref main_v0} : Finset (DevRef τ sig)) ⊆ ucRefs τ sig by decide
theorem opA_sub : (opA (F := F)).bufs ⊆ ucRefs τ sig := show ({ref main_v2, ref main_v4} : Finset (DevRef τ sig)) ⊆ ucRefs τ sig by decide
theorem opB_sub : (opB (F := F)).bufs ⊆ ucRefs τ sig := show ({ref main_v4, ref main_v5} : Finset (DevRef τ sig)) ⊆ ucRefs τ sig by decide
theorem opC_sub : (opC (F := F)).bufs ⊆ ucRefs τ sig := show ({ref main_v3, ref main_v6} : Finset (DevRef τ sig)) ⊆ ucRefs τ sig by decide
theorem opD_sub : (opD (F := F)).bufs ⊆ ucRefs τ sig := show ({ref main_v5, ref main_v6, ref main_v7} : Finset (DevRef τ sig)) ⊆ ucRefs τ sig by decide
theorem opE_sub : (opE (F := F)).bufs ⊆ ucRefs τ sig := show ({ref main_v7, ref main_v8} : Finset (DevRef τ sig)) ⊆ ucRefs τ sig by decide

/-! ## The regions in @main -/

theorem region0_pre (d : Dev nD) : (region0 (Vx m) 0 (lvl 0)).pre d = iprop(held (T d) (ucRefs τ sig) (Vx m d) ∗ owing d 0 (lvl 0)) := rfl
theorem region0_post (d : Dev nD) : (region0 (Vx m) 0 (lvl 0)).post d = iprop(held (T d) (ucRefs τ sig) (Vgate m d) ∗ owing d 0 (lvl 0)) := rfl
theorem region2_pre (d : Dev nD) : (region2 (Vsc m) 1 (lvl 1)).pre d = iprop(held (T d) (ucRefs τ sig) (Vsc m d) ∗ owing d 1 (lvl 1)) := rfl
theorem region2_post (d : Dev nD) : (region2 (Vsc m) 1 (lvl 1)).post d = iprop(held (T d) (ucRefs τ sig) (Vtopk m d) ∗ owing d 1 (lvl 1)) := rfl

/-- A region entered from @main, whose calls are the lifted ones. -/
theorem wp_region [∀ e, Nonempty (Elt F e)] {p : Fin 2} {pd : Dats F} (R : Pipeline.RegionSeg pcfgs adm pd none defs₀ 𝒱₀ (K (F := F)).L (K (F := F)).lev p)
    (d : Dev nD) (Q : PUnit → sProp 𝕄) :
    iprop((iprop(boundary (T d) ∗ R.post d) -∗ Q ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Q := by
  iintro ⟨Hk, Hr⟩
  iapply ((K (F := F)).wp_liftProg (D (F := F)) 𝒱 (T d) Set.univ none
    (Prog.lift (.customCall (Pipeline.entry p) ()) : Prog (TpuEff nD τ sig (Elt F) (ΛP (F := F)) .tc) PUnit) Q)
  iapply (Pipeline.RegionSeg.wp pcfgs adm pd none cellOf_inj EP defs₀ 𝒱₀ (K (F := F)).L (K (F := F)).lev R d none
    (fun u hu => nomatch hu) .ret Q)
  isplitl [Hk]
  · iintro H
    rw [wp_ret]; imodintro
    iapply Hk; iexact H
  iexact Hr

/-! ## The launch element -/

abbrev pins : Fin 2 → Pipeline.Cfg sig Λ₀ := Pipeline.pin (pcfgs (F := F)) adm

def u₀ : UU := (initOf (K (F := F)).hsCells (K (F := F)).hsToks,
  (initOf (Pipeline.cells (nD := nD) (τ := τ) (pins (F := F)) cellOf_inj) (Pipeline.launchToks (nD := nD) (τ := τ) (pins (F := F)) cellOf_inj), 1))

/-- What the pipelines need on device `d`. -/
abbrev G (d : Dev nD) : sProp 𝕄 :=
  iprop((bigSep Finset.univ fun p => Pipeline.cellsGhost (pins (F := F)) EP p d) ∗ (bigSep Finset.univ fun p => Pipeline.toksInit (pins (F := F)) EP p d))

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave HR := (own_pair_emb embR _ _) $$ HR
  icases HR with ⟨HP, -⟩
  imod (Pipeline.fund_ghost (pins (F := F)) EP cellOf_inj) $$ HP with ⟨Hc, Ht⟩
  imodintro
  isplitl [HH]; · iexact HH
  isplitl [Hc Ht]
  · rw [bigSep_sep']
    isplitl [Hc]; · iexact Hc
    iexact Ht
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The SparseCore call's buffers out of the device's arrays -/

abbrev S3s : Finset (DevRef τ sig) := {ref main_v1_0, ref main_v1_1, ref main_v2}

theorem S3s_sub : S3s ⊆ ucRefs τ sig := by decide

omit [FloatOps F] [Named F] in
theorem held_call (d : Dev nD) (W : Valuation τ sig (Elt F)) :
    (held (T d) (ucRefs τ sig) W : sProp 𝕄) = iprop(((fwLoc d ↦{fullShare} W (ref main_v1_0)) ∗ (mmLoc d ↦{fullShare} W (ref main_v1_1))
      ∗ (oLoc d ↦{fullShare} W (ref main_v2))) ∗ held (T d) (ucRefs τ sig \ S3s) W) := by
  rw [StableHlo.held_sub_split (T d) S3s_sub W]
  congr 1
  unfold held S3s
  rw [SparseCore.bigSep_insert' (by decide), SparseCore.bigSep_insert' (by decide), bigSep_singleton]

theorem Vsc_fw (d : Dev nD) : Vsc m d (ref main_v1_0) = Vgate m d (ref main_v1_0) := Function.update_of_ne (show ref main_v1_0 ≠ ref main_v2 by decide) _ _
theorem Vsc_mm (d : Dev nD) : Vsc m d (ref main_v1_1) = Vgate m d (ref main_v1_1) := Function.update_of_ne (show ref main_v1_1 ≠ ref main_v2 by decide) _ _
theorem Vsc_o (d : Dev nD) : Vsc m d (ref main_v2)
    = outAt (Vgate m d (ref main_v1_0)) (Vgate m d (ref main_v1_1)) (Vgate m d (ref main_v2)) := Function.update_self _ _ _
theorem Vsc_rest (d : Dev nD) : (held (T d) (ucRefs τ sig \ S3s) (Vsc m d) : sProp 𝕄) = held (T d) (ucRefs τ sig \ S3s) (Vgate m d) :=
  StableHlo.held_congr (T d) fun b hb => Function.update_of_ne (fun e => (Finset.mem_sdiff.mp hb).2 (by rw [e]; decide)) _ _

/-- The call's result put back beside the other arrays. -/
theorem held_Vsc (d : Dev nD) : (held (T d) (ucRefs τ sig) (Vsc m d) : sProp 𝕄)
    = iprop(((fwLoc d ↦{fullShare} Vgate m d (ref main_v1_0)) ∗ (mmLoc d ↦{fullShare} Vgate m d (ref main_v1_1))
      ∗ (oLoc d ↦{fullShare} (outAt (Vgate m d (ref main_v1_0)) (Vgate m d (ref main_v1_1)) (Vgate m d (ref main_v2)) : Buf (Elt F) (oLoc d))))
      ∗ held (T d) (ucRefs τ sig \ S3s) (Vgate m d)) := by
  rw [held_call, Vsc_fw, Vsc_mm, Vsc_o, Vsc_rest]

/-! ## What @main leaves the claim -/

abbrev Sfin : Finset (DevRef τ sig) := {ref main_arg0, ref main_arg1, ref main_v8}

theorem Sfin_sub : Sfin ⊆ ucRefs τ sig := by decide

abbrev FIN (d : Dev nD) : sProp 𝕄 := held (T d) Sfin (Vend m d)

theorem unscoped_held (d : Dev nD) : (unscopedBufs d (fun b => m ((SparseCore.T d).loc b)) : sProp 𝕄) = held (T d) (ucRefs τ sig) (Vlaunch m d) :=
  Pipeline.unscopedBufs_held d (Vlaunch m d)

theorem held_end (d : Dev nD) : (held (T d) (ucRefs τ sig) (opE.result (opD.result (opC.result (opB.result (opA.result (Vtopk m d)))))) : sProp 𝕄)
    = iprop(FIN m d ∗ held (T d) (ucRefs τ sig \ Sfin) (Vend m d)) := StableHlo.held_sub_split (T d) Sfin_sub (Vend m d)

variable (ρ : Dev nD → PrngReg)

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, ⟨Hc, Ht⟩⟩
  ihave #Hlev := (SparseCore.Cfg.ctx_levAts κ) $$ Hctx
  ihave Hc := (Entails.of_eq (show (bigSep Finset.univ fun p : Fin 2 => Pipeline.cellsGhost (pins (F := F)) EP p d) = iprop(Pipeline.cellsGhost (pins (F := F)) EP 0 d ∗ Pipeline.cellsGhost (pins (F := F)) EP 1 d) from by
    rw [show (Finset.univ : Finset (Fin 2)) = {0, 1} by decide, SparseCore.bigSep_insert' (by decide), bigSep_singleton])) $$ Hc
  ihave Ht := (Entails.of_eq (show (bigSep Finset.univ fun p : Fin 2 => Pipeline.toksInit (pins (F := F)) EP p d) = iprop(Pipeline.toksInit (pins (F := F)) EP 0 d ∗ Pipeline.toksInit (pins (F := F)) EP 1 d) from by
    rw [show (Finset.univ : Finset (Fin 2)) = {0, 1} by decide, SparseCore.bigSep_insert' (by decide), bigSep_singleton])) $$ Ht
  icases Hc with ⟨Hc0, Hc1⟩
  icases Ht with ⟨Ht0, Ht1⟩
  -- the reshape
  iapply (StableHlo.wp_hlo_within 𝒱 (SparseCore.T d) none Set.univ (op := opX) (S := ucRefs τ sig) opX_sub (V := Vlaunch m d)) $$ [Hb Hheld]
  · isplitl [Hb] <;> iassumption
  iintro ⟨Hb, Hheld⟩
  rw [wp_ret]; imodintro
  -- the gate kernel
  unfold SparseCore.Cfg.tcSt
  icases Hst with ⟨HO, Hst⟩
  iapply (wp_region (region0 (Vx m) 0 (lvl 0)) d _)
  isplitr [Hb Hheld HO Hc0 Ht0]; swap
  · isplitl [Hb]; · iexact Hb
    isplitl [Hheld HO]
    · rw [region0_pre]
      isplitl [Hheld]; · iexact Hheld
      unfold owing; iexact HO
    isplitr; · iexact Hlev
    isplitl [Hc0] <;> iassumption
  rw [region0_post]; unfold owing
  iintro ⟨Hb, ⟨Hheld, HO⟩⟩
  ihave Hh := (Entails.of_eq (held_call d (Vgate m d))) $$ Hheld
  icases Hh with ⟨⟨Hfw, Hmm, Ho⟩, Hrest⟩
  -- the SparseCore call
  ihave Ho := (pointsTo_split_subset (Finset.subset_univ rows)).1 $$ Ho
  icases Ho with ⟨Ho, Hor⟩
  iapply ((K (F := F)).wp_run (D (F := F)) 𝒱 (EH := EH) (P := PP m) κ d 0)
  isplitr; · iexact Hctx
  isplitl [HO Hst]
  · unfold SparseCore.Cfg.tcSt
    isplitl [HO]; · iexact HO
    iexact Hst
  isplitl [Hfw Hmm Ho]
  · rw [st_eq]
    isplitl [Hfw]; · iexact Hfw
    isplitl [Hmm]; · iexact Hmm
    iexact Ho
  iintro ⟨Hst, Hdn⟩
  ihave Hdn := (Entails.of_eq (dn_eq _ _ _ d)) $$ Hdn
  icases Hdn with ⟨Hfw, Hmm, Ho⟩
  ihave Ho := (Entails.of_eq (out_join d _ _ _).symm) $$ [Ho Hor]
  · isplitl [Ho] <;> iassumption
  ihave Hheld := (Entails.of_eq (held_Vsc m d).symm) $$ [Hfw Hmm Ho Hrest]
  · isplitr [Hrest]; swap; · iexact Hrest
    isplitl [Hfw]; · iexact Hfw
    isplitl [Hmm] <;> iassumption
  -- the top-k kernel
  unfold SparseCore.Cfg.tcSt
  icases Hst with ⟨HO, Hst⟩
  iapply (wp_region (region2 (Vsc m) 1 (lvl 1)) d _)
  isplitr [Hb Hheld HO Hc1 Ht1]; swap
  · isplitl [Hb]; · iexact Hb
    isplitl [Hheld HO]
    · rw [region2_pre]
      isplitl [Hheld]; · iexact Hheld
      unfold owing; iexact HO
    isplitr; · iexact Hlev
    isplitl [Hc1] <;> iassumption
  rw [region2_post]; unfold owing
  iintro ⟨Hb, ⟨Hheld, HO⟩⟩
  iapply (StableHlo.wp_hlo_within 𝒱 (SparseCore.T d) none Set.univ (op := opA) (S := ucRefs τ sig) opA_sub (V := (Vtopk m d))) $$ [Hb Hheld]
  · isplitl [Hb] <;> iassumption
  iintro ⟨Hb, Hheld⟩
  rw [wp_ret]; imodintro
  iapply (StableHlo.wp_hlo_within 𝒱 (SparseCore.T d) none Set.univ (op := opB) (S := ucRefs τ sig) opB_sub (V := (opA.result (Vtopk m d)))) $$ [Hb Hheld]
  · isplitl [Hb] <;> iassumption
  iintro ⟨Hb, Hheld⟩
  rw [wp_ret]; imodintro
  iapply (StableHlo.wp_hlo_within 𝒱 (SparseCore.T d) none Set.univ (op := opC) (S := ucRefs τ sig) opC_sub (V := (opB.result (opA.result (Vtopk m d))))) $$ [Hb Hheld]
  · isplitl [Hb] <;> iassumption
  iintro ⟨Hb, Hheld⟩
  rw [wp_ret]; imodintro
  iapply (StableHlo.wp_hlo_within 𝒱 (SparseCore.T d) none Set.univ (op := opD) (S := ucRefs τ sig) opD_sub (V := (opC.result (opB.result (opA.result (Vtopk m d)))))) $$ [Hb Hheld]
  · isplitl [Hb] <;> iassumption
  iintro ⟨Hb, Hheld⟩
  rw [wp_ret]; imodintro
  iapply (StableHlo.wp_hlo_within 𝒱 (SparseCore.T d) none Set.univ (op := opE) (S := ucRefs τ sig) opE_sub (V := (opD.result (opC.result (opB.result (opA.result (Vtopk m d))))))) $$ [Hb Hheld]
  · isplitl [Hb] <;> iassumption
  iintro ⟨Hb, Hheld⟩
  rw [wp_ret]; imodintro
  imodintro
  ihave Hheld := (Entails.of_eq (held_end m d)) $$ Hheld
  icases Hheld with ⟨Hfin, -⟩
  isplitl [HO Hst]
  · isplitl [HO]; · iexact HO
    iexact Hst
  isplitl [Hfin]; · iexact Hfin
  isplitl [Hb] <;> iassumption

/-! ## The run -/

def fq (d : Dev nD) (s' : Phys nD τ sig (Elt F)) : Prop := ∀ b ∈ Sfin, s'.mem.mem (d, b) = Vend m d b

omit [FloatOps F] [Named F] in
theorem held_fin (d : Dev nD) (W : Valuation τ sig (Elt F)) :
    (held (T d) Sfin W : sProp 𝕄) = iprop((xLoc d ↦{fullShare} W (ref main_arg0)) ∗ (wLoc d ↦{fullShare} W (ref main_arg1))
      ∗ ((SparseCore.T d).loc main_v8 ↦{fullShare} W (ref main_v8))) := by
  unfold held Sfin
  rw [SparseCore.bigSep_insert' (by decide), SparseCore.bigSep_insert' (by decide), bigSep_singleton]

omit [FloatOps F] [Named F] in
theorem agree {ℓ : Loc nD τ sig} {f : Buf (Elt F) ℓ} {s' : Phys nD τ sig (Elt F)} : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] [Named F] in
theorem both {A B C : Prop} : (iprop(⌜A⌝ ∧ ⌜B⌝ ∧ ⌜C⌝) : sProp 𝕄) ⊢ ⌜A ∧ B ∧ C⌝ := by
  iintro ⟨%a, %b, %c⟩
  ipureintro; exact ⟨a, b, c⟩

theorem hfin (d : Dev nD) (s' : Phys nD τ sig (Elt F)) : iprop(FIN m d ∗ SI s') ⊢ (⌜fq m d s'⌝ : sProp 𝕄) := by
  rw [FIN, held_fin]
  have h0 : iprop(((xLoc d ↦{fullShare} Vend m d (ref main_arg0)) ∗ (wLoc d ↦{fullShare} Vend m d (ref main_arg1))
      ∗ ((SparseCore.T d).loc main_v8 ↦{fullShare} Vend m d (ref main_v8))) ∗ SI s') ⊢ (⌜s'.mem.mem (xLoc d) = Vend m d (ref main_arg0)⌝ : sProp 𝕄) := by
    iintro ⟨⟨H, -, -⟩, HSI⟩; iapply agree; isplitl [H] <;> iassumption
  have h1 : iprop(((xLoc d ↦{fullShare} Vend m d (ref main_arg0)) ∗ (wLoc d ↦{fullShare} Vend m d (ref main_arg1))
      ∗ ((SparseCore.T d).loc main_v8 ↦{fullShare} Vend m d (ref main_v8))) ∗ SI s') ⊢ (⌜s'.mem.mem (wLoc d) = Vend m d (ref main_arg1)⌝ : sProp 𝕄) := by
    iintro ⟨⟨-, H, -⟩, HSI⟩; iapply agree; isplitl [H] <;> iassumption
  have h2 : iprop(((xLoc d ↦{fullShare} Vend m d (ref main_arg0)) ∗ (wLoc d ↦{fullShare} Vend m d (ref main_arg1))
      ∗ ((SparseCore.T d).loc main_v8 ↦{fullShare} Vend m d (ref main_v8))) ∗ SI s') ⊢ (⌜s'.mem.mem ((SparseCore.T d).loc main_v8) = Vend m d (ref main_v8)⌝ : sProp 𝕄) := by
    iintro ⟨⟨-, -, H⟩, HSI⟩; iapply agree; isplitl [H] <;> iassumption
  refine (BI.and_intro h0 (BI.and_intro h1 h2)).trans (both.trans (Laws.pure_mono ?_))
  rintro ⟨e0, e1, e2⟩ b hb
  rcases Finset.mem_insert.mp hb with rfl | hb
  · exact e0
  rcases Finset.mem_insert.mp hb with rfl | hb
  · exact e1
  rw [Finset.mem_singleton.mp hb]; exact e2

def QC : PUnit × MemSt nD τ sig (Elt F) → Prop := fun r => (∀ d : Dev nD, ∀ b ∈ Sfin, r.2.mem (d, b) = Vend m d b) ∧ r.2.sem = fun _ => 0

/-- The program runs, and ends with the arguments and the result at `Vend`, every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _)
    (fun q _ => match q with | 0 => SparseCore.Cfg.VecSplit.of_plain (vecSplit _ _ _))
    m ρ main (G (F := F)) (FIN m) (u₀ (F := F)) (sep_elim_left.trans (hu₀ m)) (hmain m ρ) (fq m) (hfin m) (QC m) (fun _ h hz => ⟨h, hz⟩)

theorem x_fin (d : Dev nD) : (d.tc : Thread nD τ).2.devRef main_arg0 ∈ Sfin := show ref main_arg0 ∈ Sfin by decide
theorem w_fin (d : Dev nD) : (d.tc : Thread nD τ).2.devRef main_arg1 ∈ Sfin := show ref main_arg1 ∈ Sfin by decide
theorem o_fin (d : Dev nD) : (d.tc : Thread nD τ).2.devRef main_v8 ∈ Sfin := show ref main_v8 ∈ Sfin by decide

/-! ## The arguments at the end -/

theorem Vx_of (d : Dev nD) {b : DevRef τ sig} (h : b ≠ ref main_v0) : Vx m d b = m (d, b) :=
  opX.result_of_not_mem (Vlaunch m d) (b := b) (show b ∉ ({ref main_v0} : Finset (DevRef τ sig)) from fun h' => h (Finset.mem_singleton.mp h'))

theorem Vgate_keeps (d : Dev nD) (r : Ref sig .tc) (h : ∀ w, arrRef spec0 w = r → (cfg0.win w).isOut = false) : Vgate m d (ref r) = Vx m d (ref r) :=
  Pipeline.afterRegion_keeps (dat0 (Vx m) 0 (lvl 0) d) (Vx m d) launch0.win.arr_inj (fun _ => rfl) r h

theorem Vtopk_keeps (d : Dev nD) (r : Ref sig .tc) (h : ∀ w, arrRef spec2 w = r → (cfg2.win w).isOut = false) : Vtopk m d (ref r) = Vsc m d (ref r) :=
  Pipeline.afterRegion_keeps (dat2 (Vsc m) 1 (lvl 1) d) (Vsc m d) launch2.win.arr_inj (fun _ => rfl) r h

theorem Vend_of (d : Dev nD) {b : DevRef τ sig} (h : b ∉ ({ref main_v4, ref main_v5, ref main_v6, ref main_v7, ref main_v8} : Finset (DevRef τ sig))) :
    Vend m d b = Vtopk m d b := by
  simp only [Finset.mem_insert, Finset.mem_singleton, not_or] at h
  unfold Vend
  rw [opE.result_of_not_mem _ (show b ∉ ({ref main_v8} : Finset (DevRef τ sig)) by simp [h]),
    opD.result_of_not_mem _ (show b ∉ ({ref main_v7} : Finset (DevRef τ sig)) by simp [h]),
    opC.result_of_not_mem _ (show b ∉ ({ref main_v6} : Finset (DevRef τ sig)) by simp [h]),
    opB.result_of_not_mem _ (show b ∉ ({ref main_v5} : Finset (DevRef τ sig)) by simp [h]),
    opA.result_of_not_mem _ (show b ∉ ({ref main_v4} : Finset (DevRef τ sig)) by simp [h])]

theorem Vend_x (d : Dev nD) : Vend m d (ref main_arg0) = m (xLoc d) := by
  rw [Vend_of m d (by decide), Vtopk_keeps m d main_arg0 (by decide), Vsc, Function.update_of_ne (by decide),
    Vgate_keeps m d main_arg0 (by decide), Vx_of m d (by decide)]
theorem Vend_w (d : Dev nD) : Vend m d (ref main_arg1) = m (wLoc d) := by
  rw [Vend_of m d (by decide), Vtopk_keeps m d main_arg1 (by decide), Vsc, Function.update_of_ne (by decide),
    Vgate_keeps m d main_arg1 (by decide), Vx_of m d (by decide)]

end Cert.Proof.TopK

end
-- ==== Proof.Printed.TileValue.lean ====
/-
  What one tile of the SparseCore call computes, as functions of what it holds: the gated values `A` of its image and
  chunk (channels by pixels) and the image's two rows `B` of brackets.

  A group of sixteen pixels narrows its bracket six times by counting the channels at or above the middle, then sums
  the excess over the lower end.
-/
module

public import proofs.«01_k».proof.Proof.Printed.Setup

@[expose] public section

noncomputable section

namespace Cert.Proof.Printed

open Cert.Kernel Cert.Kernel.Gen
open Idealize.ShloMosaic
open Idealize.ShloMosaic.SparseCore (S V T)

variable {F : FTy → Type}

abbrev aM : Memref sig .scVector .vmem S384x192 .f32 := Memref.whole cc1_scratch0
abbrev bM : Memref sig .scVector .vmem S2x576 .f32 := Memref.whole cc1_scratch1

/-- Sixteen pixels of one channel. -/
abbrev ldA (A : Vec F S384x192 .f32) (off : Fin 2 → ℕ) (h : ∀ a, off a + S1x16.size a ≤ S384x192.size a) : Vec F S1x16 .f32 :=
  aM.view.readAt (Elt F) (Rect.unit (s := S384x192) off S1x16.size h).toLoadRect A

/-- Sixteen pixels of one row of brackets. -/
abbrev ldB (B : Vec F S2x576 .f32) (off : Fin 2 → ℕ) (h : ∀ a, off a + S1x16.size a ≤ S2x576.size a) : Vec F S1x16 .f32 :=
  bM.view.readAt (Elt F) (Rect.unit (s := S2x576) off S1x16.size h).toLoadRect B

variable [FloatOps F]

/-- Four partial results, one per accumulator. -/
abbrev Four (F : FTy → Type) : Type := FVec F S16 .f32 × FVec F S16 .f32 × FVec F S16 .f32 × FVec F S16 .f32

/-- One trip of the count: eight channels, two to each accumulator. -/
def cntStep (A : Vec F S384x192 .f32) (g : Fin k1_t1_loop.trips) (lo hi : FVec F S16 .f32) (k : Fin k1_t3_loop.trips) (s : Four F) : Four F :=
  (k1_pay4 k1_pay22 lo hi (k1_pay16 k1_pay22 (k1_pay3 lo hi) s.1 (ldA A _ (k1_off5_inb g k 0))) (k1_pay20 (ldA A _ (k1_off5_inb g k 1))),
   k1_pay5 k1_pay22 lo hi (k1_pay17 k1_pay22 (k1_pay3 lo hi) s.2.1 (ldA A _ (k1_off6_inb g k 0 0))) (k1_pay21 (ldA A _ (k1_off6_inb g k 1 0))),
   k1_pay6 k1_pay22 lo hi (k1_pay18 k1_pay22 (k1_pay3 lo hi) s.2.2.1 (ldA A _ (k1_off6_inb g k 0 1))) (ldA A _ (k1_off6_inb g k 1 1)),
   k1_pay7 k1_pay22 lo hi (k1_pay19 k1_pay22 (k1_pay3 lo hi) s.2.2.2 (ldA A _ (k1_off6_inb g k 0 2))) (ldA A _ (k1_off6_inb g k 1 2)))

/-- The four counts after `n` trips. -/
def cntAt (A : Vec F S384x192 .f32) (g : Fin k1_t1_loop.trips) (lo hi : FVec F S16 .f32) (n : ℕ) : Four F :=
  iter (cntStep A g lo hi) (k1_pay23, k1_pay23, k1_pay23, k1_pay23) n

/-- One halving of the bracket. -/
def halve (A : Vec F S384x192 .f32) (g : Fin k1_t1_loop.trips) (_ : Fin k1_t2_loop.trips) (s : FVec F S16 .f32 × FVec F S16 .f32) : FVec F S16 .f32 × FVec F S16 .f32 :=
  (k1_pay9 s.1 s.2 (cntAt A g s.1 s.2 k1_t3_loop.trips).1 (cntAt A g s.1 s.2 k1_t3_loop.trips).2.1 (cntAt A g s.1 s.2 k1_t3_loop.trips).2.2.1 (cntAt A g s.1 s.2 k1_t3_loop.trips).2.2.2,
   k1_pay10 s.1 s.2 (cntAt A g s.1 s.2 k1_t3_loop.trips).1 (cntAt A g s.1 s.2 k1_t3_loop.trips).2.1 (cntAt A g s.1 s.2 k1_t3_loop.trips).2.2.1 (cntAt A g s.1 s.2 k1_t3_loop.trips).2.2.2)

/-- The bracket after `n` halvings. -/
def brkAt (L : grid1.Coords) (A : Vec F S384x192 .f32) (B : Vec F S2x576 .f32) (g : Fin k1_t1_loop.trips) (n : ℕ) : FVec F S16 .f32 × FVec F S16 .f32 :=
  iter (halve A g) (k1_pay1 (ldB B _ (k1_off3_inb L g)), k1_pay2 (ldB B _ (k1_off4_inb L g))) n

/-- One trip of the sum of excesses: four channels, one to each accumulator. -/
def excStep (A : Vec F S384x192 .f32) (g : Fin k1_t1_loop.trips) (t : FVec F S16 .f32) (k : Fin k1_t4_loop.trips) (s : Four F) : Four F :=
  (k1_pay11 t s.1 (ldA A _ (k1_off7_inb g k)), k1_pay12 t s.2.1 (ldA A _ (k1_off8_inb g k 0)),
   k1_pay13 t s.2.2.1 (ldA A _ (k1_off8_inb g k 1)), k1_pay14 t s.2.2.2 (ldA A _ (k1_off8_inb g k 2)))

/-- The four sums after `n` trips. -/
def excAt (A : Vec F S384x192 .f32) (g : Fin k1_t1_loop.trips) (t : FVec F S16 .f32) (n : ℕ) : Four F :=
  iter (excStep A g t) (k1_pay24, k1_pay24, k1_pay24, k1_pay24) n

/-- The mean of a group's sixteen pixels. -/
def grpOut (L : grid1.Coords) (A : Vec F S384x192 .f32) (B : Vec F S2x576 .f32) (g : Fin k1_t1_loop.trips) : FVec F S16 .f32 :=
  k1_pay15 (brkAt L A B g k1_t2_loop.trips).1
    (excAt A g (brkAt L A B g k1_t2_loop.trips).1 k1_t4_loop.trips).1 (excAt A g (brkAt L A B g k1_t2_loop.trips).1 k1_t4_loop.trips).2.1
    (excAt A g (brkAt L A B g k1_t2_loop.trips).1 k1_t4_loop.trips).2.2.1 (excAt A g (brkAt L A B g k1_t2_loop.trips).1 k1_t4_loop.trips).2.2.2

/-- Pixel `j` of a tile's 192: of group `j / 16`, lane `j % 16`. -/
def tileOut (L : grid1.Coords) (A : Vec F S384x192 .f32) (B : Vec F S2x576 .f32) (j : S192.Idx) : Elt F .f32 :=
  grpOut L A B ⟨(j 0).val / 16, by rw [trips1]; have h : (j 0).val < 192 := (j 0).isLt; omega⟩ (fun | 0 => (⟨(j 0).val % 16, Nat.mod_lt _ (by decide)⟩ : Fin 16))

end Cert.Proof.Printed

end
-- ==== Proof.Frames.lean ====
/-
  The three programs run, end with their arguments unchanged and every semaphore at zero; and the idealization's one
  kind of rewrite is the naming of a constant.
-/
module

public import proofs.«01_k».proof.Defs
public import proofs.«01_k».proof.Proof.Main
public import proofs.«01_k».proof.Proof.Printed.Main
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

theorem frame_ki : Cert.quiescent_KernelIdeal (hKernelIdeal := Cert.KernelIdeal.Gen.facts) := fun m ρ _ =>
  (θ_run _ _ _).mono (fun _ h => ⟨fun c => ⟨(h.1 c _ (TopK.x_fin c)).trans (TopK.Vend_x m c), (h.1 c _ (TopK.w_fin c)).trans (TopK.Vend_w m c)⟩, h.2⟩)
    (TopK.run_main (F := Ideal) m ρ)

theorem frame_k : Cert.quiescent_Kernel (hKernel := Cert.Kernel.Gen.facts) := fun m ρ _ =>
  (θ_run _ _ _).mono (fun _ h => ⟨fun c => ⟨(h.1 c _ (Printed.x_fin c)).trans (Printed.Vend_x m c), (h.1 c _ (Printed.w_fin c)).trans (Printed.Vend_w m c)⟩, h.2⟩)
    (Printed.run_main (F := Bits) m ρ)

theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "inv_k" .f32 0x3BAAAAAB#32 ((192⁻¹ : ℝ) : EReal) rfl

end Cert.Proof

end
-- ==== Proof.Bisect.lean ====
/-
  Bisection for a threshold, over the reals: narrowing a bracket by counting leaves the lower end on the grid of the
  bracket, with at least `k` values at or above it and fewer than `k` at or above the upper end. Then what the mean of
  the excess over that threshold, plus the threshold, is: at least the mean of the `k` largest values, at most one
  final bracket's width more, and equal to it when some grid point separates the `k` largest from the rest.
-/
module

public import Mathlib.Data.EReal.Operations
public import Mathlib.Data.EReal.Inv
public import Mathlib.Algebra.BigOperators.Fin
public import Idealize.ShloMosaic.PureOps.Ideal.Laws
public import Mathlib.Tactic.Linarith
public import Mathlib.Tactic.Ring
public import Mathlib.Tactic.NormNum

@[expose] public section

noncomputable section

namespace Cert.Proof.Bisect

open Finset

/-- How many of the values are at or above `m`. -/
def count (v : Fin 384 → ℝ) (m : ℝ) : ℕ := (univ.filter fun c => m ≤ v c).card

/-- One halving of a bracket. -/
def half (v : Fin 384 → ℝ) (s : ℝ × ℝ) : ℝ × ℝ :=
  if 192 ≤ count v ((s.1 + s.2) * (1 / 2)) then ((s.1 + s.2) * (1 / 2), s.2) else (s.1, (s.1 + s.2) * (1 / 2))

/-- The bracket after `n` halvings. -/
def brk (v : Fin 384 → ℝ) (lo hi : ℝ) (n : ℕ) : ℝ × ℝ := (half v)^[n] (lo, hi)

/-- The mean of the excesses over `t`, plus `t`, at `k = 192`. -/
def relaxed (v : Fin 384 → ℝ) (t : ℝ) : ℝ := (∑ c, max (v c - t) 0 + 192 * t) * 192⁻¹

theorem count_anti (v : Fin 384 → ℝ) {a b : ℝ} (h : a ≤ b) : count v b ≤ count v a :=
  card_le_card fun c hc => by
    rw [mem_filter] at hc ⊢
    exact ⟨hc.1, h.trans hc.2⟩

theorem brk_succ (v : Fin 384 → ℝ) (lo hi : ℝ) (n : ℕ) : brk v lo hi (n + 1) = half v (brk v lo hi n) :=
  Function.iterate_succ_apply' _ _ _

theorem brk_invariant (v : Fin 384 → ℝ) (lo hi : ℝ) (hlo : 192 ≤ count v lo) (hhi : count v hi < 192) (n : ℕ) :
    192 ≤ count v (brk v lo hi n).1 ∧ count v (brk v lo hi n).2 < 192
      ∧ (brk v lo hi n).2 - (brk v lo hi n).1 = (hi - lo) / 2 ^ n
      ∧ ∃ j : ℕ, (brk v lo hi n).1 = lo + j * ((hi - lo) / 2 ^ n) := by
  induction n with
  | zero => exact ⟨hlo, hhi, by simp [brk], 0, by simp [brk]⟩
  | succ n ih =>
    obtain ⟨h1, h2, h3, j, h4⟩ := ih
    rw [brk_succ]
    have hp : (hi - lo) / 2 ^ (n + 1) = (hi - lo) / 2 ^ n / 2 := by rw [pow_succ, div_div]
    rw [hp]
    set d := (hi - lo) / 2 ^ n with hd
    unfold half
    split
    · rename_i h
      refine ⟨h, h2, ?_, 2 * j + 1, ?_⟩
      · show (brk v lo hi n).2 - ((brk v lo hi n).1 + (brk v lo hi n).2) * (1 / 2) = d / 2
        linarith
      · show ((brk v lo hi n).1 + (brk v lo hi n).2) * (1 / 2) = lo + ((2 * j + 1 : ℕ) : ℝ) * (d / 2)
        push_cast
        linarith
    · rename_i h
      refine ⟨h1, not_le.mp h, ?_, 2 * j, ?_⟩
      · show ((brk v lo hi n).1 + (brk v lo hi n).2) * (1 / 2) - (brk v lo hi n).1 = d / 2
        linarith
      · show (brk v lo hi n).1 = lo + ((2 * j : ℕ) : ℝ) * (d / 2)
        push_cast
        linarith

section sorted

variable (v : Fin 384 → ℝ) (σ : Equiv.Perm (Fin 384)) (s : Fin 384 → ℝ) (hs : ∀ i, s i = v (σ i)) (anti : ∀ i j, i ≤ j → s j ≤ s i)
include hs anti

theorem count_sorted (m : ℝ) : count v m = (univ.filter fun i => m ≤ s i).card := by
  have e : (univ.filter fun i => m ≤ s i).map σ.toEmbedding = univ.filter fun c => m ≤ v c := by
    ext c
    simp only [mem_map, mem_filter, mem_univ, true_and, Equiv.toEmbedding_apply]
    constructor
    · rintro ⟨i, hi, rfl⟩; rw [hs] at hi; exact hi
    · intro h; exact ⟨σ.symm c, by rw [hs, Equiv.apply_symm_apply]; exact h, Equiv.apply_symm_apply _ _⟩
  rw [count, ← e, card_map]

/-- At least 192 values are at or above `t` exactly when the 192nd largest is. -/
theorem le_count_iff (t : ℝ) : 192 ≤ count v t ↔ t ≤ s 191 := by
  rw [count_sorted v σ s hs anti]
  constructor
  · intro h
    by_contra hn
    have hsub : (univ.filter fun i => t ≤ s i) ⊆ (univ.filter fun i : Fin 384 => i < 191) := fun i hi => by
      rw [mem_filter] at hi ⊢
      refine ⟨hi.1, ?_⟩
      by_contra hle
      exact hn (hi.2.trans (anti _ _ (not_lt.mp hle)))
    have hc : (univ.filter fun i : Fin 384 => i < 191).card = 191 := by decide
    have := card_le_card hsub
    omega
  · intro h
    have hsub : (univ.filter fun i : Fin 384 => i ≤ 191) ⊆ (univ.filter fun i => t ≤ s i) := fun i hi => by
      rw [mem_filter] at hi ⊢
      exact ⟨hi.1, h.trans (anti _ _ hi.2)⟩
    have hc : (univ.filter fun i : Fin 384 => i ≤ 191).card = 192 := by decide
    have := card_le_card hsub
    omega

theorem sum_excess (t : ℝ) : ∑ c, max (v c - t) 0 = ∑ i : Fin 192, max (s (Fin.castAdd 192 i) - t) 0 + ∑ i : Fin 192, max (s (Fin.natAdd 192 i) - t) 0 := by
  have e : ∑ c, max (v c - t) 0 = ∑ i, max (s i - t) 0 := by
    rw [← Equiv.sum_comp σ]
    exact sum_congr rfl fun i _ => by rw [hs]
  rw [e]
  exact Fin.sum_univ_add (a := 192) (b := 192) fun i => max (s i - t) 0

theorem sum_upper (t : ℝ) (ht : t ≤ s 191) : ∑ i : Fin 192, max (s (Fin.castAdd 192 i) - t) 0 = ∑ i : Fin 192, s (Fin.castAdd 192 i) - 192 * t := by
  have e : ∀ i : Fin 192, max (s (Fin.castAdd 192 i) - t) 0 = s (Fin.castAdd 192 i) - t := fun i => by
    refine max_eq_left (sub_nonneg.mpr (ht.trans (anti _ _ ?_)))
    rw [Fin.le_def]
    have := i.isLt
    show i.val ≤ 191
    omega
  rw [sum_congr rfl fun i _ => e i, sum_sub_distrib, sum_const, card_univ, Fintype.card_fin, nsmul_eq_mul]
  norm_num

/-- The excess form is the mean of the 192 largest plus the excess of the others. -/
theorem relaxed_eq (t : ℝ) (ht : t ≤ s 191) :
    relaxed v t = (∑ i : Fin 192, s (Fin.castAdd 192 i)) / 192 + (∑ i : Fin 192, max (s (Fin.natAdd 192 i) - t) 0) / 192 := by
  unfold relaxed
  rw [sum_excess v σ s hs anti, sum_upper v σ s hs anti t ht]
  ring

/-- Within one final bracket of the mean of the 192 largest. -/
theorem relaxed_bounds (lo hi : ℝ) (hlo : 192 ≤ count v lo) (hhi : count v hi < 192) (n : ℕ) :
    (∑ i : Fin 192, s (Fin.castAdd 192 i)) / 192 ≤ relaxed v (brk v lo hi n).1
      ∧ relaxed v (brk v lo hi n).1 ≤ (∑ i : Fin 192, s (Fin.castAdd 192 i)) / 192 + (hi - lo) / 2 ^ n := by
  obtain ⟨h1, h2, h3, -⟩ := brk_invariant v lo hi hlo hhi n
  have ht := (le_count_iff v σ s hs anti _).mp h1
  have hu : s 191 < (brk v lo hi n).2 := not_le.mp fun h => absurd ((le_count_iff v σ s hs anti _).mpr h) (not_le.mpr h2)
  rw [relaxed_eq v σ s hs anti _ ht, ← h3]
  have hd : 0 ≤ (brk v lo hi n).2 - (brk v lo hi n).1 := sub_nonneg.mpr (ht.trans hu.le)
  have hnn : 0 ≤ ∑ i : Fin 192, max (s (Fin.natAdd 192 i) - (brk v lo hi n).1) 0 := sum_nonneg fun i _ => le_max_right _ _
  have hle : ∑ i : Fin 192, max (s (Fin.natAdd 192 i) - (brk v lo hi n).1) 0 ≤ 192 * ((brk v lo hi n).2 - (brk v lo hi n).1) := by
    have := sum_le_card_nsmul (univ : Finset (Fin 192)) (fun i => max (s (Fin.natAdd 192 i) - (brk v lo hi n).1) 0) ((brk v lo hi n).2 - (brk v lo hi n).1) fun i _ => by
      refine max_le (sub_le_sub_right ?_ _) hd
      refine (anti 191 _ ?_).trans hu.le
      rw [Fin.le_def]
      show 191 ≤ 192 + i.val
      omega
    rw [card_univ, Fintype.card_fin, nsmul_eq_mul] at this
    exact_mod_cast this
  constructor
  · have := div_nonneg hnn (by norm_num : (0 : ℝ) ≤ 192)
    linarith
  · have : (∑ i : Fin 192, max (s (Fin.natAdd 192 i) - (brk v lo hi n).1) 0) / 192 ≤ (brk v lo hi n).2 - (brk v lo hi n).1 := by
      rw [div_le_iff₀ (by norm_num)]; linarith
    linarith

/-- Equal to it where a grid point of the final bracket's width separates the 192 largest from the rest. -/
theorem relaxed_exact (lo hi : ℝ) (hlo : 192 ≤ count v lo) (hhi : count v hi < 192) (n : ℕ) (j : ℕ)
    (hj : s 192 ≤ lo + j * ((hi - lo) / 2 ^ n)) (hj' : lo + j * ((hi - lo) / 2 ^ n) ≤ s 191) :
    relaxed v (brk v lo hi n).1 = (∑ i : Fin 192, s (Fin.castAdd 192 i)) / 192 := by
  obtain ⟨h1, h2, h3, m, h4⟩ := brk_invariant v lo hi hlo hhi n
  have ht := (le_count_iff v σ s hs anti _).mp h1
  have hu : s 191 < (brk v lo hi n).2 := not_le.mp fun h => absurd ((le_count_iff v σ s hs anti _).mpr h) (not_le.mpr h2)
  set d := (hi - lo) / 2 ^ n with hd
  have hdpos : 0 < d := by linarith
  have hjm : (j : ℝ) < m + 1 := by
    have : (j : ℝ) * d < (m + 1) * d := by linarith
    exact lt_of_mul_lt_mul_right this hdpos.le
  have hjm' : j ≤ m := by
    have : (j : ℝ) < ((m + 1 : ℕ) : ℝ) := by push_cast; exact hjm
    have := Nat.cast_lt.mp this
    omega
  have hge : s 192 ≤ (brk v lo hi n).1 := by
    have : (j : ℝ) * d ≤ m * d := mul_le_mul_of_nonneg_right (Nat.cast_le.mpr hjm') hdpos.le
    linarith
  rw [relaxed_eq v σ s hs anti _ ht]
  have hz : ∑ i : Fin 192, max (s (Fin.natAdd 192 i) - (brk v lo hi n).1) 0 = 0 := sum_eq_zero fun i _ => by
    refine max_eq_right (sub_nonpos.mpr ((anti 192 _ ?_).trans hge))
    rw [Fin.le_def]
    show 192 ≤ 192 + i.val
    omega
  rw [hz]
  simp

end sorted

end Cert.Proof.Bisect

end
-- ==== Proof.Pixel.lean ====
/-
  One pixel on the extended reals: its bracket, its bisection by counting and its mean of excesses, as both of the
  kernel's selections compute them, and what that is when every channel of the pixel is finite.
-/
module

public import proofs.«01_k».proof.Proof.Bisect
public import Idealize.ShloMosaic.Lib.IdealHost

@[expose] public section

noncomputable section

namespace Cert.Proof.Pixel

open Finset Idealize.ShloMosaic Cert.Proof.Bisect

/-- The two constants that widen a pixel's range into its bracket. -/
abbrev scale : EReal := Ideal.ofBits .f32 0x3C23D70A#32
abbrev pad : EReal := Ideal.ofBits .f32 0x0DA24260#32

/-- Both are real: the one is not negative, the other is positive. -/
theorem scale_real : ∃ r : ℝ, scale = (r : EReal) ∧ 0 ≤ r := by
  refine ⟨10737418 * 2 ^ (-30 : ℤ), ?_, by positivity⟩
  simp [scale, Ideal.ofBits, Ideal.ieee, -EReal.coe_mul]
theorem pad_real : ∃ r : ℝ, pad = (r : EReal) ∧ 0 < r := by
  refine ⟨10633824 * 2 ^ (-123 : ℤ), ?_, by positivity⟩
  simp [pad, Ideal.ofBits, Ideal.ieee, -EReal.coe_mul]

/-- The lower and the upper end of the bracket of a pixel whose channels reach from `a` to `b`. -/
def lower (a : EReal) : EReal := a - (max a (-a) * scale + pad)
def upper (b : EReal) : EReal := b + (max b (-b) * scale + pad)

/-- How many channels are at or above `m`. -/
def countE (v : Fin 384 → EReal) (m : EReal) : EReal := ∑ c, if m ≤ v c then (1 : EReal) else 0

/-- The middle of a bracket. -/
def middle (s : EReal × EReal) : EReal := (s.1 + s.2) * ((1 / 2 : ℝ) : EReal)

open Classical in
/-- One halving of a bracket. -/
def halfE (v : Fin 384 → EReal) (s : EReal × EReal) : EReal × EReal :=
  if ((192 : ℝ) : EReal) ≤ countE v (middle s) then (middle s, s.2) else (s.1, middle s)

/-- The bracket after `n` halvings. -/
def brkE (v : Fin 384 → EReal) (lo hi : EReal) (n : ℕ) : EReal × EReal := (halfE v)^[n] (lo, hi)

/-- The mean of the excesses over `t`, plus `t`. -/
def relaxedE (v : Fin 384 → EReal) (t : EReal) : EReal := (∑ c, max (v c - t) 0 + ((192 : ℝ) : EReal) * t) * ((192⁻¹ : ℝ) : EReal)

/-- A pixel's result after `n` halvings. -/
def result (v : Fin 384 → EReal) (n : ℕ) : EReal := relaxedE v (brkE v (lower (univ.inf v)) (upper (univ.sup v)) n).1

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem coe_max (a b : ℝ) : ((max a b : ℝ) : EReal) = max (a : EReal) b := EReal.coe_strictMono.monotone.map_max

theorem countE_coe (r : Fin 384 → ℝ) (m : ℝ) : countE (fun c => (r c : EReal)) m = ((count r m : ℝ) : EReal) := by
  unfold countE count
  rw [card_filter, Nat.cast_sum, coe_sum]
  refine sum_congr rfl fun c _ => ?_
  simp only [EReal.coe_le_coe_iff]
  split <;> simp

theorem halfE_coe (r : Fin 384 → ℝ) (s : ℝ × ℝ) :
    halfE (fun c => (r c : EReal)) ((s.1 : EReal), (s.2 : EReal)) = (((half r s).1 : EReal), ((half r s).2 : EReal)) := by
  have hm : middle ((s.1 : EReal), (s.2 : EReal)) = (((s.1 + s.2) * (1 / 2) : ℝ) : EReal) := by
    unfold middle; rw [EReal.coe_mul, EReal.coe_add]
  have hc : (((192 : ℝ) : EReal) ≤ ((count r ((s.1 + s.2) * (1 / 2)) : ℝ) : EReal)) ↔ 192 ≤ count r ((s.1 + s.2) * (1 / 2)) := by
    rw [EReal.coe_le_coe_iff]
    exact_mod_cast Iff.rfl
  unfold halfE half
  rw [hm, countE_coe]
  by_cases h : 192 ≤ count r ((s.1 + s.2) * (1 / 2))
  · rw [if_pos (hc.mpr h), if_pos h]
  · rw [if_neg (fun h' => h (hc.mp h')), if_neg h]

theorem brkE_coe (r : Fin 384 → ℝ) (lo hi : ℝ) (n : ℕ) :
    brkE (fun c => (r c : EReal)) lo hi n = (((brk r lo hi n).1 : EReal), ((brk r lo hi n).2 : EReal)) := by
  induction n with
  | zero => rfl
  | succ n ih =>
    rw [brk_succ, ← halfE_coe, ← ih]
    exact Function.iterate_succ_apply' _ _ _

theorem relaxedE_coe (r : Fin 384 → ℝ) (t : ℝ) : relaxedE (fun c => (r c : EReal)) t = (relaxed r t : EReal) := by
  unfold relaxedE relaxed
  rw [EReal.coe_mul, EReal.coe_add, EReal.coe_mul, coe_sum]
  refine congrArg (fun z => (z + _) * _) (sum_congr rfl fun c _ => ?_)
  rw [coe_max, EReal.coe_sub, EReal.coe_zero]

theorem ofBits_192 : Ideal.ofBits .f32 0x43400000#32 = ((192 : ℝ) : EReal) := by
  simp [Ideal.ofBits, Ideal.ieee, -EReal.coe_mul]; norm_num
theorem ofBits_64 : Ideal.ofBits .f32 0x42800000#32 = ((2 ^ 6 : ℝ) : EReal) := by
  rw [show (2 ^ 6 : ℝ) = 64 by norm_num]
  simp [Ideal.ofBits, Ideal.ieee, -EReal.coe_mul]; norm_num
theorem ofBits_128 : Ideal.ofBits .f32 0x43000000#32 = ((2 ^ 7 : ℝ) : EReal) := by
  rw [show (2 ^ 7 : ℝ) = 128 by norm_num]
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_576 : Ideal.ofBits .f32 0x44100000#32 = ((576 : ℝ) : EReal) := by
  simp [Ideal.ofBits, Ideal.ieee, -EReal.coe_mul]; norm_num

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem lower_coe (a : ℝ) : ∃ l : ℝ, lower a = l ∧ l ≤ a := by
  obtain ⟨c, hc, hc'⟩ := scale_real
  obtain ⟨p, hp, hp'⟩ := pad_real
  refine ⟨a - (max a (-a) * c + p), ?_, ?_⟩
  · unfold lower; rw [hc, hp, EReal.coe_sub, EReal.coe_add, EReal.coe_mul, coe_max, EReal.coe_neg]
  · have := mul_nonneg (abs_nonneg a) hc'
    rw [abs] at this
    change 0 ≤ max a (-a) * c at this
    linarith

theorem upper_coe (b : ℝ) : ∃ u : ℝ, upper b = u ∧ b < u := by
  obtain ⟨c, hc, hc'⟩ := scale_real
  obtain ⟨p, hp, hp'⟩ := pad_real
  refine ⟨b + (max b (-b) * c + p), ?_, ?_⟩
  · unfold upper; rw [hc, hp, EReal.coe_add, EReal.coe_add, EReal.coe_mul, coe_max, EReal.coe_neg]
  · have := mul_nonneg (abs_nonneg b) hc'
    rw [abs] at this
    change 0 ≤ max b (-b) * c at this
    linarith

section finite

variable (v : Fin 384 → EReal) (σ : Equiv.Perm (Fin 384)) (s : Fin 384 → EReal) (hs : ∀ i, s i = v (σ i)) (anti : ∀ i j, i ≤ j → s j ≤ s i)
  (hbot : ⊥ < s 383) (htop : s 0 < ⊤)
include hs anti hbot htop

theorem finite_real : ∃ r q : Fin 384 → ℝ, (∀ c, v c = r c) ∧ (∀ i, s i = q i) ∧ (∀ i, q i = r (σ i)) ∧ (∀ i j, i ≤ j → q j ≤ q i) := by
  have hq : ∀ i, s i = ((s i).toReal : EReal) := fun i => by
    refine (EReal.coe_toReal ?_ ?_).symm
    · exact ((anti 0 i (Fin.zero_le _)).trans_lt htop).ne
    · exact (hbot.trans_le (anti i 383 (by rw [Fin.le_def]; have := i.isLt; show i.val ≤ 383; omega))).ne'
  have hr : ∀ c, v c = ((v c).toReal : EReal) := fun c => by
    have := hq (σ.symm c)
    rw [hs, Equiv.apply_symm_apply] at this
    exact this
  refine ⟨fun c => (v c).toReal, fun i => (s i).toReal, hr, hq, fun i => congrArg EReal.toReal (hs i), fun i j h => ?_⟩
  have := anti i j h
  rw [hq i, hq j] at this
  exact EReal.coe_le_coe_iff.mp this

theorem inf_eq : univ.inf v = s 383 := by
  refine le_antisymm ?_ (Finset.le_inf fun c _ => ?_)
  · rw [hs]; exact Finset.inf_le (mem_univ _)
  · have := anti (σ.symm c) 383 (by rw [Fin.le_def]; have := (σ.symm c).isLt; show (σ.symm c).val ≤ 383; omega)
    rw [hs (σ.symm c), Equiv.apply_symm_apply] at this
    exact this

theorem sup_eq : univ.sup v = s 0 := by
  refine le_antisymm (Finset.sup_le fun c _ => ?_) ?_
  · have := anti 0 (σ.symm c) (Fin.zero_le _)
    rw [hs (σ.symm c), Equiv.apply_symm_apply] at this
    exact this
  · rw [hs]; exact Finset.le_sup (f := v) (mem_univ _)

/-- The real bracket and sorted values behind a finite pixel's result. -/
theorem result_real (n : ℕ) : ∃ (r q : Fin 384 → ℝ) (lo hi : ℝ), (∀ i, s i = q i) ∧ (∀ i, q i = r (σ i)) ∧ (∀ i j, i ≤ j → q j ≤ q i)
    ∧ lower (s 383) = lo ∧ upper (s 0) = hi ∧ 192 ≤ count r lo ∧ count r hi < 192 ∧ result v n = (relaxed r (brk r lo hi n).1 : EReal) := by
  have e1 := inf_eq v σ s hs anti hbot htop
  have e2 := sup_eq v σ s hs anti hbot htop
  obtain ⟨r, q, hr, hq, hqr, hqa⟩ := finite_real v σ s hs anti hbot htop
  obtain ⟨lo, hlo, hlo'⟩ := lower_coe (q 383)
  obtain ⟨hi, hhi, hhi'⟩ := upper_coe (q 0)
  rw [← hq] at hlo hhi
  refine ⟨r, q, lo, hi, hq, hqr, hqa, hlo, hhi, ?_, ?_, ?_⟩
  · refine (le_count_iff r σ q hqr hqa lo).mpr (hlo'.trans (hqa 191 383 ?_))
    decide
  · refine not_le.mp fun h => absurd ((le_count_iff r σ q hqr hqa hi).mp h) (not_le.mpr (lt_of_le_of_lt (hqa 0 191 (Fin.zero_le _)) hhi'))
  · unfold result
    rw [e1, e2, hlo, hhi, show v = fun c => (r c : EReal) from funext hr, brkE_coe, relaxedE_coe]

theorem sum_top (q : Fin 384 → ℝ) (hq : ∀ i, s i = q i) :
    Ideal.div (∑ i : Fin 192, s (Fin.castAdd 192 i)) ((192 : ℝ) : EReal) = (((∑ i : Fin 192, q (Fin.castAdd 192 i)) / 192 : ℝ) : EReal) := by
  rw [← div_coe _ _ (by norm_num), coe_sum]
  exact congrArg (Ideal.div · _) (sum_congr rfl fun i _ => hq _)

/-- A finite pixel's result is the mean of its 192 largest channels where a grid point separates them from the rest. -/
theorem result_exact (n : ℕ) (j : ℕ)
    (hj : s 192 ≤ lower (s 383) + ((j : ℝ) : EReal) * Ideal.div (upper (s 0) - lower (s 383)) ((2 ^ n : ℝ) : EReal))
    (hj' : lower (s 383) + ((j : ℝ) : EReal) * Ideal.div (upper (s 0) - lower (s 383)) ((2 ^ n : ℝ) : EReal) ≤ s 191) :
    result v n = Ideal.div (∑ i : Fin 192, s (Fin.castAdd 192 i)) ((192 : ℝ) : EReal) := by
  obtain ⟨r, q, lo, hi, hq, hqr, hqa, hlo, hhi, hcl, hch, hres⟩ := result_real v σ s hs anti hbot htop n
  rw [hlo, hhi, ← EReal.coe_sub, div_coe _ _ (by positivity), ← EReal.coe_mul, ← EReal.coe_add, hq, EReal.coe_le_coe_iff] at hj hj'
  rw [hres, sum_top v σ s hs anti hbot htop q hq]
  exact congrArg _ (relaxed_exact r σ q hqr hqa lo hi hcl hch n j hj hj')

/-- A finite pixel's result is at least the mean of its 192 largest channels, and at most one final bracket more. -/
theorem result_bounds (n : ℕ) :
    Ideal.div (∑ i : Fin 192, s (Fin.castAdd 192 i)) ((192 : ℝ) : EReal) ≤ result v n
      ∧ result v n ≤ Ideal.div (∑ i : Fin 192, s (Fin.castAdd 192 i)) ((192 : ℝ) : EReal) + Ideal.div (upper (s 0) - lower (s 383)) ((2 ^ n : ℝ) : EReal) := by
  obtain ⟨r, q, lo, hi, hq, hqr, hqa, hlo, hhi, hcl, hch, hres⟩ := result_real v σ s hs anti hbot htop n
  obtain ⟨h1, h2⟩ := relaxed_bounds r σ q hqr hqa lo hi hcl hch n
  rw [hlo, hhi, ← EReal.coe_sub, div_coe _ _ (by positivity), hres, sum_top v σ s hs anti hbot htop q hq, ← EReal.coe_add, EReal.coe_le_coe_iff, EReal.coe_le_coe_iff]
  exact ⟨h1, h2⟩

end finite

end Cert.Proof.Pixel

end
-- ==== Proof.GateValue.lean ====
/-
  The gated values on the extended reals: a channel's mean, the three-tap sum over neighbouring channels, and the value
  times the logistic of that sum; what the kernel's gate stores is exactly these.
-/
module

public import proofs.«01_k».proof.Proof.Gate
public import proofs.«01_k».proof.Proof.Pixel
public import Idealize.ShloMosaic.Lib.Pointwise

@[expose] public section

set_option maxRecDepth 16384

noncomputable section

namespace Cert.Proof.Value

open Cert.KernelIdeal Cert.KernelIdeal.Gen
open Idealize.ShloMosaic
open Cert.Proof.Pixel Cert.Proof.TopK

/-- The mean of a channel of an image. -/
def chanMean (x : Fin 384 → Fin 576 → EReal) (c : Fin 384) : EReal := Ideal.div (∑ q, x c q) (Ideal.ofBits .f32 0x44100000#32)

/-- The mean of the channel before, and of the channel after; nothing outside. -/
def before (x : Fin 384 → Fin 576 → EReal) (c : Fin 384) : EReal := if h : c.val = 0 then 0 else chanMean x ⟨c.val - 1, by omega⟩
def after (x : Fin 384 → Fin 576 → EReal) (c : Fin 384) : EReal := if h : c.val < 383 then chanMean x ⟨c.val + 1, by omega⟩ else 0

/-- The three taps. -/
def taps (x : Fin 384 → Fin 576 → EReal) (w : Fin 3 → EReal) (c : Fin 384) : EReal := before x c * w 0 + chanMean x c * w 1 + after x c * w 2

/-- A gated value. -/
def gatedE (x : Fin 384 → Fin 576 → EReal) (w : Fin 3 → EReal) (c : Fin 384) (q : Fin 576) : EReal := x c q * Ideal.logistic (taps x w c)

theorem gated_apply (b : Vec Ideal S1x384x576 .f32) (w0 w1 w2 : EReal) (c : Fin 384) (q : Fin 576) :
    gated (F := Ideal) b w0 w1 w2 (ix2 c q) = gatedE (fun c q => b (ix3 (n0 := 1) (n1 := 384) (n2 := 576) 0 c q)) ![w0, w1, w2] c q := by
  unfold gated k0_pay3
  pointwise []
  unfold gatedE taps
  refine congrArg (fun z => _ * Ideal.logistic z) (congrArg₂ (fun y z => y * _ + _ + z * _) ?_ ?_)
  · unfold before
    by_cases h : c.val = 0
    · rw [dif_pos (by omega), dif_pos h]
    · rw [dif_neg (by omega), dif_neg h]; rfl
  · unfold after
    by_cases h : c.val < 383
    · rw [dif_pos h, dif_pos h]
      have e : (⟨1 + c.val, by omega⟩ : Fin 384) = ⟨c.val + 1, by omega⟩ := Fin.ext (by show 1 + c.val = c.val + 1; omega)
      rw [e]; rfl
    · rw [dif_neg h, dif_neg h]

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

theorem lower_apply (G : FVec Ideal S384x576 .f32) (q : Fin 576) : k0_pay8 (F := Ideal) G (ix3 (n0 := 1) (n1 := 1) (n2 := 576) 0 0 q) = lower (Finset.univ.inf fun c => G (ix2 c q)) := by
  unfold k0_pay8
  pointwise []
  rw [ofBits_top]
  rfl

theorem upper_apply (G : FVec Ideal S384x576 .f32) (q : Fin 576) : k0_pay9 (F := Ideal) G (ix3 (n0 := 1) (n1 := 1) (n2 := 576) 0 0 q) = upper (Finset.univ.sup fun c => G (ix2 c q)) := by
  unfold k0_pay9
  pointwise []
  rw [ofBits_bot]
  rfl

end Cert.Proof.Value

end
-- ==== Proof.SelectValue.lean ====
/-
  What the two selections compute on the extended reals: a chunk of an image on the TensorCore and a group of sixteen
  pixels on a tile both halve a pixel's bracket by counting and end with its mean of excesses.
-/
module

public import proofs.«01_k».proof.Proof.TileValue
public import proofs.«01_k».proof.Proof.Topk
public import proofs.«01_k».proof.Proof.GateValue

@[expose] public section

set_option maxRecDepth 16384

noncomputable section

namespace Cert.Proof.Value

open Cert.KernelIdeal Cert.KernelIdeal.Gen
open Idealize.ShloMosaic
open Cert.Proof.Pixel Cert.Proof.TopK

/-- A loop carried along a map is the map's iterate. -/
theorem fold_iterate {n : ℕ} {α β : Type} (g : Fin n → α → α) (p : α → β) (f : β → β) (h : ∀ k s, p (g k s) = f (p s)) (a : α) :
    p (Scf.fold g a) = f^[n] (p a) := by
  rw [Scf.fold_eq]
  have aux : ∀ (l : List (Fin n)) (a : α), p (l.foldl (fun acc k => g k acc) a) = f^[l.length] (p a) := by
    intro l
    induction l with
    | nil => intro a; rfl
    | cons k l ih => intro a; rw [List.foldl_cons, ih, h]; rfl
  rw [aux, List.length_finRange]

theorem iter_iterate {N : ℕ} {α β : Type} (g : Fin N → α → α) (p : α → β) (f : β → β) (h : ∀ k s, p (g k s) = f (p s)) (a : α) (n : ℕ) (hn : n ≤ N) :
    p (iter g a n) = f^[n] (p a) := by
  induction n with
  | zero => rfl
  | succ n ih => rw [iter_succ g a ⟨n, hn⟩, h, ih (by omega), Function.iterate_succ_apply']

theorem inv_k_eq : Named.named (F := Ideal) (φ := .f32) Cert.KernelIdeal.κ "inv_k" 0x3BAAAAAB#32 = ((192⁻¹ : ℝ) : EReal) :=
  IdealRules.named_const.ideal_named_scalar _ _ _ _ rfl

theorem word_of_bit (p : Prop) [Decidable p] :
    (FloatOps.sitofp (F := Ideal) .f32 (BitVec.setWidth 32 (BitVec.ofBool (decide p))) : EReal) = if p then 1 else 0 := by
  by_cases h : p
  · rw [if_pos h]
    show (((BitVec.setWidth 32 (BitVec.ofBool (decide p))).toInt : ℝ) : EReal) = 1
    simp [h]
  · rw [if_neg h]
    show (((BitVec.setWidth 32 (BitVec.ofBool (decide p))).toInt : ℝ) : EReal) = 0
    simp [h]

section topk

variable (b : Vec Ideal S1x1x384x192 .f32) (x : Fin 192)

theorem halve_apply (s : FVec Ideal S1x192 .f32 × FVec Ideal S1x192 .f32) :
    (k2_pay7 (F := Ideal) b s.1 s.2 (ix2 (n0 := 1) (n1 := 192) 0 x), k2_pay8 (F := Ideal) b s.1 s.2 (ix2 (n0 := 1) (n1 := 192) 0 x))
      = halfE (fun c => b (ix4 (n0 := 1) (n1 := 1) (n2 := 384) (n3 := 192) 0 0 c x)) (s.1 (ix2 0 x), s.2 (ix2 0 x)) := by
  unfold k2_pay7 k2_pay8 k2_pay6 k2_pay5 k2_pay2
  pointwise []
  simp only [word_of_bit, ofBits_192, ofBits_half]
  unfold halfE countE middle
  by_cases h : ((192 : ℝ) : EReal) ≤ ∑ c : Fin 384, if (s.1 (ix2 0 x) + s.2 (ix2 0 x)) * ((1 / 2 : ℝ) : EReal) ≤ b (ix4 0 0 c x) then (1 : EReal) else 0
  · rw [if_pos h, if_pos h, if_pos h]
  · rw [if_neg h, if_neg h, if_neg h]

theorem mean_apply (t : FVec Ideal S1x192 .f32) :
    k2_pay9 (F := Ideal) b t (ix3 (n0 := 1) (n1 := 1) (n2 := 192) 0 0 x)
      = relaxedE (fun c => b (ix4 (n0 := 1) (n1 := 1) (n2 := 384) (n3 := 192) 0 0 c x)) (t (ix2 0 x)) := by
  unfold k2_pay9 k2_pay2
  pointwise []
  rw [inv_k_eq, ofBits_192]
  rfl

/-- A pixel of a chunk. -/
theorem chunkMean_apply (lo hi : Vec Ideal S1x1x192 .f32) :
    chunkMean (F := Ideal) b lo hi (ix3 (n0 := 1) (n1 := 1) (n2 := 192) 0 0 x)
      = relaxedE (fun c => b (ix4 (n0 := 1) (n1 := 1) (n2 := 384) (n3 := 192) 0 0 c x))
          (brkE (fun c => b (ix4 (n0 := 1) (n1 := 1) (n2 := 384) (n3 := 192) 0 0 c x)) (lo (ix3 0 0 x)) (hi (ix3 0 0 x)) 7).1 := by
  unfold chunkMean
  rw [mean_apply]
  have h := fold_iterate (n := k2_t1_loop.trips) (fun _ s => (k2_pay7 (F := Ideal) b s.1 s.2, k2_pay8 (F := Ideal) b s.1 s.2))
    (fun s : FVec Ideal S1x192 .f32 × FVec Ideal S1x192 .f32 => (s.1 (ix2 (n0 := 1) (n1 := 192) 0 x), s.2 (ix2 (n0 := 1) (n1 := 192) 0 x)))
    (halfE (fun c => b (ix4 (n0 := 1) (n1 := 1) (n2 := 384) (n3 := 192) 0 0 c x))) (fun _ s => halve_apply b x s) (k2_pay3 lo, k2_pay4 hi)
  have ht : k2_t1_loop.trips = 7 := by decide
  have h3 : k2_pay3 (F := Ideal) lo (ix2 (n0 := 1) (n1 := 192) 0 x) = lo (ix3 0 0 x) := by
    unfold k2_pay3
    pointwise []
  have h4 : k2_pay4 (F := Ideal) hi (ix2 (n0 := 1) (n1 := 192) 0 x) = hi (ix3 0 0 x) := by
    unfold k2_pay4
    pointwise []
  unfold brkE
  rw [← h3, ← h4, ← ht]
  exact congrArg (fun z => relaxedE _ z) (congrArg Prod.fst h)

end topk

section tile

/-- Pixel `16 g + x` of a tile, its channels. -/
def col (A : Vec Ideal S384x192 .f32) (g : Fin k1_t1_loop.trips) (x : Fin 16) (c : Fin 384) : EReal :=
  A (ix2 (n0 := 384) (n1 := 192) c ⟨16 * g.val + x.val, by have := lt_of_lt_of_eq g.isLt trips1; omega⟩)

/-- A term of a sum over the channels, by number. -/
def at' (f : Fin 384 → EReal) (n : ℕ) : EReal := if h : n < 384 then f ⟨n, h⟩ else 0

theorem sum_at' (f : Fin 384 → EReal) : ∑ c, f c = ∑ n ∈ Finset.range 384, at' f n := by
  rw [← Fin.sum_univ_eq_sum_range]
  refine Finset.sum_congr rfl fun c _ => ?_
  unfold at'
  rw [dif_pos c.isLt]

def one (m v : EReal) : EReal := if m ≤ v then 1 else 0

variable (lo hi s t : FVec Ideal S16 .f32) (a b : Vec Ideal S1x16 .f32) (x : Fin 16)

theorem two_adds (m z u v : EReal) : (if m ≤ v then (if m ≤ u then z + 1 else z) + 1 else if m ≤ u then z + 1 else z) = z + one m u + one m v := by
  unfold one
  by_cases hu : m ≤ u <;> by_cases hv : m ≤ v <;> simp [hu, hv]

abbrev mid (lo hi : FVec Ideal S16 .f32) (x : Fin 16) : EReal := middle (lo (ix1 x), hi (ix1 x))

theorem cnt1_apply : k1_pay4 (F := Ideal) k1_pay22 lo hi (k1_pay16 k1_pay22 (k1_pay3 lo hi) s a) (k1_pay20 b) (ix1 x)
    = s (ix1 x) + one (mid lo hi x) (a (ix2 0 x)) + one (mid lo hi x) (b (ix2 0 x)) := by
  unfold k1_pay4 k1_pay16 k1_pay3 k1_pay20 k1_pay22
  pointwise []
  rw [two_adds, ofBits_half]
  rfl
theorem cnt2_apply : k1_pay5 (F := Ideal) k1_pay22 lo hi (k1_pay17 k1_pay22 (k1_pay3 lo hi) s a) (k1_pay21 b) (ix1 x)
    = s (ix1 x) + one (mid lo hi x) (a (ix2 0 x)) + one (mid lo hi x) (b (ix2 0 x)) := by
  unfold k1_pay5 k1_pay17 k1_pay3 k1_pay21 k1_pay22
  pointwise []
  rw [two_adds, ofBits_half]
  rfl
theorem cnt3_apply : k1_pay6 (F := Ideal) k1_pay22 lo hi (k1_pay18 k1_pay22 (k1_pay3 lo hi) s a) b (ix1 x)
    = s (ix1 x) + one (mid lo hi x) (a (ix2 0 x)) + one (mid lo hi x) (b (ix2 0 x)) := by
  unfold k1_pay6 k1_pay18 k1_pay3 k1_pay22
  pointwise []
  rw [two_adds, ofBits_half]
  rfl
theorem cnt4_apply : k1_pay7 (F := Ideal) k1_pay22 lo hi (k1_pay19 k1_pay22 (k1_pay3 lo hi) s a) b (ix1 x)
    = s (ix1 x) + one (mid lo hi x) (a (ix2 0 x)) + one (mid lo hi x) (b (ix2 0 x)) := by
  unfold k1_pay7 k1_pay19 k1_pay3 k1_pay22
  pointwise []
  rw [two_adds, ofBits_half]
  rfl

theorem exc1_apply : k1_pay11 (F := Ideal) t s a (ix1 x) = s (ix1 x) + max (a (ix2 0 x) - t (ix1 x)) 0 := by
  unfold k1_pay11
  pointwise []
theorem exc2_apply : k1_pay12 (F := Ideal) t s a (ix1 x) = s (ix1 x) + max (a (ix2 0 x) - t (ix1 x)) 0 := by
  unfold k1_pay12
  pointwise []
theorem exc3_apply : k1_pay13 (F := Ideal) t s a (ix1 x) = s (ix1 x) + max (a (ix2 0 x) - t (ix1 x)) 0 := by
  unfold k1_pay13
  pointwise []
theorem exc4_apply : k1_pay14 (F := Ideal) t s a (ix1 x) = s (ix1 x) + max (a (ix2 0 x) - t (ix1 x)) 0 := by
  unfold k1_pay14
  pointwise []

/-- A load of sixteen pixels of channel `c` at group `g`. -/
theorem ldA_apply (A : Vec Ideal S384x192 .f32) (g : Fin k1_t1_loop.trips) (off : Fin 2 → ℕ) (h : ∀ a, off a + S1x16.size a ≤ S384x192.size a)
    (c : ℕ) (hoff : off = ![c, 16 * g.val]) (f : EReal → EReal) : f (ldA A off h (ix2 (n0 := 1) (n1 := 16) 0 x)) = at' (fun c => f (col A g x c)) c := by
  subst hoff
  have hc : c < 384 := by have h0 : c + 1 ≤ 384 := h 0; omega
  unfold at'
  rw [dif_pos hc]
  refine congrArg (fun i => f (A i)) (funext fun k => Fin.ext ?_)
  match k with
  | ⟨0, _⟩ => show c + 1 * 0 = c; omega
  | ⟨1, _⟩ => show 16 * g.val + 1 * x.val = 16 * g.val + x.val; omega

theorem ldB_apply (B : Vec Ideal S2x576 .f32) (off : Fin 2 → ℕ) (h : ∀ a, off a + S1x16.size a ≤ S2x576.size a)
    (r : Fin 2) (o : ℕ) (hoff : off = ![r.val, o]) (ho : o + x.val < 576) : ldB B off h (ix2 (n0 := 1) (n1 := 16) 0 x) = B (ix2 (n0 := 2) (n1 := 576) r ⟨o + x.val, ho⟩) := by
  subst hoff
  refine congrArg B (funext fun k => Fin.ext ?_)
  match k with
  | ⟨0, _⟩ => show r.val + 1 * 0 = r.val; omega
  | ⟨1, _⟩ => show o + 1 * x.val = o + x.val; omega

/-- The four partial results of a lane, added up. -/
def total (x : Fin 16) (s : Four Ideal) : EReal := (s.1 (ix1 x) + s.2.1 (ix1 x)) + (s.2.2.1 (ix1 x) + s.2.2.2 (ix1 x))

theorem cntStep_apply (A : Vec Ideal S384x192 .f32) (g : Fin k1_t1_loop.trips) (k : Fin k1_t3_loop.trips) (s : Four Ideal) :
    total x (cntStep A g lo hi k s) = total x s + (∑ r ∈ Finset.range 8, at' (fun c => one (mid lo hi x) (col A g x c)) (8 * k.val + r)) := by
  unfold cntStep total
  dsimp only
  rw [cnt1_apply, cnt2_apply, cnt3_apply, cnt4_apply]
  rw [ldA_apply x A g _ _ (8 * k.val + 0) (by rw [k1_off5_eq]; rfl) (one (mid lo hi x)),
    ldA_apply x A g _ _ (8 * k.val + 4) (by rw [k1_off5_eq]; rfl) (one (mid lo hi x)),
    ldA_apply x A g _ _ (8 * k.val + 1) (by rw [k1_off6_eq]; rfl) (one (mid lo hi x)),
    ldA_apply x A g _ _ (8 * k.val + 5) (by rw [k1_off6_eq]; rfl) (one (mid lo hi x)),
    ldA_apply x A g _ _ (8 * k.val + 2) (by rw [k1_off6_eq]; rfl) (one (mid lo hi x)),
    ldA_apply x A g _ _ (8 * k.val + 6) (by rw [k1_off6_eq]; rfl) (one (mid lo hi x)),
    ldA_apply x A g _ _ (8 * k.val + 3) (by rw [k1_off6_eq]; rfl) (one (mid lo hi x)),
    ldA_apply x A g _ _ (8 * k.val + 7) (by rw [k1_off6_eq]; rfl) (one (mid lo hi x))]
  simp only [Finset.sum_range_succ, Finset.sum_range_zero, zero_add]
  abel

theorem cntAt_apply (A : Vec Ideal S384x192 .f32) (g : Fin k1_t1_loop.trips) :
    total x (cntAt A g lo hi k1_t3_loop.trips) = countE (col A g x) (mid lo hi x) := by
  have h : ∀ n, n ≤ k1_t3_loop.trips → total x (cntAt A g lo hi n) = ∑ c ∈ Finset.range (8 * n), at' (fun c => one (mid lo hi x) (col A g x c)) c := by
    intro n hn
    induction n with
    | zero =>
      unfold cntAt total k1_pay23
      show ((Ideal.ofBits .f32 0x00000000#32 + Ideal.ofBits .f32 0x00000000#32) + (Ideal.ofBits .f32 0x00000000#32 + Ideal.ofBits .f32 0x00000000#32) : EReal) = _
      rw [Ideal.ofBits_zero_f32]; simp
    | succ n ih =>
      have e : cntAt A g lo hi (n + 1) = cntStep A g lo hi ⟨n, hn⟩ (cntAt A g lo hi n) := iter_succ _ _ ⟨n, hn⟩
      rw [e, cntStep_apply, ih (by omega), Nat.mul_succ, Finset.sum_range_add]
  rw [h _ le_rfl]
  unfold countE
  rw [sum_at']
  rfl

theorem excStep_apply (A : Vec Ideal S384x192 .f32) (g : Fin k1_t1_loop.trips) (k : Fin k1_t4_loop.trips) (s : Four Ideal) :
    total x (excStep A g t k s) = total x s + (∑ r ∈ Finset.range 4, at' (fun c => max (col A g x c - t (ix1 x)) 0) (4 * k.val + r)) := by
  unfold excStep total
  dsimp only
  rw [exc1_apply, exc2_apply, exc3_apply, exc4_apply]
  rw [ldA_apply x A g _ _ (4 * k.val + 0) (by rw [k1_off7_eq]; rfl) (fun v => max (v - t (ix1 x)) 0),
    ldA_apply x A g _ _ (4 * k.val + 1) (by rw [k1_off8_eq]; rfl) (fun v => max (v - t (ix1 x)) 0),
    ldA_apply x A g _ _ (4 * k.val + 2) (by rw [k1_off8_eq]; rfl) (fun v => max (v - t (ix1 x)) 0),
    ldA_apply x A g _ _ (4 * k.val + 3) (by rw [k1_off8_eq]; rfl) (fun v => max (v - t (ix1 x)) 0)]
  simp only [Finset.sum_range_succ, Finset.sum_range_zero, zero_add]
  abel

theorem excAt_apply (A : Vec Ideal S384x192 .f32) (g : Fin k1_t1_loop.trips) :
    total x (excAt A g t k1_t4_loop.trips) = ∑ c, max (col A g x c - t (ix1 x)) 0 := by
  have h : ∀ n, n ≤ k1_t4_loop.trips → total x (excAt A g t n) = ∑ c ∈ Finset.range (4 * n), at' (fun c => max (col A g x c - t (ix1 x)) 0) c := by
    intro n hn
    induction n with
    | zero =>
      unfold excAt total k1_pay24
      show ((Ideal.ofBits .f32 0x00000000#32 + Ideal.ofBits .f32 0x00000000#32) + (Ideal.ofBits .f32 0x00000000#32 + Ideal.ofBits .f32 0x00000000#32) : EReal) = _
      rw [Ideal.ofBits_zero_f32]; simp
    | succ n ih =>
      have e : excAt A g t (n + 1) = excStep A g t ⟨n, hn⟩ (excAt A g t n) := iter_succ _ _ ⟨n, hn⟩
      rw [e, excStep_apply, ih (by omega), Nat.mul_succ, Finset.sum_range_add]
  rw [h _ le_rfl, sum_at']
  rfl

theorem pay9_apply (c0 c1 c2 c3 : FVec Ideal S16 .f32) : k1_pay9 (F := Ideal) lo hi c0 c1 c2 c3 (ix1 x)
    = if ((192 : ℝ) : EReal) ≤ total x (c0, c1, c2, c3) then mid lo hi x else lo (ix1 x) := by
  unfold k1_pay9 k1_pay8 k1_pay3
  pointwise []
  rw [ofBits_half, ofBits_192]
  rfl
theorem pay10_apply (c0 c1 c2 c3 : FVec Ideal S16 .f32) : k1_pay10 (F := Ideal) lo hi c0 c1 c2 c3 (ix1 x)
    = if ((192 : ℝ) : EReal) ≤ total x (c0, c1, c2, c3) then hi (ix1 x) else mid lo hi x := by
  unfold k1_pay10 k1_pay8 k1_pay3
  pointwise []
  rw [ofBits_half, ofBits_192]
  rfl
theorem pay15_apply (c0 c1 c2 c3 : FVec Ideal S16 .f32) : k1_pay15 (F := Ideal) t c0 c1 c2 c3 (ix1 x)
    = (total x (c0, c1, c2, c3) + ((192 : ℝ) : EReal) * t (ix1 x)) * ((192⁻¹ : ℝ) : EReal) := by
  unfold k1_pay15
  pointwise []
  rw [inv_k_eq, ofBits_192]
  rfl

theorem exc_mean (A : Vec Ideal S384x192 .f32) (g : Fin k1_t1_loop.trips) :
    k1_pay15 (F := Ideal) t (excAt A g t k1_t4_loop.trips).1 (excAt A g t k1_t4_loop.trips).2.1 (excAt A g t k1_t4_loop.trips).2.2.1 (excAt A g t k1_t4_loop.trips).2.2.2 (ix1 x)
      = relaxedE (col A g x) (t (ix1 x)) := by
  have he := excAt_apply t x A g
  rw [pay15_apply]
  generalize excAt A g t k1_t4_loop.trips = s at he ⊢
  have hs : total x (s.1, s.2.1, s.2.2.1, s.2.2.2) = total x s := rfl
  rw [hs, he]
  unfold relaxedE
  rfl

theorem tileHalve_apply (A : Vec Ideal S384x192 .f32) (g : Fin k1_t1_loop.trips) (n : Fin k1_t2_loop.trips) (s : FVec Ideal S16 .f32 × FVec Ideal S16 .f32) :
    ((halve A g n s).1 (ix1 x), (halve A g n s).2 (ix1 x)) = halfE (col A g x) (s.1 (ix1 x), s.2 (ix1 x)) := by
  unfold halve
  dsimp only
  rw [pay9_apply, pay10_apply]
  have h := cntAt_apply s.1 s.2 x A g
  unfold halfE
  change (if _ ≤ total x (cntAt A g s.1 s.2 k1_t3_loop.trips) then _ else _, if _ ≤ total x (cntAt A g s.1 s.2 k1_t3_loop.trips) then _ else _) = _
  rw [h]
  by_cases hc : ((192 : ℝ) : EReal) ≤ countE (col A g x) (mid s.1 s.2 x)
  · rw [if_pos hc, if_pos hc, if_pos hc]
  · rw [if_neg hc, if_neg hc, if_neg hc]

theorem grpOut_apply (L : grid1.Coords) (A : Vec Ideal S384x192 .f32) (B : Vec Ideal S2x576 .f32) (g : Fin k1_t1_loop.trips) (q : Fin 576) (hq : q.val = 192 * (wid L % 3) + 16 * g.val + x.val) :
    grpOut (F := Ideal) L A B g (ix1 x)
      = relaxedE (col A g x) (brkE (col A g x) (B (ix2 (n0 := 2) (n1 := 576) 0 q)) (B (ix2 (n0 := 2) (n1 := 576) 1 q)) 6).1 := by
  have hb : ((brkAt L A B g k1_t2_loop.trips).1 (ix1 x), (brkAt L A B g k1_t2_loop.trips).2 (ix1 x))
      = brkE (col A g x) (B (ix2 (n0 := 2) (n1 := 576) 0 q)) (B (ix2 (n0 := 2) (n1 := 576) 1 q)) 6 := by
    have h := iter_iterate (halve A g) (fun s : FVec Ideal S16 .f32 × FVec Ideal S16 .f32 => (s.1 (ix1 x), s.2 (ix1 x))) (halfE (col A g x))
      (fun k s => tileHalve_apply x A g k s) (k1_pay1 (ldB B _ (k1_off3_inb L g)), k1_pay2 (ldB B _ (k1_off4_inb L g))) k1_t2_loop.trips le_rfl
    have ho : 192 * (wid L % 3) + 16 * g.val + x.val < 576 := hq ▸ q.isLt
    have eq : q = ⟨192 * (wid L % 3) + 16 * g.val + x.val, ho⟩ := Fin.ext hq
    have h1 : k1_pay1 (F := Ideal) (ldB B _ (k1_off3_inb L g)) (ix1 x) = B (ix2 (n0 := 2) (n1 := 576) 0 q) := by
      rw [eq, ← ldB_apply x B _ (k1_off3_inb L g) 0 _ (off3_eq L g) ho]
      unfold k1_pay1
      pointwise []
    have h2 : k1_pay2 (F := Ideal) (ldB B _ (k1_off4_inb L g)) (ix1 x) = B (ix2 (n0 := 2) (n1 := 576) 1 q) := by
      rw [eq, ← ldB_apply x B _ (k1_off4_inb L g) 1 _ (off4_eq L g) ho]
      unfold k1_pay2
      pointwise []
    unfold brkE
    rw [← h1, ← h2, ← trips2]
    exact h
  have hb1 := congrArg Prod.fst hb
  dsimp only at hb1
  unfold grpOut
  rw [exc_mean, hb1]

end tile

end Cert.Proof.Value

end
-- ==== Proof.RefValue.lean ====
/-
  The reference, its mask and its bound on the extended reals, read at a pixel.
-/
module

public import proofs.«01_k».proof.Defs
public import proofs.«01_k».proof.Proof.GateValue
public import Idealize.ShloMosaic.Lib.Pointwise
public import Idealize.ShloMosaic.Lib.SortFacts

@[expose] public section

set_option maxRecDepth 16384

noncomputable section

namespace Cert.Proof.Value

open Idealize.ShloMosaic Cert.Proof.Pixel

section
variable [Cert.On_threshold_in_gap.Facts]
open Cert.On_threshold_in_gap Cert.On_threshold_in_gap.Facts

/-- The three-tap sums. -/
def tapsArr (X : FVec Ideal S32x384x24x24 .f32) (W : FVec Ideal S3 .f32) : FVec Ideal S32x384 .f32 :=
  let main_cst : FVec Ideal S_ .f32 := constant S_ .f32 0x00000000#32
  let main_v0 : FVec Ideal S32x384 .f32 := Host.reduceAdd X main_cst reducesTo_S32x384x24x24_S32x384_d2_3 h_S_
  let main_cst_0 : FVec Ideal S_ .f32 := constant S_ .f32 0x44100000#32
  let main_v1 : FVec Ideal S32x384 .f32 := broadcastInDim S32x384 ![] bcast_S_S32x384 main_cst_0
  let main_v2 : FVec Ideal S32x384 .f32 := Host.divf main_v0 main_v1
  let main_c : IVec S_ 32 := constantI S_ 32 0#32
  let main_v3 : FVec Ideal S32x386 .f32 := pad S32x386 ![0, 1] ![0, 1] ![0, 0] main_v2 (sitofp (F := Ideal) .f32 main_c) pads_S32x384_S32x386_000_110 h_S_
  let main_v4 : FVec Ideal S32x384 .f32 := (extractStridedSlice S32x384 ![0, 0] · slices_S32x386_S32x384_0_0) main_v3
  let main_v5 : FVec Ideal S1 .f32 := (extractStridedSlice S1 ![0] · slices_S3_S1_0) W
  let main_v6 : FVec Ideal S_ .f32 := shapeCast S_ main_v5 shapeCasts_S1_S_
  let main_v7 : FVec Ideal S32x384 .f32 := broadcastInDim S32x384 ![] bcast_S_S32x384 main_v6
  let main_v8 : FVec Ideal S32x384 .f32 := mulf main_v4 main_v7
  let main_v9 : FVec Ideal S32x384 .f32 := (extractStridedSlice S32x384 ![0, 1] · slices_S32x386_S32x384_0_1) main_v3
  let main_v10 : FVec Ideal S1 .f32 := (extractStridedSlice S1 ![1] · slices_S3_S1_1) W
  let main_v11 : FVec Ideal S_ .f32 := shapeCast S_ main_v10 shapeCasts_S1_S_
  let main_v12 : FVec Ideal S32x384 .f32 := broadcastInDim S32x384 ![] bcast_S_S32x384 main_v11
  let main_v13 : FVec Ideal S32x384 .f32 := mulf main_v9 main_v12
  let main_v14 : FVec Ideal S32x384 .f32 := addf main_v8 main_v13
  let main_v15 : FVec Ideal S32x384 .f32 := (extractStridedSlice S32x384 ![0, 2] · slices_S32x386_S32x384_0_2) main_v3
  let main_v16 : FVec Ideal S1 .f32 := (extractStridedSlice S1 ![2] · slices_S3_S1_2) W
  let main_v17 : FVec Ideal S_ .f32 := shapeCast S_ main_v16 shapeCasts_S1_S_
  let main_v18 : FVec Ideal S32x384 .f32 := broadcastInDim S32x384 ![] bcast_S_S32x384 main_v17
  let main_v19 : FVec Ideal S32x384 .f32 := mulf main_v15 main_v18
  addf main_v14 main_v19

/-- The gated values, and the same sorted downwards along the channels. -/
def gatedArr (X : FVec Ideal S32x384x24x24 .f32) (W : FVec Ideal S3 .f32) : FVec Ideal S32x384x24x24 .f32 :=
  let main_v21 : FVec Ideal S32x384 .f32 := Host.negf (tapsArr X W)
  let main_v22 : FVec Ideal S32x384 .f32 := Host.exp main_v21
  let main_cst_1 : FVec Ideal S_ .f32 := constant S_ .f32 0x3F800000#32
  let main_v23 : FVec Ideal S32x384 .f32 := broadcastInDim S32x384 ![] bcast_S_S32x384 main_cst_1
  let main_v24 : FVec Ideal S32x384 .f32 := addf main_v23 main_v22
  let main_cst_2 : FVec Ideal S_ .f32 := constant S_ .f32 0x3F800000#32
  let main_v25 : FVec Ideal S32x384 .f32 := broadcastInDim S32x384 ![] bcast_S_S32x384 main_cst_2
  let main_v26 : FVec Ideal S32x384 .f32 := Host.divf main_v25 main_v24
  let main_v27 : FVec Ideal S32x384x1x1 .f32 := broadcastInDim S32x384x1x1 ![0, 1] bcast_S32x384_S32x384x1x1_0_1 main_v26
  let main_v28 : FVec Ideal S32x384x24x24 .f32 := broadcastInDim S32x384x24x24 ![0, 1, 2, 3] bcast_S32x384x1x1_S32x384x24x24_0_1_2_3 main_v27
  mulf X main_v28
def sortedArr (X : FVec Ideal S32x384x24x24 .f32) (W : FVec Ideal S3 .f32) : FVec Ideal S32x384x24x24 .f32 :=
  Host.reverse [1] (Host.sort S32x384x24x24 1 comparator_f32_d1 (gatedArr X W))

/-- One image's channels by pixel number, and the weights. -/
def imgE (X : FVec Ideal S32x384x24x24 .f32) (i : Fin 32) (c : Fin 384) (q : Fin 576) : EReal := X (ix4 i c ⟨q.val / 24, by omega⟩ ⟨q.val % 24, by omega⟩)
def wE (W : FVec Ideal S3 .f32) (k : Fin 3) : EReal := W (ix1 k)

theorem sum_pixels (f : Fin 24 → Fin 24 → EReal) : ∑ a, ∑ b, f a b = ∑ q : Fin 576, f ⟨q.val / 24, by omega⟩ ⟨q.val % 24, by omega⟩ := by
  rw [← Fintype.sum_prod_type' f]
  refine Fintype.sum_equiv (finProdFinEquiv : Fin 24 × Fin 24 ≃ Fin 576) _ _ fun p => ?_
  have h := p.2.isLt
  have e : ((finProdFinEquiv : Fin 24 × Fin 24 ≃ Fin 576) p).val = p.2.val + 24 * p.1.val := rfl
  refine congrArg₂ f (Fin.ext ?_) (Fin.ext ?_)
  · show p.1.val = _ / 24
    rw [e]; omega
  · show p.2.val = _ % 24
    rw [e]; omega

theorem zero_word : (FloatOps.sitofp (F := Ideal) .f32 (0#32 : BitVec 32) : EReal) = 0 := by
  show (((0#32 : BitVec 32).toInt : ℝ) : EReal) = 0
  simp

theorem tapsArr_apply (X : FVec Ideal S32x384x24x24 .f32) (W : FVec Ideal S3 .f32) (i : Fin 32) (c : Fin 384) :
    tapsArr X W (ix2 i c) = taps (imgE X i) (wE W) c := by
  unfold tapsArr
  pointwise []
  simp only [sum_pixels, zero_word]
  unfold taps
  refine congrArg₂ (fun y z => y * _ + _ + z * _) ?_ ?_
  · unfold before
    by_cases h : c.val = 0
    · rw [dif_neg (by omega), dif_pos h]
    · rw [dif_pos (by omega), dif_neg h]; rfl
  · unfold after
    by_cases h : c.val < 383
    · rw [dif_pos (by omega), dif_pos h]
      have e : (⟨2 + c.val - 1, by omega⟩ : Fin 384) = ⟨c.val + 1, by omega⟩ := Fin.ext (by show 2 + c.val - 1 = c.val + 1; omega)
      rw [e]; rfl
    · rw [dif_neg (by omega), dif_neg h]

theorem gatedArr_apply (X : FVec Ideal S32x384x24x24 .f32) (W : FVec Ideal S3 .f32) (i : Fin 32) (c : Fin 384) (a b : Fin 24) :
    gatedArr X W (ix4 i c a b) = X (ix4 i c a b) * Ideal.logistic (taps (imgE X i) (wE W) c) := by
  unfold gatedArr
  pointwise []
  rw [tapsArr_apply]
  rfl

theorem comparator_lt (l r : EReal) : comparator_f32_d1 (F := Ideal) l r = 1#1 ↔ l < r := by
  have e : comparator_f32_d1 (F := Ideal) l r = Ideal.cmp .olt l r := by
    have h : ∀ z : EReal, Scalar.select (FloatOps.cmpf (F := Ideal) (φ := .f32) .une z z) (FloatOps.ofBits (F := Ideal) .f32 0x7FC00000#32)
        (Scalar.select (FloatOps.cmpf (F := Ideal) (φ := .f32) .oeq z (FloatOps.ofBits (F := Ideal) .f32 0x00000000#32)) (FloatOps.ofBits (F := Ideal) .f32 0x00000000#32) z) = z := fun z => by
      simp only [Ideal.cmpf_def, Ideal.cmp, Ideal.ofBits_def, Ideal.ofBits_zero_f32, Scalar.select]
      by_cases hz : z = 0 <;> simp [hz]
    unfold comparator_f32_d1
    dsimp only
    rw [h l, h r]
    rfl
  rw [e]
  unfold Ideal.cmp
  by_cases h : l < r <;> simp [h]

theorem sort_apply (x : FVec Ideal S32x384x24x24 .f32) (i : Fin 32) (c : Fin 384) (a b : Fin 24) :
    Host.sort S32x384x24x24 1 comparator_f32_d1 x (ix4 i c a b)
      = x (ix4 i (sortedFrom (fun k k' : Fin 384 => comparator_f32_d1 (F := Ideal) (x (ix4 i k a b)) (x (ix4 i k' a b)) == 1#1) c) a b) := by
  have al : ∀ k : Fin 384, (ix4 i c a b : S32x384x24x24.Idx).along 1 k = ix4 i k a b := fun k => by
    unfold Shape.Idx.along
    funext t
    fin_cases t <;> rfl
  unfold Host.sort
  rw [dif_pos (by decide : 1 < S32x384x24x24.rank)]
  have hR : (fun k k' : Fin 384 => comparator_f32_d1 (F := Ideal) (x ((ix4 i c a b : S32x384x24x24.Idx).along 1 k)) (x ((ix4 i c a b : S32x384x24x24.Idx).along 1 k')) == 1#1)
      = fun k k' : Fin 384 => comparator_f32_d1 (F := Ideal) (x (ix4 i k a b)) (x (ix4 i k' a b)) == 1#1 := by
    funext k k'
    rw [al, al]
  exact (congrArg (fun f => x ((ix4 i c a b : S32x384x24x24.Idx).along 1 (sortedFrom f c))) hR).trans (congrArg x (al _))

theorem reverse_apply (x : FVec Ideal S32x384x24x24 .f32) (i : Fin 32) (c : Fin 384) (a b : Fin 24) :
    Host.reverse [1] x (ix4 i c a b) = x (ix4 i c.rev a b) := by
  unfold Host.reverse
  refine congrArg x (funext fun t => ?_)
  fin_cases t <;> rfl

/-- Sorting a list of values by the comparator and reading it backwards gives a list that does not grow. -/
theorem sorted_list {n : ℕ} (g : Fin n → EReal) (B : Fin n → Fin n → Bool) (hBt : ∀ k k', B k k' = true ↔ g k < g k') :
    ∃ σ : Equiv.Perm (Fin n), (∀ c, σ c = sortedFrom B c.rev) ∧ ∀ c c', c ≤ c' → g (σ c') ≤ g (σ c) := by
  have hBf : ∀ k k', B k k' = false ↔ g k' ≤ g k := fun k k' => by rw [← not_lt, ← hBt]; simp
  have hbij : Function.Bijective fun c : Fin n => sortedFrom B c.rev :=
    Finite.injective_iff_bijective.mp fun x y h => Fin.rev_injective (sortedFrom_injective B h)
  refine ⟨Equiv.ofBijective _ hbij, fun c => rfl, fun c c' h => ?_⟩
  show g (sortedFrom B c'.rev) ≤ g (sortedFrom B c.rev)
  rcases eq_or_lt_of_le h with rfl | h
  · exact le_rfl
  · have := sortedFrom_noInversion B B (fun x y hxy => (hBf y x).mpr ((hBt x y).mp hxy).le) (fun _ _ h => h)
      (fun x y z hxy hyz => (hBf x z).mpr (((hBf y z).mp hyz).trans ((hBf x y).mp hxy))) c'.rev c.rev (Fin.rev_lt_rev.mpr h)
    exact (hBf _ _).mp this

/-- At every pixel the sorted channels are the gated ones in some order, and do not grow. -/
theorem sortedArr_spec (X : FVec Ideal S32x384x24x24 .f32) (W : FVec Ideal S3 .f32) (i : Fin 32) (a b : Fin 24) :
    ∃ σ : Equiv.Perm (Fin 384), (∀ c, sortedArr X W (ix4 i c a b) = gatedArr X W (ix4 i (σ c) a b))
      ∧ ∀ c c', c ≤ c' → sortedArr X W (ix4 i c' a b) ≤ sortedArr X W (ix4 i c a b) := by
  obtain ⟨σ, hσ, anti⟩ := sorted_list (fun c => gatedArr X W (ix4 i c a b))
    (fun k k' : Fin 384 => comparator_f32_d1 (F := Ideal) (gatedArr X W (ix4 i k a b)) (gatedArr X W (ix4 i k' a b)) == 1#1)
    (fun k k' => by rw [beq_iff_eq]; exact comparator_lt _ _)
  have h : ∀ c, sortedArr X W (ix4 i c a b) = gatedArr X W (ix4 i (σ c) a b) := fun c => by
    unfold sortedArr
    rw [reverse_apply, sort_apply, hσ]
  exact ⟨σ, h, fun c c' hc => by rw [h, h]; exact anti c c' hc⟩

end

end Cert.Proof.Value

end
-- ==== Proof.MaskValue.lean ====
module

public import proofs.«01_k».proof.Defs
public import proofs.«01_k».proof.Proof.RefValue
public import proofs.«01_k».proof.Proof.Gen.ReferenceIdeal.Run

@[expose] public section

set_option maxRecDepth 16384

noncomputable section

namespace Cert.Proof.Value

open Idealize.ShloMosaic Idealize.SL.Sem Cert.Proof.Pixel

theorem maskFacts : Cert.On_threshold_in_gap.Facts := by constructor <;> decide
theorem postFacts : Cert.Post_within_one_step.Facts := by constructor <;> decide

theorem ofBool_one (p : Prop) [Decidable p] : BitVec.ofBool (decide p) = 1#1 ↔ p := by by_cases h : p <;> simp [h]
theorem andi_one (x y : BitVec 1) : IntOp.andi x y = 1#1 ↔ x = 1#1 ∧ y = 1#1 := by
  revert x y; unfold IntOp.andi; decide
theorem ori_one (x y : BitVec 1) : IntOp.ori x y = 1#1 ↔ x = 1#1 ∨ y = 1#1 := by
  revert x y; unfold IntOp.ori; decide
theorem not_one (x : BitVec 1) : ~~~x = 1#1 ↔ ¬ x = 1#1 := by
  revert x; decide
instance : Std.Commutative (IntOp.ori (w := 1)) := ⟨by unfold IntOp.ori; decide⟩
instance : Std.Associative (IntOp.ori (w := 1)) := ⟨by unfold IntOp.ori; decide⟩

/-- Some term of a disjunction over a finite set holds when the disjunction does. -/
theorem fold_ori {ι : Type} (f : ι → BitVec 1) (s : Finset ι) (h : Finset.fold IntOp.ori 0#1 f s = 1#1) : ∃ j, f j = 1#1 := by
  classical
  induction s using Finset.induction_on with
  | empty => simp at h
  | insert a s ha ih =>
    rw [Finset.fold_insert ha, ori_one] at h
    rcases h with h | h
    · exact ⟨a, h⟩
    · exact ih h

/-- The number of halvings an image gets. -/
def halvings (i : Fin 32) : ℕ := if i.val < 10 then 6 else 7

theorem early (i : Fin 32) : IntOp.cmpi .slt (BitVec.ofNat 32 i.val) 10#32 = BitVec.ofBool (decide (i.val < 10)) := by
  revert i; decide

theorem parts_eq (i : Fin 32) : Scalar.select (IntOp.cmpi .slt (BitVec.ofNat 32 i.val) 10#32) (Ideal.ofBits .f32 0x42800000#32) (Ideal.ofBits .f32 0x43000000#32)
    = ((2 ^ halvings i : ℝ) : EReal) := by
  rw [early, ofBits_64, ofBits_128]
  unfold Scalar.select halvings
  by_cases h : i.val < 10 <;> simp [h]

theorem position (x : Fin 129) : (FloatOps.sitofp (F := Ideal) .f32 (BitVec.ofNat 32 x.val) : EReal) = ((x.val : ℝ) : EReal) := by
  have h : ∀ x : Fin 129, (BitVec.ofNat 32 x.val).toInt = (x.val : ℤ) := by decide
  show (((BitVec.ofNat 32 x.val).toInt : ℝ) : EReal) = _
  rw [h]; rfl

section

open Cert.On_threshold_in_gap Cert.On_threshold_in_gap.Facts

variable [Cert.On_threshold_in_gap.Facts]

/-- The mask as a function of the sorted channels. -/
def maskArr (S : FVec Ideal S32x384x24x24 .f32) : IVec S32x24x24 1 :=
  let main_v32 : FVec Ideal S32x1x24x24 .f32 := extractStridedSlice S32x1x24x24 ![0, 0, 0, 0] S slices_S32x384x24x24_S32x1x24x24_0_0_0_0
  let main_v33 : FVec Ideal S32x24x24 .f32 := shapeCast S32x24x24 main_v32 shapeCasts_S32x1x24x24_S32x24x24
  let main_v34 : FVec Ideal S32x1x24x24 .f32 := extractStridedSlice S32x1x24x24 ![0, 383, 0, 0] S slices_S32x384x24x24_S32x1x24x24_0_383_0_0
  let main_v35 : FVec Ideal S32x24x24 .f32 := shapeCast S32x24x24 main_v34 shapeCasts_S32x1x24x24_S32x24x24
  let main_v36 : FVec Ideal S32x24x24 .f32 := Host.absf main_v35
  let main_cst_3 : FVec Ideal S_ .f32 := constant S_ .f32 0x3C23D70A#32
  let main_v37 : FVec Ideal S32x24x24 .f32 := broadcastInDim S32x24x24 ![] bcast_S_S32x24x24 main_cst_3
  let main_v38 : FVec Ideal S32x24x24 .f32 := mulf main_v36 main_v37
  let main_cst_4 : FVec Ideal S_ .f32 := constant S_ .f32 0x0DA24260#32
  let main_v39 : FVec Ideal S32x24x24 .f32 := broadcastInDim S32x24x24 ![] bcast_S_S32x24x24 main_cst_4
  let main_v40 : FVec Ideal S32x24x24 .f32 := addf main_v38 main_v39
  fn_part2 (F := Ideal) S main_v33 main_v35 main_v40

theorem mask_eq (X : FVec Ideal S32x384x24x24 .f32) (W : FVec Ideal S3 .f32) : fn (F := Ideal) X W = maskArr (sortedArr X W) := rfl

theorem mask_apply (S : FVec Ideal S32x384x24x24 .f32) (i : Fin 32) (a b : Fin 24) (h : maskArr S (ix3 i a b) = 1#1) :
    (⊥ < S (ix4 i 383 a b) ∧ S (ix4 i 0 a b) < ⊤) ∧ ∃ j : ℕ,
      S (ix4 i 192 a b) ≤ lower (S (ix4 i 383 a b)) + ((j : ℝ) : EReal) * Ideal.div (upper (S (ix4 i 0 a b)) - lower (S (ix4 i 383 a b))) ((2 ^ halvings i : ℝ) : EReal)
      ∧ lower (S (ix4 i 383 a b)) + ((j : ℝ) : EReal) * Ideal.div (upper (S (ix4 i 0 a b)) - lower (S (ix4 i 383 a b))) ((2 ^ halvings i : ℝ) : EReal) ≤ S (ix4 i 191 a b) := by
  unfold maskArr fn_part2 fn_part3 fn_where at h
  revert h
  pointwise []
  simp only [id]
  pointwise []
  rw [parts_eq, andi_one, andi_one, ofBool_one, ofBool_one, ofBits_top, ofBits_bot]
  rintro ⟨h, hf⟩
  refine ⟨h, ?_⟩
  obtain ⟨j, hj⟩ := fold_ori _ _ hf
  rw [andi_one, ofBool_one, ofBool_one, position] at hj
  exact ⟨j.val, hj⟩

end

section

open Cert.Post_within_one_step Cert.Post_within_one_step.Facts

variable [Cert.Post_within_one_step.Facts]

/-- The check as a function of the sorted channels and the result. -/
def postArr (S : FVec Ideal S32x384x24x24 .f32) (Y : FVec Ideal S32x24x24 .f32) : IVec S32x24x24 1 :=
  let main_v32 : FVec Ideal S32x192x24x24 .f32 := extractStridedSlice S32x192x24x24 ![0, 0, 0, 0] S slices_S32x384x24x24_S32x192x24x24_0_0_0_0
  let main_cst_3 : FVec Ideal S_ .f32 := constant S_ .f32 0x00000000#32
  let main_v33 : FVec Ideal S32x24x24 .f32 := Host.reduceAdd main_v32 main_cst_3 reducesTo_S32x192x24x24_S32x24x24_d1 h_S_
  let main_cst_4 : FVec Ideal S_ .f32 := constant S_ .f32 0x43400000#32
  let main_v34 : FVec Ideal S32x24x24 .f32 := broadcastInDim S32x24x24 ![] bcast_S_S32x24x24 main_cst_4
  let main_v35 : FVec Ideal S32x24x24 .f32 := Host.divf main_v33 main_v34
  let main_v36 : FVec Ideal S32x1x24x24 .f32 := extractStridedSlice S32x1x24x24 ![0, 0, 0, 0] S slices_S32x384x24x24_S32x1x24x24_0_0_0_0
  let main_v37 : FVec Ideal S32x24x24 .f32 := shapeCast S32x24x24 main_v36 shapeCasts_S32x1x24x24_S32x24x24
  let main_v38 : FVec Ideal S32x1x24x24 .f32 := extractStridedSlice S32x1x24x24 ![0, 383, 0, 0] S slices_S32x384x24x24_S32x1x24x24_0_383_0_0
  let main_v39 : FVec Ideal S32x24x24 .f32 := shapeCast S32x24x24 main_v38 shapeCasts_S32x1x24x24_S32x24x24
  let main_v40 : FVec Ideal S32x24x24 .f32 := Host.absf main_v39
  fn_part2 (F := Ideal) Y main_v35 main_v37 main_v39 main_v40

theorem post_eq [Cert.On_threshold_in_gap.Facts] (X : FVec Ideal S32x384x24x24 .f32) (W : FVec Ideal S3 .f32) (Y : FVec Ideal S32x24x24 .f32) :
    fn (F := Ideal) X W Y = postArr (sortedArr X W) Y := rfl

theorem post_apply (S : FVec Ideal S32x384x24x24 .f32) (Y : FVec Ideal S32x24x24 .f32) (i : Fin 32) (a b : Fin 24)
    (h : ⊥ < S (ix4 i 383 a b) → S (ix4 i 0 a b) < ⊤ →
      Ideal.div (∑ c : Fin 192, S (ix4 i (Fin.castAdd 192 c) a b)) ((192 : ℝ) : EReal) ≤ Y (ix3 i a b)
      ∧ Y (ix3 i a b) ≤ Ideal.div (∑ c : Fin 192, S (ix4 i (Fin.castAdd 192 c) a b)) ((192 : ℝ) : EReal)
          + Ideal.div (upper (S (ix4 i 0 a b)) - lower (S (ix4 i 383 a b))) ((2 ^ halvings i : ℝ) : EReal)) :
    postArr S Y (ix3 i a b) = 1#1 := by
  unfold postArr fn_part2 fn_part3 fn_where
  pointwise []
  simp only [id]
  pointwise []
  rw [parts_eq, ori_one, not_one, andi_one, andi_one, ofBool_one, ofBool_one, ofBool_one, ofBool_one, ofBits_top, ofBits_bot, ofBits_192]
  by_cases hf : ⊥ < S (ix4 i 383 a b) ∧ S (ix4 i 0 a b) < ⊤
  · exact Or.inr (h hf.1 hf.2)
  · exact Or.inl hf

/-- The reference's result as a function of the sorted channels. -/
def refArr (S : FVec Ideal S32x384x24x24 .f32) : FVec Ideal S32x24x24 .f32 :=
  Host.divf (Host.reduceAdd (extractStridedSlice S32x192x24x24 ![0, 0, 0, 0] S slices_S32x384x24x24_S32x192x24x24_0_0_0_0) (constant S_ .f32 0x00000000#32) reducesTo_S32x192x24x24_S32x24x24_d1 h_S_)
    (broadcastInDim S32x24x24 ![] bcast_S_S32x24x24 (constant S_ .f32 0x43400000#32))

theorem ref_apply (S : FVec Ideal S32x384x24x24 .f32) (i : Fin 32) (a b : Fin 24) :
    refArr S (ix3 i a b) = Ideal.div (∑ c : Fin 192, S (ix4 i (Fin.castAdd 192 c) a b)) ((192 : ℝ) : EReal) := by
  unfold refArr
  pointwise []
  rw [ofBits_192]
  rfl

end

/-- Every run of the reference ends with its result at `refArr` of the sorted channels and its arguments as they were. -/
theorem ref_run [Cert.On_threshold_in_gap.Facts] [Cert.Post_within_one_step.Facts] [Cert.ReferenceIdeal.Facts]
    (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v35)
          = refArr (sortedArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  (θ_run Cert.ReferenceIdeal.defs _ _).mono (fun _ h c => ⟨(h c).1.trans rfl, (h c).2⟩) (Cert.ReferenceIdeal.Value.run m ρ)

end Cert.Proof.Value

end
-- ==== Proof.Arrays.lean ====
/-
  The arrays between the three kernels: what the gate kernel leaves of the images, and what the top-k kernel leaves of
  that, as one function of the whole array each.
-/
module

public import proofs.«01_k».proof.Proof.Main
public import Idealize.ShloMosaic.Lib.Pipeline.Value

@[expose] public section

set_option maxRecDepth 16384

noncomputable section

namespace Cert.Proof.TopK

open Cert.KernelIdeal Cert.KernelIdeal.Gen
open Idealize.ShloMosaic Idealize.ShloMosaic.TcCoe Idealize.ShloMosaic.ValueIdx
open Idealize.SL Idealize.SL.Sem
open Idealize.ShloMosaic.Pipeline (Dat arrRef)

variable {F : FTy → Type} [FloatOps F] [Named F]

/-- One image of the batch. -/
def imgAll (X : Vec F S32x384x576 .f32) (i : Fin 32) : Vec F S1x384x576 .f32 := fun z => X (ix3 (n0 := 32) (n1 := 384) (n2 := 576) i (z 1) (z 2))

/-- The gated image. -/
abbrev gatedAll (X : Vec F S32x384x576 .f32) (W : Vec F S3 .f32) (i : Fin 32) : FVec F S384x576 .f32 :=
  gated (imgAll X i) (W (ix1 (n := 3) 0)) (W (ix1 (n := 3) 1)) (W (ix1 (n := 3) 2))

/-- The gated values of all images, in chunks of 192 pixels; and their brackets. -/
def fwAll (X : Vec F S32x384x576 .f32) (W : Vec F S3 .f32) : Vec F S32x3x384x192 .f32 := fun y =>
  gatedAll X W (y 0) (ix2 (n0 := 384) (n1 := 576) (y 2) ⟨192 * (y 1).val + (y 3).val, by have h : (y 1).val < 3 := (y 1).isLt; have h' : (y 3).val < 192 := (y 3).isLt; omega⟩)
def mmAll (X : Vec F S32x384x576 .f32) (W : Vec F S3 .f32) : Vec F S32x2x576 .f32 := fun y =>
  if (y 1).val = 0 then k0_pay8 (gatedAll X W (y 0)) (ix3 (n0 := 1) (n1 := 1) (n2 := 576) 0 0 (y 2))
  else k0_pay9 (gatedAll X W (y 0)) (ix3 (n0 := 1) (n1 := 1) (n2 := 576) 0 0 (y 2))

/-- One image of the chunks, and of the brackets. -/
def fwImg (A : Vec F S32x3x384x192 .f32) (i : Fin 32) : Vec F S1x3x384x192 .f32 := fun z => A (ix4 (n0 := 32) (n1 := 3) (n2 := 384) (n3 := 192) i (z 1) (z 2) (z 3))
def mmImg (B : Vec F S32x2x576 .f32) (i : Fin 32) : Vec F S1x2x576 .f32 := fun z => B (ix3 (n0 := 32) (n1 := 2) (n2 := 576) i (z 1) (z 2))

/-- The means of images 10 to 31. -/
def topAll (A : Vec F S32x3x384x192 .f32) (B : Vec F S32x2x576 .f32) : Vec F S22x1x576 .f32 := fun y =>
  topMean (fwImg A ⟨(y 0).val + 10, by have h : (y 0).val < 22 := (y 0).isLt; omega⟩) (mmImg B ⟨(y 0).val + 10, by have h : (y 0).val < 22 := (y 0).isLt; omega⟩)
    (ix3 (n0 := 1) (n1 := 1) (n2 := 576) 0 0 (y 2))

theorem idx0_0 (t : Fin grid0.N) : cc0_transform_0 (grid0.coords t) = ![0] := by revert t; decide +kernel
theorem idx0_1 (t : Fin grid0.N) : cc0_transform_1 (grid0.coords t) = ![t.val, 0, 0] := by revert t; decide +kernel
theorem idx0_2 (t : Fin grid0.N) : cc0_transform_2 (grid0.coords t) = ![t.val, 0, 0, 0] := by revert t; decide +kernel
theorem idx0_3 (t : Fin grid0.N) : cc0_transform_3 (grid0.coords t) = ![t.val, 0, 0] := by revert t; decide +kernel
theorem idx2_0 (t : Fin grid2.N) : cc2_transform_0 (grid2.coords t) = ![t.val + 10, 0, 0, 0] := by revert t; decide +kernel
theorem idx2_1 (t : Fin grid2.N) : cc2_transform_1 (grid2.coords t) = ![t.val + 10, 0, 0] := by revert t; decide +kernel
theorem idx2_2 (t : Fin grid2.N) : cc2_transform_2 (grid2.coords t) = ![t.val, 0, 0] := by revert t; decide +kernel

theorem lt0 (t : Fin cfg0.N) : t.val < 8 := t.isLt
theorem lt2 (t : Fin cfg2.N) : t.val < 22 := t.isLt

/-! ## Where a block's elements sit -/

theorem emb0_0 (t : Fin cfg0.N) (j : S3.Idx) : ((cfg0.win 0).blk t).view.emb j = j := by
  have e := idx0_0 t
  funext a; apply Fin.ext
  match a with
  | ⟨0, _⟩ => show cc0_transform_0 (grid0.coords t) 0 * 3 + 1 * (j 0).val = (j 0).val; rw [e]; show 0 * 3 + _ = _; omega

theorem emb0_1 (t : Fin cfg0.N) (j : S4x384x576.Idx) :
    ((cfg0.win 1).blk t).view.emb j = ix3 (n0 := 32) (n1 := 384) (n2 := 576) ⟨4 * t.val + (j 0).val, by have h : (j 0).val < 4 := (j 0).isLt; have := lt0 t; omega⟩ (j 1) (j 2) := by
  have e := idx0_1 t
  funext a; apply Fin.ext
  match a with
  | ⟨0, _⟩ => show cc0_transform_1 (grid0.coords t) 0 * 4 + 1 * (j 0).val = 4 * t.val + (j 0).val; rw [e]; show t.val * 4 + _ = _; omega
  | ⟨1, _⟩ => show cc0_transform_1 (grid0.coords t) 1 * 384 + 1 * (j 1).val = (j 1).val; rw [e]; show 0 * 384 + _ = _; omega
  | ⟨2, _⟩ => show cc0_transform_1 (grid0.coords t) 2 * 576 + 1 * (j 2).val = (j 2).val; rw [e]; show 0 * 576 + _ = _; omega

theorem emb0_2 (t : Fin cfg0.N) (j : S4x3x384x192.Idx) :
    ((cfg0.win 2).blk t).view.emb j = ix4 (n0 := 32) (n1 := 3) (n2 := 384) (n3 := 192) ⟨4 * t.val + (j 0).val, by have h : (j 0).val < 4 := (j 0).isLt; have := lt0 t; omega⟩ (j 1) (j 2) (j 3) := by
  have e := idx0_2 t
  funext a; apply Fin.ext
  match a with
  | ⟨0, _⟩ => show cc0_transform_2 (grid0.coords t) 0 * 4 + 1 * (j 0).val = 4 * t.val + (j 0).val; rw [e]; show t.val * 4 + _ = _; omega
  | ⟨1, _⟩ => show cc0_transform_2 (grid0.coords t) 1 * 3 + 1 * (j 1).val = (j 1).val; rw [e]; show 0 * 3 + _ = _; omega
  | ⟨2, _⟩ => show cc0_transform_2 (grid0.coords t) 2 * 384 + 1 * (j 2).val = (j 2).val; rw [e]; show 0 * 384 + _ = _; omega
  | ⟨3, _⟩ => show cc0_transform_2 (grid0.coords t) 3 * 192 + 1 * (j 3).val = (j 3).val; rw [e]; show 0 * 192 + _ = _; omega

theorem emb0_3 (t : Fin cfg0.N) (j : S4x2x576.Idx) :
    ((cfg0.win 3).blk t).view.emb j = ix3 (n0 := 32) (n1 := 2) (n2 := 576) ⟨4 * t.val + (j 0).val, by have h : (j 0).val < 4 := (j 0).isLt; have := lt0 t; omega⟩ (j 1) (j 2) := by
  have e := idx0_3 t
  funext a; apply Fin.ext
  match a with
  | ⟨0, _⟩ => show cc0_transform_3 (grid0.coords t) 0 * 4 + 1 * (j 0).val = 4 * t.val + (j 0).val; rw [e]; show t.val * 4 + _ = _; omega
  | ⟨1, _⟩ => show cc0_transform_3 (grid0.coords t) 1 * 2 + 1 * (j 1).val = (j 1).val; rw [e]; show 0 * 2 + _ = _; omega
  | ⟨2, _⟩ => show cc0_transform_3 (grid0.coords t) 2 * 576 + 1 * (j 2).val = (j 2).val; rw [e]; show 0 * 576 + _ = _; omega

theorem emb2_0 (t : Fin cfg2.N) (j : S1x3x384x192.Idx) :
    ((cfg2.win 0).blk t).view.emb j = ix4 (n0 := 32) (n1 := 3) (n2 := 384) (n3 := 192) ⟨t.val + 10, by have := lt2 t; omega⟩ (j 1) (j 2) (j 3) := by
  have e := idx2_0 t
  have h0 : (j 0).val < 1 := (j 0).isLt
  funext a; apply Fin.ext
  match a with
  | ⟨0, _⟩ => show cc2_transform_0 (grid2.coords t) 0 * 1 + 1 * (j 0).val = t.val + 10; rw [e]; show (t.val + 10) * 1 + _ = _; omega
  | ⟨1, _⟩ => show cc2_transform_0 (grid2.coords t) 1 * 3 + 1 * (j 1).val = (j 1).val; rw [e]; show 0 * 3 + _ = _; omega
  | ⟨2, _⟩ => show cc2_transform_0 (grid2.coords t) 2 * 384 + 1 * (j 2).val = (j 2).val; rw [e]; show 0 * 384 + _ = _; omega
  | ⟨3, _⟩ => show cc2_transform_0 (grid2.coords t) 3 * 192 + 1 * (j 3).val = (j 3).val; rw [e]; show 0 * 192 + _ = _; omega

theorem emb2_1 (t : Fin cfg2.N) (j : S1x2x576.Idx) :
    ((cfg2.win 1).blk t).view.emb j = ix3 (n0 := 32) (n1 := 2) (n2 := 576) ⟨t.val + 10, by have := lt2 t; omega⟩ (j 1) (j 2) := by
  have e := idx2_1 t
  have h0 : (j 0).val < 1 := (j 0).isLt
  funext a; apply Fin.ext
  match a with
  | ⟨0, _⟩ => show cc2_transform_1 (grid2.coords t) 0 * 1 + 1 * (j 0).val = t.val + 10; rw [e]; show (t.val + 10) * 1 + _ = _; omega
  | ⟨1, _⟩ => show cc2_transform_1 (grid2.coords t) 1 * 2 + 1 * (j 1).val = (j 1).val; rw [e]; show 0 * 2 + _ = _; omega
  | ⟨2, _⟩ => show cc2_transform_1 (grid2.coords t) 2 * 576 + 1 * (j 2).val = (j 2).val; rw [e]; show 0 * 576 + _ = _; omega

theorem emb2_2 (t : Fin cfg2.N) (j : S1x1x576.Idx) :
    ((cfg2.win 2).blk t).view.emb j = ix3 (n0 := 22) (n1 := 1) (n2 := 576) ⟨t.val, lt2 t⟩ 0 (j 2) := by
  have e := idx2_2 t
  have h0 : (j 0).val < 1 := (j 0).isLt
  have h1 : (j 1).val < 1 := (j 1).isLt
  funext a; apply Fin.ext
  match a with
  | ⟨0, _⟩ => show cc2_transform_2 (grid2.coords t) 0 * 1 + 1 * (j 0).val = t.val; rw [e]; show t.val * 1 + _ = _; omega
  | ⟨1, _⟩ => show cc2_transform_2 (grid2.coords t) 1 * 1 + 1 * (j 1).val = 0; rw [e]; show 0 * 1 + _ = _; omega
  | ⟨2, _⟩ => show cc2_transform_2 (grid2.coords t) 2 * 576 + 1 * (j 2).val = (j 2).val; rw [e]; show 0 * 576 + _ = _; omega

variable (V : Valuation τ sig (Elt F))

theorem wBlk_eq (t : Fin cfg0.N) : wBlk V t = (V (ref main_arg1) : Vec F S3 .f32) := by
  funext j
  show V (ref main_arg1) (((cfg0.win 0).blk t).view.emb j) = V (ref main_arg1) j
  rw [emb0_0]

theorem imgOf_xBlk (t : Fin cfg0.N) (i : Fin 4) (i' : Fin 32) (h : i'.val = 4 * t.val + i.val) : imgOf (xBlk V t) i = imgAll (V (ref main_v0)) i' := by
  have e : i' = ⟨4 * t.val + i.val, by have := lt0 t; omega⟩ := Fin.ext h
  rw [e]
  funext j
  show V (ref main_v0) (((cfg0.win 1).blk t).view.emb (ix3 (n0 := 4) (n1 := 384) (n2 := 576) i (j 1) (j 2))) = _
  rw [emb0_1]
  rfl

theorem fwBlk_eq (t : Fin cfg2.N) : fwBlk V t = fwImg (V (ref main_v1_0)) ⟨t.val + 10, by have := lt2 t; omega⟩ := by
  funext j
  show V (ref main_v1_0) (((cfg2.win 0).blk t).view.emb j) = _
  rw [emb2_0]
  rfl

theorem mmBlk_eq (t : Fin cfg2.N) : mmBlk V t = mmImg (V (ref main_v1_1)) ⟨t.val + 10, by have := lt2 t; omega⟩ := by
  funext j
  show V (ref main_v1_1) (((cfg2.win 1).blk t).view.emb j) = _
  rw [emb2_1]
  rfl

variable (VV : Dev nD → Valuation τ sig (Elt F)) (n b : ℕ) (c : Dev nD)

/-- After the gate kernel: the gated values, -/
theorem arr0_2 : (dat0 VV n b c).arrAt 2 cfg0.N = (fwAll (VV c (ref main_v0)) (VV c (ref main_arg1)) : Vec F S32x3x384x192 .f32) := by
  refine (dat0 VV n b c).arrAt_eq_of_cover 2 _ (fun t _ => ?_) (fun i => ?_)
  · funext y
    show gateFw (xBlk (VV c) t) (wBlk (VV c) t) y = fwAll _ _ (((cfg0.win 2).blk t).view.emb y)
    rw [emb0_2, wBlk_eq]
    unfold gateFw fwAll
    rw [imgOf_xBlk (VV c) t (y 0) ⟨4 * t.val + (y 0).val, by have h : (y 0).val < 4 := (y 0).isLt; have := lt0 t; omega⟩ rfl]
  · have h : (i 0).val < 32 := (i 0).isLt
    refine ⟨⟨(i 0).val / 4, show _ < 8 by omega⟩, flush0_2 _, ?_⟩
    have hm := ((cfg0.win 2).blk ⟨(i 0).val / 4, show _ < 8 by omega⟩).view.emb_mem_set (ix4 (n0 := 4) (n1 := 3) (n2 := 384) (n3 := 192) ⟨(i 0).val % 4, by omega⟩ (i 1) (i 2) (i 3))
    rw [emb0_2] at hm
    convert hm using 1
    funext a; apply Fin.ext
    match a with
    | ⟨0, _⟩ => show (i 0).val = 4 * ((i 0).val / 4) + (i 0).val % 4; omega
    | ⟨1, _⟩ => rfl
    | ⟨2, _⟩ => rfl
    | ⟨3, _⟩ => rfl

/-- and their brackets. -/
theorem arr0_3 : (dat0 VV n b c).arrAt 3 cfg0.N = (mmAll (VV c (ref main_v0)) (VV c (ref main_arg1)) : Vec F S32x2x576 .f32) := by
  refine (dat0 VV n b c).arrAt_eq_of_cover 3 _ (fun t _ => ?_) (fun i => ?_)
  · funext y
    show gateMm (xBlk (VV c) t) (wBlk (VV c) t) y = mmAll _ _ (((cfg0.win 3).blk t).view.emb y)
    rw [emb0_3, wBlk_eq]
    unfold gateMm mmAll
    rw [imgOf_xBlk (VV c) t (y 0) ⟨4 * t.val + (y 0).val, by have h : (y 0).val < 4 := (y 0).isLt; have := lt0 t; omega⟩ rfl]
  · have h : (i 0).val < 32 := (i 0).isLt
    refine ⟨⟨(i 0).val / 4, show _ < 8 by omega⟩, flush0_3 _, ?_⟩
    have hm := ((cfg0.win 3).blk ⟨(i 0).val / 4, show _ < 8 by omega⟩).view.emb_mem_set (ix3 (n0 := 4) (n1 := 2) (n2 := 576) ⟨(i 0).val % 4, by omega⟩ (i 1) (i 2))
    rw [emb0_3] at hm
    convert hm using 1
    funext a; apply Fin.ext
    match a with
    | ⟨0, _⟩ => show (i 0).val = 4 * ((i 0).val / 4) + (i 0).val % 4; omega
    | ⟨1, _⟩ => rfl
    | ⟨2, _⟩ => rfl

/-- After the top-k kernel: the means. -/
theorem arr2_2 : (dat2 VV n b c).arrAt 2 cfg2.N = (topAll (VV c (ref main_v1_0)) (VV c (ref main_v1_1)) : Vec F S22x1x576 .f32) := by
  refine (dat2 VV n b c).arrAt_eq_of_cover 2 _ (fun t _ => ?_) (fun i => ?_)
  · funext y
    show topMean (fwBlk (VV c) t) (mmBlk (VV c) t) y = topAll _ _ (((cfg2.win 2).blk t).view.emb y)
    rw [emb2_2, fwBlk_eq, mmBlk_eq]
    unfold topAll
    refine congrArg _ (funext fun a => Fin.ext ?_)
    have h0 : (y 0).val < 1 := (y 0).isLt
    have h1 : (y 1).val < 1 := (y 1).isLt
    match a with
    | ⟨0, _⟩ => show (y 0).val = 0; omega
    | ⟨1, _⟩ => show (y 1).val = 0; omega
    | ⟨2, _⟩ => rfl
  · have h : (i 0).val < 22 := (i 0).isLt
    have h1 : (i 1).val < 1 := (i 1).isLt
    refine ⟨⟨(i 0).val, h⟩, flush2_2 _, ?_⟩
    have hm := ((cfg2.win 2).blk ⟨(i 0).val, h⟩).view.emb_mem_set (ix3 (n0 := 1) (n1 := 1) (n2 := 576) 0 0 (i 2))
    rw [emb2_2] at hm
    convert hm using 1
    funext a; apply Fin.ext
    match a with
    | ⟨0, _⟩ => rfl
    | ⟨1, _⟩ => show (i 1).val = 0; omega
    | ⟨2, _⟩ => rfl

variable (m : (ℓ : Loc nD τ sig) → Buf (Elt F) ℓ) (d : Dev nD)

/-- The images with their pixels in one row, and the weights, as the gate kernel finds them. -/
abbrev X0 : Vec F S32x384x576 .f32 := Vx m d (ref main_v0)
abbrev W0 : Vec F S3 .f32 := m (wLoc d)

theorem Vgate_fw : Vgate m d (ref main_v1_0) = (fwAll (X0 m d) (W0 m d) : Vec F S32x3x384x192 .f32) := by
  refine (Pipeline.afterRegion_arr (dat0 (Vx m) 0 (lvl 0) d) (Vx m d) launch0.win.arr_inj 2).trans ((arr0_2 (Vx m) 0 (lvl 0) d).trans ?_)
  rw [show Vx m d (ref main_arg1) = W0 m d from Vx_of m d (by decide)]
theorem Vgate_mm : Vgate m d (ref main_v1_1) = (mmAll (X0 m d) (W0 m d) : Vec F S32x2x576 .f32) := by
  refine (Pipeline.afterRegion_arr (dat0 (Vx m) 0 (lvl 0) d) (Vx m d) launch0.win.arr_inj 3).trans ((arr0_3 (Vx m) 0 (lvl 0) d).trans ?_)
  rw [show Vx m d (ref main_arg1) = W0 m d from Vx_of m d (by decide)]
theorem Vtopk_top : Vtopk m d (ref main_v3) = (topAll (fwAll (X0 m d) (W0 m d)) (mmAll (X0 m d) (W0 m d)) : Vec F S22x1x576 .f32) := by
  refine (Pipeline.afterRegion_arr (dat2 (Vsc m) 1 (lvl 1) d) (Vsc m d) launch2.win.arr_inj 2).trans ((arr2_2 (Vsc m) 1 (lvl 1) d).trans ?_)
  rw [Vsc_fw, Vsc_mm, Vgate_fw, Vgate_mm]
theorem Vtopk_o : Vtopk m d (ref main_v2) = outAt (fwAll (X0 m d) (W0 m d)) (mmAll (X0 m d) (W0 m d)) (Vgate m d (ref main_v2)) := by
  rw [Vtopk_keeps m d main_v2 (by decide), Vsc_o, Vgate_fw, Vgate_mm]

end Cert.Proof.TopK

end
-- ==== Proof.ArrayValue.lean ====
/-
  What the whole program leaves in its result on the extended reals: at every pixel the mean of excesses over the pixel's
  halved bracket.
-/
module

public import proofs.«01_k».proof.Proof.SelectValue
public import proofs.«01_k».proof.Proof.RefValue
public import proofs.«01_k».proof.Proof.MaskValue
public import proofs.«01_k».proof.Proof.Arrays

@[expose] public section

set_option maxRecDepth 16384

noncomputable section

namespace Cert.Proof.Value

open Cert.KernelIdeal Cert.KernelIdeal.Gen
open Idealize.ShloMosaic
open Cert.Proof.Pixel Cert.Proof.TopK

variable (m : (ℓ : Loc nD τ sig) → Buf (Elt Ideal) ℓ) (d : Dev nD)

/-- The pixel at row `a` and column `b`. -/
def pix (a b : Fin 24) : Fin 576 := ⟨a.val * 24 + b.val, by omega⟩
/-- Its chunk, and its place in the chunk. -/
def chk (q : Fin 576) : Fin 3 := ⟨q.val / 192, by omega⟩
def plc (q : Fin 576) : Fin 192 := ⟨q.val % 192, by omega⟩

/-- The images with their pixels in one row. -/
def flatX (X : Vec Ideal S32x384x24x24 .f32) : Vec Ideal S32x384x576 .f32 := shapeCast S32x384x576 X shapeCasts_S32x384x24x24_S32x384x576

theorem flatX_apply (X : Vec Ideal S32x384x24x24 .f32) (i : Fin 32) (c : Fin 384) (q : Fin 576) : flatX X (ix3 i c q) = imgE X i c q := by
  unfold flatX imgE
  pointwise []

/-- The ten images of the tiles and the other twenty-two in one array, as rows and columns. -/
def joined (O : Vec Ideal S11x3x192 .f32) (T : Vec Ideal S22x1x576 .f32) : Vec Ideal S32x24x24 .f32 :=
  shapeCast S32x24x24 (concatenate S32x576 0 [⟨S10x576, extractStridedSlice S10x576 ![0, 0] (shapeCast S11x576 O shapeCasts_S11x3x192_S11x576) slices_S11x576_S10x576_0_0⟩,
    ⟨S22x576, shapeCast S22x576 T shapeCasts_S22x1x576_S22x576⟩] concatenates_S10x576_S22x576_S32x576_d0) shapeCasts_S32x576_S32x24x24

theorem joined_early (O : Vec Ideal S11x3x192 .f32) (T : Vec Ideal S22x1x576 .f32) (i : Fin 32) (a b : Fin 24) (h : i.val < 10) :
    joined O T (ix3 i a b) = O (ix3 (n0 := 11) ⟨i.val, by omega⟩ (chk (pix a b)) (plc (pix a b))) := by
  unfold joined
  pointwise []
  rw [dif_pos h]
  rfl

theorem joined_late (O : Vec Ideal S11x3x192 .f32) (T : Vec Ideal S22x1x576 .f32) (i : Fin 32) (a b : Fin 24) (h : ¬ i.val < 10) :
    joined O T (ix3 i a b) = T (ix3 (n0 := 22) ⟨i.val - 10, by omega⟩ (0 : Fin 1) (pix a b)) := by
  unfold joined
  pointwise []
  rw [dif_neg h]
  rfl

theorem X0_eq : X0 m d = flatX (m (xLoc d)) := StableHlo.reshape_result main_arg0 main_v0 rfl _ _ _ (Vlaunch m d)

theorem Vend_out : Vend m d (ref main_v8) = joined (Vtopk m d (ref main_v2)) (Vtopk m d (ref main_v3)) := by
  have eA : opA.result (Vtopk m d) (ref main_v4) = shapeCast S11x576 (Vtopk m d (ref main_v2)) shapeCasts_S11x3x192_S11x576 :=
    StableHlo.reshape_result main_v2 main_v4 rfl _ _ _ _
  have eB : opB.result (opA.result (Vtopk m d)) (ref main_v5) = extractStridedSlice S10x576 ![0, 0] (opA.result (Vtopk m d) (ref main_v4)) slices_S11x576_S10x576_0_0 :=
    StableHlo.unary_result main_v4 main_v5 _ _ _ _
  have eC : opC.result (opB.result (opA.result (Vtopk m d))) (ref main_v6) = shapeCast S22x576 (opB.result (opA.result (Vtopk m d)) (ref main_v3)) shapeCasts_S22x1x576_S22x576 :=
    StableHlo.reshape_result main_v3 main_v6 rfl _ _ _ _
  have e3 : opB.result (opA.result (Vtopk m d)) (ref main_v3) = Vtopk m d (ref main_v3) :=
    (opB.result_of_not_mem _ (show ref main_v3 ∉ ({ref main_v5} : Finset (DevRef τ sig)) by decide)).trans
      (opA.result_of_not_mem _ (show ref main_v3 ∉ ({ref main_v4} : Finset (DevRef τ sig)) by decide))
  have e5 : opC.result (opB.result (opA.result (Vtopk m d))) (ref main_v5) = opB.result (opA.result (Vtopk m d)) (ref main_v5) :=
    opC.result_of_not_mem _ (show ref main_v5 ∉ ({ref main_v6} : Finset (DevRef τ sig)) by decide)
  have eD : opD.result (opC.result (opB.result (opA.result (Vtopk m d)))) (ref main_v7)
      = concatenate S32x576 0 [⟨S10x576, opC.result (opB.result (opA.result (Vtopk m d))) (ref main_v5)⟩, ⟨S22x576, opC.result (opB.result (opA.result (Vtopk m d))) (ref main_v6)⟩] concatenates_S10x576_S22x576_S32x576_d0 :=
    StableHlo.binary_result main_v5 main_v6 main_v7 _ _ _ _ _
  have eE : Vend m d (ref main_v8) = shapeCast S32x24x24 (opD.result (opC.result (opB.result (opA.result (Vtopk m d)))) (ref main_v7)) shapeCasts_S32x576_S32x24x24 :=
    StableHlo.reshape_result main_v7 main_v8 rfl _ _ _ _
  rw [eE, eD, e5, eB, eA, eC, e3]
  rfl

/-! ## The gate's values -/

/-- The gated values of image `i`. -/
def vals (X : Vec Ideal S32x384x24x24 .f32) (W : Vec Ideal S3 .f32) (i : Fin 32) (q : Fin 576) (c : Fin 384) : EReal := gatedE (imgE X i) (wE W) c q

variable (X : Vec Ideal S32x384x24x24 .f32) (W : Vec Ideal S3 .f32)

theorem gatedAll_apply (i : Fin 32) (c : Fin 384) (q : Fin 576) : gatedAll (flatX X) W i (ix2 c q) = vals X W i q c := by
  refine (gated_apply _ _ _ _ c q).trans ?_
  have e : (fun c q => imgAll (flatX X) i (ix3 0 c q)) = imgE X i := funext fun c => funext fun q => flatX_apply X i c q
  have e' : ![W (ix1 (0 : Fin 3)), W (ix1 (1 : Fin 3)), W (ix1 (2 : Fin 3))] = wE W := by
    funext k
    match k with
    | 0 => rfl
    | 1 => rfl
    | 2 => rfl
  exact congrArg₂ (fun x w => gatedE x w c q) e e'

theorem fwAll_apply (i : Fin 32) (j : Fin 3) (c : Fin 384) (x : Fin 192) (q : Fin 576) (h : 192 * j.val + x.val = q.val) :
    fwAll (flatX X) W (ix4 i j c x) = vals X W i q c := by
  have e : q = ⟨192 * j.val + x.val, by omega⟩ := Fin.ext h.symm
  rw [e]
  exact gatedAll_apply X W i c _

theorem mmAll_lower (i : Fin 32) (q : Fin 576) : mmAll (flatX X) W (ix3 i (0 : Fin 2) q) = lower (Finset.univ.inf (vals X W i q)) := by
  refine (if_pos rfl).trans ((lower_apply _ q).trans ?_)
  exact congrArg (fun v : Fin 384 → EReal => lower (Finset.univ.inf v)) (funext fun c => gatedAll_apply X W i c q)

theorem mmAll_upper (i : Fin 32) (q : Fin 576) : mmAll (flatX X) W (ix3 i (1 : Fin 2) q) = upper (Finset.univ.sup (vals X W i q)) := by
  refine (if_neg one_ne_zero).trans ((upper_apply _ q).trans ?_)
  exact congrArg (fun v : Fin 384 → EReal => upper (Finset.univ.sup v)) (funext fun c => gatedAll_apply X W i c q)

/-! ## The two selections -/

/-- One pixel of an image of the top-k kernel. -/
theorem topMean_apply (A : Vec Ideal S1x3x384x192 .f32) (B : Vec Ideal S1x2x576 .f32) (q : Fin 576) :
    topMean A B (ix3 (0 : Fin 1) (0 : Fin 1) q) = relaxedE (fun c => A (ix4 (0 : Fin 1) (chk q) c (plc q)))
      (brkE (fun c => A (ix4 (0 : Fin 1) (chk q) c (plc q))) (B (ix3 0 0 q)) (B (ix3 0 1 q)) 7).1 := by
  have e : ∀ r : Fin 2, endsOf B r (chk q) (ix3 (0 : Fin 1) (0 : Fin 1) (plc q)) = B (ix3 0 r q) := by
    intro r
    unfold endsOf
    refine congrArg (fun z => B (ix3 0 r z)) (Fin.ext ?_)
    show 192 * (q.val / 192) + q.val % 192 = q.val
    omega
  refine (chunkMean_apply (chunkOf A (chk q)) (plc q) (endsOf B 0 (chk q)) (endsOf B 1 (chk q))).trans ?_
  rw [e, e]
  rfl

theorem topAll_apply (r : Fin 22) (q : Fin 576) (i : Fin 32) (h : i.val = r.val + 10) :
    topAll (fwAll (flatX X) W) (mmAll (flatX X) W) (ix3 r (0 : Fin 1) q) = result (vals X W i q) 7 := by
  obtain ⟨i, hi⟩ := i
  dsimp only at h
  subst h
  have key := topMean_apply (fwImg (fwAll (flatX X) W) ⟨r.val + 10, hi⟩) (mmImg (mmAll (flatX X) W) ⟨r.val + 10, hi⟩) q
  have e : (fun c => fwImg (fwAll (flatX X) W) ⟨r.val + 10, hi⟩ (ix4 (0 : Fin 1) (chk q) c (plc q))) = vals X W ⟨r.val + 10, hi⟩ q :=
    funext fun c => fwAll_apply X W _ (chk q) c (plc q) q (by show 192 * (q.val / 192) + q.val % 192 = q.val; omega)
  have e0 : mmImg (mmAll (flatX X) W) ⟨r.val + 10, hi⟩ (ix3 0 0 q) = _ := mmAll_lower X W ⟨r.val + 10, hi⟩ q
  have e1 : mmImg (mmAll (flatX X) W) ⟨r.val + 10, hi⟩ (ix3 0 1 q) = _ := mmAll_upper X W ⟨r.val + 10, hi⟩ q
  rw [e, e0, e1] at key
  exact key

theorem wid_tileAt (n : ℕ) (h : n < 32) : wid (tileAt n) = n := by
  show 2 * (n / 2 % 16) + n % 2 = n
  omega

theorem fwRow_apply (A : Vec Ideal S32x3x384x192 .f32) (L : grid1.Coords) (i : Fin 32) (j : Fin 3) (hi : wid L / 3 = i.val) (hj : wid L % 3 = j.val) (c : Fin 384) (x : Fin 192) :
    ((fwRow L).view.read (Elt Ideal) A : Vec Ideal S384x192 .f32) (ix2 c x) = A (ix4 i j c x) := by
  have hq : Shape.reshapeEquiv (s := S1x1x384x192) (s' := S384x192) squeezes_S1x1x384x192_S384x192.numel_eq (ix2 c x) = ix4 (0 : Fin 1) (0 : Fin 1) c x :=
    Shape.reshapeEquiv_eq_of_rowMajor _ (by
      rw [Shape.rowMajor_val_four, Shape.rowMajor_val_two]
      show ((0 * 1 + 0) * 384 + c.val) * 192 + x.val = c.val * 192 + x.val; omega)
  have h0 : k1_off2 L 0 = i.val := by rw [off2_eq]; exact hi
  have h1 : k1_off2 L 1 = j.val := by rw [off2_eq]; exact hj
  have h2 : k1_off2 L 2 = 0 := by rw [off2_eq]; rfl
  have h3 : k1_off2 L 3 = 0 := by rw [off2_eq]; rfl
  show A ((Rect.unit (s := S32x3x384x192) (k1_off2 L) S1x1x384x192.size (k1_off2_inb L)).emb
      (Shape.reshapeEquiv (s := S1x1x384x192) (s' := S384x192) squeezes_S1x1x384x192_S384x192.numel_eq (ix2 c x))) = _
  rw [hq]
  refine congrArg A (funext fun a => Fin.ext ?_)
  match a with
  | 0 => rw [Rect.emb_apply]; show k1_off2 L 0 + 1 * 0 = i.val; omega
  | 1 => rw [Rect.emb_apply]; show k1_off2 L 1 + 1 * 0 = j.val; omega
  | 2 => rw [Rect.emb_apply]; show k1_off2 L 2 + 1 * c.val = c.val; omega
  | 3 => rw [Rect.emb_apply]; show k1_off2 L 3 + 1 * x.val = x.val; omega

theorem mmRow_apply (B : Vec Ideal S32x2x576 .f32) (L : grid1.Coords) (i : Fin 32) (hi : wid L / 3 = i.val) (r : Fin 2) (q : Fin 576) :
    ((mmRow L).view.read (Elt Ideal) B : Vec Ideal S2x576 .f32) (ix2 r q) = B (ix3 i r q) := by
  have hq : Shape.reshapeEquiv (s := S1x2x576) (s' := S2x576) squeezes_S1x2x576_S2x576.numel_eq (ix2 r q) = ix3 (0 : Fin 1) r q :=
    Shape.reshapeEquiv_eq_of_rowMajor _ (by
      rw [Shape.rowMajor_val_three, Shape.rowMajor_val_two]
      show (0 * 2 + r.val) * 576 + q.val = r.val * 576 + q.val; omega)
  have h0 : k1_off1 L 0 = i.val := by rw [off1_eq]; exact hi
  have h1 : k1_off1 L 1 = 0 := by rw [off1_eq]; rfl
  have h2 : k1_off1 L 2 = 0 := by rw [off1_eq]; rfl
  show B ((Rect.unit (s := S32x2x576) (k1_off1 L) S1x2x576.size (k1_off1_inb L)).emb
      (Shape.reshapeEquiv (s := S1x2x576) (s' := S2x576) squeezes_S1x2x576_S2x576.numel_eq (ix2 r q))) = _
  rw [hq]
  refine congrArg B (funext fun a => Fin.ext ?_)
  match a with
  | 0 => rw [Rect.emb_apply]; show k1_off1 L 0 + 1 * 0 = i.val; omega
  | 1 => rw [Rect.emb_apply]; show k1_off1 L 1 + 1 * r.val = r.val; omega
  | 2 => rw [Rect.emb_apply]; show k1_off1 L 2 + 1 * q.val = q.val; omega

/-- One pixel of a tile's row. -/
theorem tileOut_apply (L : grid1.Coords) (A : Vec Ideal S384x192 .f32) (B : Vec Ideal S2x576 .f32) (x : Fin 192) (q : Fin 576) (hq : q.val = 192 * (wid L % 3) + x.val) :
    tileOut L A B (ix1 x) = relaxedE (fun c => A (ix2 c x)) (brkE (fun c => A (ix2 c x)) (B (ix2 0 q)) (B (ix2 1 q)) 6).1 := by
  have hg : x.val / 16 < k1_t1_loop.trips := by rw [trips1]; omega
  have h := grpOut_apply (⟨x.val % 16, by omega⟩ : Fin 16) L A B ⟨x.val / 16, hg⟩ q (by show q.val = 192 * (wid L % 3) + 16 * (x.val / 16) + x.val % 16; omega)
  have e : col A ⟨x.val / 16, hg⟩ ⟨x.val % 16, by omega⟩ = fun c => A (ix2 c x) := by
    funext c
    unfold col
    have e' : ∀ (k : ℕ) (hk : k < 192), k = x.val → A (ix2 c (⟨k, hk⟩ : Fin 192)) = A (ix2 c x) := by
      intro k hk h'
      subst h'
      rfl
    exact e' _ _ (by show 16 * (x.val / 16) + x.val % 16 = x.val; omega)
  rw [e] at h
  refine Eq.trans ?_ h
  unfold tileOut
  refine congrArg _ (funext fun a => ?_)
  match a with
  | 0 => rfl

theorem outAt_tile (FW : Vec Ideal S32x3x384x192 .f32) (MMc : Vec Ideal S32x2x576 .f32) (old : Vec Ideal S11x3x192 .f32) (i : Fin 11) (j : Fin 3) (x : Fin 192) (h : 3 * i.val + j.val < 32) :
    outAt FW MMc old (ix3 i j x)
      = tileOut (tileAt (3 * i.val + j.val)) ((fwRow (tileAt (3 * i.val + j.val))).view.read (Elt Ideal) FW) ((mmRow (tileAt (3 * i.val + j.val))).view.read (Elt Ideal) MMc) (ix1 x) := by
  unfold outAt
  refine (if_pos h).trans ?_
  refine congrArg _ (funext fun a => ?_)
  match a with
  | 0 => rfl

theorem outAt_result (old : Vec Ideal S11x3x192 .f32) (i : Fin 32) (i' : Fin 11) (j : Fin 3) (x : Fin 192) (h : i.val < 10) (hi : i'.val = i.val) (q : Fin 576) (hq : q.val = 192 * j.val + x.val) :
    outAt (fwAll (flatX X) W) (mmAll (flatX X) W) old (ix3 i' j x) = result (vals X W i q) 6 := by
  have hw : 3 * i'.val + j.val < 32 := by omega
  rw [outAt_tile _ _ _ _ _ _ hw]
  have hL := wid_tileAt _ hw
  generalize tileAt (3 * i'.val + j.val) = L at hL ⊢
  have h0 : wid L / 3 = i.val := by omega
  have h1 : wid L % 3 = j.val := by omega
  rw [tileOut_apply L _ _ x q (by rw [h1]; exact hq), mmRow_apply _ L i h0, mmRow_apply _ L i h0, mmAll_lower, mmAll_upper]
  have e : (fun c => ((fwRow L).view.read (Elt Ideal) (fwAll (flatX X) W) : Vec Ideal S384x192 .f32) (ix2 c x)) = vals X W i q := by
    funext c
    exact (fwRow_apply _ L i j h0 h1 c x).trans (fwAll_apply X W i j c x q hq.symm)
  rw [e]
  rfl

/-! ## The result -/

theorem vals_pix [Cert.On_threshold_in_gap.Facts] (i : Fin 32) (a b : Fin 24) (c : Fin 384) : vals X W i (pix a b) c = gatedArr X W (ix4 i c a b) := by
  rw [gatedArr_apply]
  unfold vals gatedE imgE
  have ha : (⟨(pix a b).val / 24, by omega⟩ : Fin 24) = a := Fin.ext (by show (a.val * 24 + b.val) / 24 = a.val; omega)
  have hb : (⟨(pix a b).val % 24, by omega⟩ : Fin 24) = b := Fin.ext (by show (a.val * 24 + b.val) % 24 = b.val; omega)
  rw [ha, hb]

theorem Vend_apply [Cert.On_threshold_in_gap.Facts] (i : Fin 32) (a b : Fin 24) :
    (Vend m d (ref main_v8) : Vec Ideal S32x24x24 .f32) (ix3 i a b) = result (fun c => gatedArr (m (xLoc d)) (m (wLoc d)) (ix4 i c a b)) (halvings i) := by
  rw [Vend_out, Vtopk_top, Vtopk_o, X0_eq, ← funext (vals_pix (m (xLoc d)) (m (wLoc d)) i a b)]
  unfold halvings
  by_cases h : i.val < 10
  · rw [if_pos h, joined_early _ _ i a b h]
    exact outAt_result _ _ _ i _ _ _ h rfl _ (by show (pix a b).val = 192 * ((pix a b).val / 192) + (pix a b).val % 192; omega)
  · rw [if_neg h, joined_late _ _ i a b h]
    exact topAll_apply _ _ _ _ i (by show i.val = i.val - 10 + 10; omega)

end Cert.Proof.Value

end
-- ==== Proof.Excess.lean ====
/-
  The exact value of a finite pixel: the mean of its 192 largest channels plus the 192nd part of what the others exceed
  the last threshold by, which is the largest grid point not above the 192nd largest channel.
-/
module

public import proofs.«01_k».proof.Proof.Pixel

@[expose] public section

noncomputable section

namespace Cert.Proof.Bisect

open Finset

variable (v : Fin 384 → ℝ) (σ : Equiv.Perm (Fin 384)) (s : Fin 384 → ℝ) (hs : ∀ i, s i = v (σ i)) (anti : ∀ i j, i ≤ j → s j ≤ s i)
include hs anti

/-- The lower end of the last bracket is a grid point, not above the 192nd largest value, and no such grid point is larger. -/
theorem brk_largest (lo hi : ℝ) (hlo : 192 ≤ count v lo) (hhi : count v hi < 192) (n : ℕ) :
    (brk v lo hi n).1 ≤ s 191 ∧ (∃ m : ℕ, m < 2 ^ n ∧ (brk v lo hi n).1 = lo + m * ((hi - lo) / 2 ^ n))
      ∧ ∀ j : ℕ, lo + j * ((hi - lo) / 2 ^ n) ≤ s 191 → lo + j * ((hi - lo) / 2 ^ n) ≤ (brk v lo hi n).1 := by
  obtain ⟨h1, h2, h3, m, h4⟩ := brk_invariant v lo hi hlo hhi n
  have ht := (le_count_iff v σ s hs anti _).mp h1
  have hu : s 191 < (brk v lo hi n).2 := not_le.mp fun h => absurd ((le_count_iff v σ s hs anti _).mpr h) (not_le.mpr h2)
  have hh : s 191 < hi := not_le.mp fun h => absurd ((le_count_iff v σ s hs anti _).mpr h) (not_le.mpr hhi)
  have hw : (2 ^ n : ℝ) * ((hi - lo) / 2 ^ n) = hi - lo := by field_simp
  set d := (hi - lo) / 2 ^ n with hd
  have hdpos : 0 < d := by linarith
  refine ⟨ht, ⟨m, ?_, h4⟩, fun j hj => ?_⟩
  · have : (m : ℝ) * d < 2 ^ n * d := by linarith
    have := lt_of_mul_lt_mul_right this hdpos.le
    exact_mod_cast this
  · have hjm : (j : ℝ) < ((m + 1 : ℕ) : ℝ) := by
      have : (j : ℝ) * d < (m + 1) * d := by linarith
      push_cast
      exact lt_of_mul_lt_mul_right this hdpos.le
    have := Nat.cast_lt.mp hjm
    have : (j : ℝ) * d ≤ m * d := mul_le_mul_of_nonneg_right (Nat.cast_le.mpr (by omega)) hdpos.le
    linarith

end Cert.Proof.Bisect

namespace Cert.Proof.Pixel

open Finset Idealize.ShloMosaic Cert.Proof.Bisect

open Classical in
/-- The largest of 129 grid points from `a` on that is not above `z`. -/
def lastE (a d z : EReal) : EReal := univ.fold max ⊥ fun j : Fin 129 => if a + ((j.val : ℝ) : EReal) * d ≤ z then a + ((j.val : ℝ) : EReal) * d else ⊥

theorem lastE_eq (a d z t : EReal) (m : Fin 129) (hm : t = a + ((m.val : ℝ) : EReal) * d) (ht : t ≤ z)
    (h : ∀ j : Fin 129, a + ((j.val : ℝ) : EReal) * d ≤ z → a + ((j.val : ℝ) : EReal) * d ≤ t) : lastE a d z = t := by
  classical
  refine le_antisymm ?_ ?_
  · refine Finset.fold_max_le _ |>.mpr ⟨bot_le, fun j _ => ?_⟩
    split
    · rename_i hj; exact h j hj
    · exact bot_le
  · refine Finset.le_fold_max _ |>.mpr (Or.inr ⟨m, mem_univ _, ?_⟩)
    rw [if_pos (hm ▸ ht), hm]

section finite

variable (v : Fin 384 → EReal) (σ : Equiv.Perm (Fin 384)) (s : Fin 384 → EReal) (hs : ∀ i, s i = v (σ i)) (anti : ∀ i j, i ≤ j → s j ≤ s i)
  (hbot : ⊥ < s 383) (htop : s 0 < ⊤)
include hs anti hbot htop

theorem result_excess (n : ℕ) (hn : n ≤ 7) :
    result v n = Ideal.div (∑ i : Fin 192, s (Fin.castAdd 192 i)) ((192 : ℝ) : EReal)
      + Ideal.div (∑ i : Fin 192, max (s (Fin.natAdd 192 i) - lastE (lower (s 383)) (Ideal.div (upper (s 0) - lower (s 383)) ((2 ^ n : ℝ) : EReal)) (s 191)) 0) ((192 : ℝ) : EReal) := by
  obtain ⟨r, q, lo, hi, hq, hqr, hqa, hlo, hhi, hcl, hch, hres⟩ := result_real v σ s hs anti hbot htop n
  obtain ⟨ht, ⟨m, hm, hm'⟩, hmax⟩ := brk_largest r σ q hqr hqa lo hi hcl hch n
  have hp : (2 : ℕ) ^ n ≤ 2 ^ 7 := Nat.pow_le_pow_right (by norm_num) hn
  have e : ∀ j : ℕ, (lo : EReal) + ((j : ℝ) : EReal) * Ideal.div (((hi - lo : ℝ)) : EReal) ((2 ^ n : ℝ) : EReal) = ((lo + j * ((hi - lo) / 2 ^ n) : ℝ) : EReal) := fun j => by
    rw [div_coe _ _ (by positivity), ← EReal.coe_mul, ← EReal.coe_add]
  have hl : lastE (lower (s 383)) (Ideal.div (upper (s 0) - lower (s 383)) ((2 ^ n : ℝ) : EReal)) (s 191) = (((brk r lo hi n).1 : ℝ) : EReal) := by
    rw [hlo, hhi, ← EReal.coe_sub, hq]
    refine lastE_eq _ _ _ _ ⟨m, by omega⟩ ?_ (EReal.coe_le_coe_iff.mpr ht) fun j hj => ?_
    · rw [e, hm']
    · rw [e, EReal.coe_le_coe_iff] at hj ⊢
      exact hmax j.val hj
  rw [hl, hres, sum_top v σ s hs anti hbot htop q hq, relaxed_eq r σ q hqr hqa _ ht, EReal.coe_add]
  refine congrArg _ ?_
  rw [← div_coe _ _ (by norm_num), coe_sum]
  refine congrArg (Ideal.div · _) (sum_congr rfl fun i _ => ?_)
  rw [hq, coe_max, EReal.coe_sub, EReal.coe_zero]

end finite

end Cert.Proof.Pixel

end
-- ==== Proof.ExcessValue.lean ====
/-
  The second reference's arrays: the mean of the top half plus the excess of the other half, read at a pixel, and the
  mask of finite pixels.
-/
module

public import proofs.«01_k».proof.Defs
public import proofs.«01_k».proof.Proof.MaskValue
public import proofs.«01_k».proof.Proof.Excess
public import proofs.«01_k».proof.Proof.Gen.ExcessIdeal
public import proofs.«01_k».proof.Proof.Gen.ExcessIdeal.Run

@[expose] public section

set_option maxRecDepth 16384

noncomputable section

namespace Cert.Proof.Value

open Idealize.ShloMosaic Idealize.SL.Sem Cert.Proof.Pixel

theorem finiteFacts : Cert.On_finite.Facts := by constructor <;> decide

section

open Cert.On_finite Cert.On_finite.Facts

variable [Cert.On_finite.Facts] [Cert.On_threshold_in_gap.Facts]

/-- The mask of finite pixels as a function of the sorted channels. -/
def finiteArr (S : FVec Ideal S32x384x24x24 .f32) : IVec S32x24x24 1 :=
  let main_v32 : FVec Ideal S32x1x24x24 .f32 := extractStridedSlice S32x1x24x24 ![0, 0, 0, 0] S slices_S32x384x24x24_S32x1x24x24_0_0_0_0
  let main_v33 : FVec Ideal S32x24x24 .f32 := shapeCast S32x24x24 main_v32 shapeCasts_S32x1x24x24_S32x24x24
  let main_v34 : FVec Ideal S32x1x24x24 .f32 := extractStridedSlice S32x1x24x24 ![0, 383, 0, 0] S slices_S32x384x24x24_S32x1x24x24_0_383_0_0
  let main_v35 : FVec Ideal S32x24x24 .f32 := shapeCast S32x24x24 main_v34 shapeCasts_S32x1x24x24_S32x24x24
  andi (cmpf .ogt main_v35 (broadcastInDim S32x24x24 ![] bcast_S_S32x24x24 (constant S_ .f32 0xFF800000#32 : FVec Ideal S_ .f32)))
    (cmpf .olt main_v33 (broadcastInDim S32x24x24 ![] bcast_S_S32x24x24 (constant S_ .f32 0x7F800000#32 : FVec Ideal S_ .f32)))

theorem finite_eq (X : FVec Ideal S32x384x24x24 .f32) (W : FVec Ideal S3 .f32) : fn (F := Ideal) X W = finiteArr (sortedArr X W) := rfl

theorem finite_apply (S : FVec Ideal S32x384x24x24 .f32) (i : Fin 32) (a b : Fin 24) (h : finiteArr S (ix3 i a b) = 1#1) :
    ⊥ < S (ix4 i 383 a b) ∧ S (ix4 i 0 a b) < ⊤ := by
  unfold finiteArr at h
  revert h
  pointwise []
  rw [andi_one, ofBool_one, ofBool_one, ofBits_top, ofBits_bot]
  exact id

end

section

open Cert.ExcessIdeal Cert.ExcessIdeal.Facts₀ Cert.ExcessIdeal.Facts

variable [Cert.ExcessIdeal.Facts]

/-- The ends of the brackets, the distance between thresholds and the largest threshold not above the 192nd largest channel. -/
def startArr (S : FVec Ideal S32x384x24x24 .f32) : FVec Ideal S32x24x24 .f32 :=
  let v35 : FVec Ideal S32x24x24 .f32 := shapeCast S32x24x24 (extractStridedSlice S32x1x24x24 ![0, 383, 0, 0] S slices_S32x384x24x24_S32x1x24x24_0_383_0_0) shapeCasts_S32x1x24x24_S32x24x24
  subf v35 (addf (mulf (Host.absf v35) (broadcastInDim S32x24x24 ![] bcast_S_S32x24x24 (constant S_ .f32 0x3C23D70A#32))) (broadcastInDim S32x24x24 ![] bcast_S_S32x24x24 (constant S_ .f32 0x0DA24260#32)))
def endArr (S : FVec Ideal S32x384x24x24 .f32) : FVec Ideal S32x24x24 .f32 :=
  let v33 : FVec Ideal S32x24x24 .f32 := shapeCast S32x24x24 (extractStridedSlice S32x1x24x24 ![0, 0, 0, 0] S slices_S32x384x24x24_S32x1x24x24_0_0_0_0) shapeCasts_S32x1x24x24_S32x24x24
  addf v33 (addf (mulf (Host.absf v33) (broadcastInDim S32x24x24 ![] bcast_S_S32x24x24 (constant S_ .f32 0x3C23D70A#32))) (broadcastInDim S32x24x24 ![] bcast_S_S32x24x24 (constant S_ .f32 0x0DA24260#32)))
def stepArr (S : FVec Ideal S32x384x24x24 .f32) : FVec Ideal S32x24x24 .f32 :=
  Host.divf (subf (endArr S) (startArr S)) (broadcastInDim S32x24x24 ![0, 1, 2] bcast_S32x1x1_S32x24x24_0_1_2 (id (broadcastInDim S32x1x1 ![0] bcast_S32_S32x1x1_0
    (select (cmpi .slt (iotaInDim S32 32 0) (broadcastInDim S32 ![] bcast_S_S32 (constantI S_ 32 10#32)))
      (broadcastInDim S32 ![] bcast_S_S32 (constant S_ .f32 0x42800000#32)) (broadcastInDim S32 ![] bcast_S_S32 (constant S_ .f32 0x43000000#32))))))
def pointsArr (S : FVec Ideal S32x384x24x24 .f32) : FVec Ideal S32x129x24x24 .f32 :=
  addf (broadcastInDim S32x129x24x24 ![0, 1, 2, 3] bcast_S32x1x24x24_S32x129x24x24_0_1_2_3 (broadcastInDim S32x1x24x24 ![0, 2, 3] bcast_S32x24x24_S32x1x24x24_0_2_3 (startArr S)))
    (mulf (broadcastInDim S32x129x24x24 ![0, 1, 2, 3] bcast_S1x129x1x1_S32x129x24x24_0_1_2_3 (broadcastInDim S1x129x1x1 ![1] bcast_S129_S1x129x1x1_1 (sitofp .f32 (iotaInDim S129 32 0))))
      (broadcastInDim S32x129x24x24 ![0, 1, 2, 3] bcast_S32x1x24x24_S32x129x24x24_0_1_2_3 (broadcastInDim S32x1x24x24 ![0, 2, 3] bcast_S32x24x24_S32x1x24x24_0_2_3 (stepArr S))))
def lastArr (S : FVec Ideal S32x384x24x24 .f32) : FVec Ideal S32x24x24 .f32 :=
  Host.reduce FloatOps.maximumf (select (cmpf .ole (pointsArr S) (broadcastInDim S32x129x24x24 ![0, 1, 2, 3] bcast_S32x1x24x24_S32x129x24x24_0_1_2_3 (extractStridedSlice S32x1x24x24 ![0, 191, 0, 0] S slices_S32x384x24x24_S32x1x24x24_0_191_0_0)))
      (pointsArr S) (broadcastInDim S32x129x24x24 ![] bcast_S_S32x129x24x24 (id (constant S_ .f32 0xFF800000#32))))
    (constant S_ .f32 0xFF800000#32) reducesTo_S32x129x24x24_S32x24x24_d1 h_S_

/-- The second reference's result as a function of the sorted channels. -/
def excessArr (S : FVec Ideal S32x384x24x24 .f32) : FVec Ideal S32x24x24 .f32 :=
  addf (Host.divf (Host.reduceAdd (extractStridedSlice S32x192x24x24 ![0, 0, 0, 0] S slices_S32x384x24x24_S32x192x24x24_0_0_0_0) (constant S_ .f32 0x00000000#32) reducesTo_S32x192x24x24_S32x24x24_d1 h_S_)
      (broadcastInDim S32x24x24 ![] bcast_S_S32x24x24 (constant S_ .f32 0x43400000#32)))
    (Host.divf (Host.reduceAdd (maximumf (subf (extractStridedSlice S32x192x24x24 ![0, 192, 0, 0] S slices_S32x384x24x24_S32x192x24x24_0_192_0_0)
        (broadcastInDim S32x192x24x24 ![0, 1, 2, 3] bcast_S32x1x24x24_S32x192x24x24_0_1_2_3 (broadcastInDim S32x1x24x24 ![0, 2, 3] bcast_S32x24x24_S32x1x24x24_0_2_3 (lastArr S))))
        (broadcastInDim S32x192x24x24 ![] bcast_S_S32x192x24x24 (constant S_ .f32 0x00000000#32))) (constant S_ .f32 0x00000000#32) reducesTo_S32x192x24x24_S32x24x24_d1 h_S_)
      (broadcastInDim S32x24x24 ![] bcast_S_S32x24x24 (constant S_ .f32 0x43400000#32)))

theorem start_apply (S : FVec Ideal S32x384x24x24 .f32) (i : Fin 32) (a b : Fin 24) : startArr S (ix3 i a b) = lower (S (ix4 i 383 a b)) := by
  unfold startArr
  pointwise []
  rfl
theorem end_apply (S : FVec Ideal S32x384x24x24 .f32) (i : Fin 32) (a b : Fin 24) : endArr S (ix3 i a b) = upper (S (ix4 i 0 a b)) := by
  unfold endArr
  pointwise []
  rfl
theorem step_apply (S : FVec Ideal S32x384x24x24 .f32) (i : Fin 32) (a b : Fin 24) :
    stepArr S (ix3 i a b) = Ideal.div (upper (S (ix4 i 0 a b)) - lower (S (ix4 i 383 a b))) ((2 ^ halvings i : ℝ) : EReal) := by
  unfold stepArr
  pointwise []
  simp only [id]
  pointwise []
  rw [parts_eq, start_apply, end_apply]
theorem points_apply (S : FVec Ideal S32x384x24x24 .f32) (i : Fin 32) (j : Fin 129) (a b : Fin 24) :
    pointsArr S (ix4 i j a b) = lower (S (ix4 i 383 a b)) + ((j.val : ℝ) : EReal) * Ideal.div (upper (S (ix4 i 0 a b)) - lower (S (ix4 i 383 a b))) ((2 ^ halvings i : ℝ) : EReal) := by
  unfold pointsArr
  pointwise []
  rw [position, start_apply, step_apply]
theorem last_apply (S : FVec Ideal S32x384x24x24 .f32) (i : Fin 32) (a b : Fin 24) :
    lastArr S (ix3 i a b) = lastE (lower (S (ix4 i 383 a b))) (Ideal.div (upper (S (ix4 i 0 a b)) - lower (S (ix4 i 383 a b))) ((2 ^ halvings i : ℝ) : EReal)) (S (ix4 i 191 a b)) := by
  unfold lastArr
  pointwise []
  simp only [id]
  pointwise []
  simp only [points_apply]
  rw [ofBits_bot]
  unfold lastE
  congr!

theorem excess_apply (S : FVec Ideal S32x384x24x24 .f32) (i : Fin 32) (a b : Fin 24) :
    excessArr S (ix3 i a b) = Ideal.div (∑ c : Fin 192, S (ix4 i (Fin.castAdd 192 c) a b)) ((192 : ℝ) : EReal)
      + Ideal.div (∑ c : Fin 192, max (S (ix4 i (Fin.natAdd 192 c) a b) - lastE (lower (S (ix4 i 383 a b))) (Ideal.div (upper (S (ix4 i 0 a b)) - lower (S (ix4 i 383 a b))) ((2 ^ halvings i : ℝ) : EReal)) (S (ix4 i 191 a b))) 0) ((192 : ℝ) : EReal) := by
  unfold excessArr
  pointwise []
  rw [ofBits_192]
  simp only [last_apply]
  rfl

end

/-- Every run of the second reference ends with its result at `excessArr` of the sorted channels and its arguments as they were. -/
theorem excess_run [Cert.On_threshold_in_gap.Facts] [Cert.ExcessIdeal.Facts]
    (m : (ℓ : Loc Cert.ExcessIdeal.nD Cert.ExcessIdeal.τ Cert.ExcessIdeal.sig) → Buf (Elt Ideal) ℓ) (ρ : Dev Cert.ExcessIdeal.nD → PrngReg) :
    θ_run (Cert.ExcessIdeal.defs (F := Ideal)) (onTc (τ := Cert.ExcessIdeal.τ) (Cert.ExcessIdeal.main (F := Ideal))) ⟨m, fun _ => 0, ρ⟩ fun r => ∀ c : Dev Cert.ExcessIdeal.nD,
      r.2.mem ((c.tc : Thread Cert.ExcessIdeal.nD Cert.ExcessIdeal.τ).loc Cert.ExcessIdeal.main_v89)
          = excessArr (sortedArr (m ((c.tc : Thread Cert.ExcessIdeal.nD Cert.ExcessIdeal.τ).loc Cert.ExcessIdeal.main_arg0)) (m ((c.tc : Thread Cert.ExcessIdeal.nD Cert.ExcessIdeal.τ).loc Cert.ExcessIdeal.main_arg1)))
      ∧ r.2.mem ((c.tc : Thread Cert.ExcessIdeal.nD Cert.ExcessIdeal.τ).loc Cert.ExcessIdeal.main_arg0) = m ((c.tc : Thread Cert.ExcessIdeal.nD Cert.ExcessIdeal.τ).loc Cert.ExcessIdeal.main_arg0)
      ∧ r.2.mem ((c.tc : Thread Cert.ExcessIdeal.nD Cert.ExcessIdeal.τ).loc Cert.ExcessIdeal.main_arg1) = m ((c.tc : Thread Cert.ExcessIdeal.nD Cert.ExcessIdeal.τ).loc Cert.ExcessIdeal.main_arg1) :=
  (θ_run Cert.ExcessIdeal.defs _ _).mono (fun _ h c => ⟨(h c).1.trans rfl, (h c).2⟩) (Cert.ExcessIdeal.Value.run m ρ)

end Cert.Proof.Value

end
-- ==== Proof.Claims.lean ====
/-
  The claims about the value: where a threshold of the search lies in the gap the result is the reference's; at every
  pixel of finite values it is at least the reference's and at most one distance between thresholds more, and is exactly
  the reference's plus the excess that the second reference writes out.
-/
module

public import proofs.«01_k».proof.Defs
public import proofs.«01_k».proof.Proof.ArrayValue
public import proofs.«01_k».proof.Proof.ExcessValue
public import proofs.«01_k».proof.Proof.Gen.ReferenceIdeal

@[expose] public section

set_option maxRecDepth 16384

noncomputable section

namespace Cert.Proof

open Idealize.ShloMosaic Idealize.SL.Sem
open Cert.Proof.Pixel Cert.Proof.Value

section pixels

variable [Cert.On_threshold_in_gap.Facts] [Cert.Post_within_one_step.Facts]
variable (X : FVec Ideal Cert.KernelIdeal.S32x384x24x24 .f32) (W : FVec Ideal Cert.KernelIdeal.S3 .f32)

/-- The program's result as one array. -/
def outArr : FVec Ideal Cert.KernelIdeal.S32x24x24 .f32 := fun y =>
  result (fun c => gatedArr X W (ix4 (y 0 : Fin 32) c (y 1 : Fin 24) (y 2 : Fin 24))) (halvings (y 0))

theorem every (y : Cert.KernelIdeal.S32x24x24.Idx) : y = ix3 (y 0 : Fin 32) (y 1 : Fin 24) (y 2 : Fin 24) := by
  funext a
  match a with
  | 0 => rfl
  | 1 => rfl
  | 2 => rfl

/-- Where the mask is set the result is the reference's. -/
theorem out_exact (i : Fin 32) (a b : Fin 24) (h : Cert.On_threshold_in_gap.fn (F := Ideal) X W (ix3 i a b) = 1#1) :
    refArr (sortedArr X W) (ix3 i a b) = outArr X W (ix3 i a b) := by
  rw [mask_eq] at h
  obtain ⟨⟨hbot, htop⟩, j, hj, hj'⟩ := mask_apply _ i a b h
  obtain ⟨σ, hs, anti⟩ := sortedArr_spec X W i a b
  rw [ref_apply]
  exact (result_exact (fun c => gatedArr X W (ix4 i c a b)) σ (fun c => sortedArr X W (ix4 i c a b)) hs anti hbot htop (halvings i) j hj hj').symm

/-- At every pixel of finite values the result is within the bounds. -/
theorem out_post : Cert.Post_within_one_step.fn (F := Ideal) X W (outArr X W) = fun _ => 1#1 := by
  rw [post_eq]
  funext y
  rw [every y]
  refine post_apply _ _ _ _ _ fun hbot htop => ?_
  obtain ⟨σ, hs, anti⟩ := sortedArr_spec X W (y 0) (y 1) (y 2)
  exact result_bounds (fun c => gatedArr X W (ix4 (y 0 : Fin 32) c (y 1 : Fin 24) (y 2 : Fin 24))) σ (fun c => sortedArr X W (ix4 (y 0 : Fin 32) c (y 1 : Fin 24) (y 2 : Fin 24))) hs anti hbot htop (halvings (y 0))

theorem halvings_le (i : Fin 32) : halvings i ≤ 7 := by unfold halvings; split <;> omega

/-- At every pixel of finite values the result is the second reference's. -/
theorem out_excess [Cert.On_finite.Facts] [Cert.ExcessIdeal.Facts] (i : Fin 32) (a b : Fin 24) (h : Cert.On_finite.fn (F := Ideal) X W (ix3 i a b) = 1#1) :
    excessArr (sortedArr X W) (ix3 i a b) = outArr X W (ix3 i a b) := by
  rw [finite_eq] at h
  obtain ⟨hbot, htop⟩ := finite_apply _ i a b h
  obtain ⟨σ, hs, anti⟩ := sortedArr_spec X W i a b
  rw [excess_apply]
  exact (result_excess (fun c => gatedArr X W (ix4 i c a b)) σ (fun c => sortedArr X W (ix4 i c a b)) hs anti hbot htop (halvings i) (halvings_le i)).symm

theorem end_out (m : (ℓ : Loc Cert.KernelIdeal.nD Cert.KernelIdeal.τ Cert.KernelIdeal.sig) → Buf (Elt Ideal) ℓ) (d : Dev Cert.KernelIdeal.nD) :
    TopK.Vend m d (TopK.ref Cert.KernelIdeal.main_v8) = outArr (m (TopK.xLoc d)) (m (TopK.wLoc d)) := by
  funext (y : Cert.KernelIdeal.S32x24x24.Idx)
  rw [every y]
  exact Vend_apply m d (y 0) (y 1) (y 2)

end pixels

theorem holds : Cert.holds_KernelIdeal_within_one_step (hKernelIdeal := Cert.KernelIdeal.Gen.facts) (hPost_within_one_step := postFacts) := fun m ρ _ => by
  haveI := maskFacts
  haveI := postFacts
  refine (θ_run _ _ _).mono (fun r h c => ⟨(h.1 c _ (TopK.x_fin c)).trans (TopK.Vend_x m c), (h.1 c _ (TopK.w_fin c)).trans (TopK.Vend_w m c), ?_⟩)
    (TopK.run_main (F := Ideal) m ρ)
  have e := (h.1 c _ (TopK.o_fin c)).trans (end_out m c)
  exact (congrArg (Cert.Post_within_one_step.fn (F := Ideal) (m (TopK.xLoc c)) (m (TopK.wLoc c))) e).trans (out_post _ _)

theorem algebraic : Cert.algebraic_KernelIdeal_ReferenceIdeal_on_threshold_in_gap (hKernelIdeal := Cert.KernelIdeal.Gen.facts)
    (hReferenceIdeal := Cert.ReferenceIdeal.Gen.facts) (hOn_threshold_in_gap := maskFacts) := fun m ρ m' ρ' _ hm => by
  haveI := maskFacts
  haveI := postFacts
  haveI := Cert.ReferenceIdeal.Gen.facts
  refine ⟨fun c => outArr (m (TopK.xLoc c)) (m (TopK.wLoc c)), ?_, ?_⟩
  · refine (θ_run _ _ _).mono (fun r h c => ⟨fun i _ => ?_, (h.1 c _ (TopK.x_fin c)).trans (TopK.Vend_x m c), (h.1 c _ (TopK.w_fin c)).trans (TopK.Vend_w m c)⟩)
      (TopK.run_main (F := Ideal) m ρ)
    exact congrFun ((h.1 c _ (TopK.o_fin c)).trans (end_out m c)) i
  · refine (θ_run Cert.ReferenceIdeal.defs _ _).mono (fun r h c => ⟨fun i hi => ?_, (h c).2⟩) (ref_run m' ρ')
    have e := (h c).1
    rw [(hm c).1, (hm c).2] at e
    refine (congrFun e i).trans ?_
    have hi' := every i
    rw [hi'] at hi ⊢
    exact out_exact _ _ _ _ _ hi

theorem algebraic_excess : Cert.algebraic_KernelIdeal_ExcessIdeal_on_finite (hKernelIdeal := Cert.KernelIdeal.Gen.facts)
    (hExcessIdeal := Cert.ExcessIdeal.Gen.facts) (hOn_finite := finiteFacts) := fun m ρ m' ρ' _ hm => by
  haveI := maskFacts
  haveI := postFacts
  haveI := finiteFacts
  haveI := Cert.ExcessIdeal.Gen.facts
  refine ⟨fun c => outArr (m (TopK.xLoc c)) (m (TopK.wLoc c)), ?_, ?_⟩
  · refine (θ_run _ _ _).mono (fun r h c => ⟨fun i _ => ?_, (h.1 c _ (TopK.x_fin c)).trans (TopK.Vend_x m c), (h.1 c _ (TopK.w_fin c)).trans (TopK.Vend_w m c)⟩)
      (TopK.run_main (F := Ideal) m ρ)
    exact congrFun ((h.1 c _ (TopK.o_fin c)).trans (end_out m c)) i
  · refine (θ_run Cert.ExcessIdeal.defs _ _).mono (fun r h c => ⟨fun i hi => ?_, (h c).2⟩) (excess_run m' ρ')
    have e := (h c).1
    rw [(hm c).1, (hm c).2] at e
    refine (congrFun e i).trans ?_
    have hi' := every i
    rw [hi'] at hi ⊢
    exact out_excess _ _ _ _ _ hi

theorem frame_ei : Cert.quiescent_ExcessIdeal (hExcessIdeal := Cert.ExcessIdeal.Gen.facts) := fun m ρ _ =>
  (θ_run Cert.ExcessIdeal.defs _ _).mono (fun r h => ⟨fun c => (h c).2, Idealize.ShloMosaic.sem_eq_zero_of_no_sems (by decide) r.2⟩)
    (Cert.ExcessIdeal.Value.run (F := Ideal) m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ExcessIdeal
public import proofs.«01_k».proof.Proof.Gen.ExcessIdeal.Run
public import proofs.«01_k».proof.Proof.Frames
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.ExcessIdeal.Gen.facts,
  Value.postFacts, Value.maskFacts, Value.finiteFacts, frame_k, frame_ki, frame_ri, frame_ei, preserves, algebraic, algebraic_excess, holds⟩

end Cert.Proof

end
